-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v44)) (v1 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![256, 1024]⟩ ⟨2, ![4096, 1024]⟩ 0 16 c v0
          ∧ r.2.mem ((c.tc : Thread Cert.KernelIdeal.nD Cert.KernelIdeal.τ).loc Cert.KernelIdeal.main_v1_1) = Layout.block ⟨2, ![256, 1024]⟩ ⟨2, ![4096, 1024]⟩ 0 16 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_v45) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S256x1024 : Shape := ⟨2, ![256, 1024]⟩
abbrev S4096x2048 : Shape := ⟨2, ![4096, 2048]⟩
abbrev S2x256x1024 : Shape := ⟨3, ![2, 256, 1024]⟩
abbrev S16x8x128 : Shape := ⟨3, ![16, 8, 128]⟩
abbrev S2x2 : Shape := ⟨2, ![2, 2]⟩
abbrev S16 : Shape := ⟨1, ![16]⟩
abbrev S16x2 : Shape := ⟨2, ![16, 2]⟩
abbrev S_ : Shape := ⟨0, ![]⟩
abbrev S256x256 : Shape := ⟨2, ![256, 256]⟩
abbrev S1x1 : Shape := ⟨2, ![1, 1]⟩
abbrev S1x128x1024 : Shape := ⟨3, ![1, 128, 1024]⟩
abbrev S128x1024 : Shape := ⟨2, ![128, 1024]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x1024, .f32⟩
  | .hbm, ⟨3, _⟩ => ⟨S256x1024, .f32⟩
  | .local _ .vmem, ⟨0, _⟩ => ⟨S4096x256, .f32⟩
  | .local _ .vmem, ⟨1, _⟩ => ⟨S256x2048, .f32⟩
  | .local _ .vmem, ⟨2, _⟩ => ⟨S4096x2048, .f32⟩
  | .local _ .vmem, ⟨3, _⟩ => ⟨S2x256x1024, .f32⟩
  | .local _ .vmem, ⟨4, _⟩ => ⟨S2x256x1024, .f32⟩
  | .local _ .vmem, ⟨5, _⟩ => ⟨S256x1024, .i8⟩
  | .local _ .vmem, ⟨6, _⟩ => ⟨S256x1024, .i8⟩
  | .local _ .vmem, ⟨7, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_53 : BitVec 32 := 1#32
  let v68 : BitVec 32 := Scalar.muli v65 c1_i32_53
  let v69 : BitVec 32 := Scalar.addi c0_i32_54 v68
  v69.toNat
def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_56 : BitVec 32 := 1#32
  let v70 : BitVec 32 := Scalar.muli v66 c1_i32_56
  let v71 : BitVec 32 := Scalar.addi c0_i32_57 v70
  v71.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c256_i32 : BitVec 32 := 256#32
  let v72 : BitVec 32 := Scalar.muli v64 c256_i32
  let v73 : Index := Scalar.indexCast v72
  let c0 : Index := 0#32
  ![v73.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c256_i32_61 : BitVec 32 := 256#32
  let v79 : BitVec 32 := Scalar.muli v64 c256_i32_61
  let v80 : Index := Scalar.indexCast v79
  let c0_62 : Index := 0#32
  ![v80.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c256_i32_67 : BitVec 32 := 256#32
  let v91 : BitVec 32 := Scalar.muli v64 c256_i32_67
  let v92 : Index := Scalar.indexCast v91
  let c1024_68 : Index := 1024#32
  ![v92.toNat, 1024]
def k0_off4 (d0 : Dev nD) (c0_i32_69 : BitVec 32) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v96 : BitVec 32 := Scalar.subi v64 c0_i32_69
  let c16_i32_70 : BitVec 32 := 16#32
  let c0_i32_71 : BitVec 32 := 0#32
  let v97 : BitVec 1 := Scalar.cmpi .eq c16_i32_70 c0_i32_71
  let c1_i32_72 : BitVec 32 := 1#32
  let v98 : BitVec 32 := Scalar.select v97 c1_i32_72 c16_i32_70
  let v99 : BitVec 32 := Scalar.remsi v96 v98
  let c0_i32_74 : BitVec 32 := 0#32
  let v101 : BitVec 1 := Scalar.cmpi .slt v99 c0_i32_74
  let c0_i32_75 : BitVec 32 := 0#32
  let v102 : BitVec 1 := Scalar.cmpi .slt v98 c0_i32_75
  let v103 : BitVec 1 := Scalar.xori v101 v102
  let c0_i32_73 : BitVec 32 := 0#32
  let v100 : BitVec 1 := Scalar.cmpi .ne v99 c0_i32_73
  let v104 : BitVec 1 := Scalar.andi v103 v100
  let v105 : BitVec 32 := Scalar.addi v99 v98
  let v106 : BitVec 32 := Scalar.select v104 v105 v99
  let c256_i32_83 : BitVec 32 := 256#32
  let v118 : BitVec 32 := Scalar.muli v106 c256_i32_83
  let v119 : BitVec 32 := Scalar.addi v118 c0_i32_84
  let c0_i32_96 : BitVec 32 := 0#32
  ![v119.toNat, 0]
def k0_dev3 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_92 : BitVec 32 := 1#32
  let v122 : BitVec 32 := Scalar.muli v66 c1_i32_92
  let v123 : BitVec 32 := Scalar.addi c0_i32_93 v122
  v123.toNat
def k0_off5 (d0 : Dev nD) (c0_i32_76 : BitVec 32) (c0_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v107 : BitVec 32 := Scalar.addi v64 c0_i32_76
  let c16_i32_77 : BitVec 32 := 16#32
  let c0_i32_78 : BitVec 32 := 0#32
  let v108 : BitVec 1 := Scalar.cmpi .eq c16_i32_77 c0_i32_78
  let c1_i32_79 : BitVec 32 := 1#32
  let v109 : BitVec 32 := Scalar.select v108 c1_i32_79 c16_i32_77
  let v110 : BitVec 32 := Scalar.remsi v107 v109
  let c0_i32_81 : BitVec 32 := 0#32
  let v112 : BitVec 1 := Scalar.cmpi .slt v110 c0_i32_81
  let c0_i32_82 : BitVec 32 := 0#32
  let v113 : BitVec 1 := Scalar.cmpi .slt v109 c0_i32_82
  let v114 : BitVec 1 := Scalar.xori v112 v113
  let c0_i32_80 : BitVec 32 := 0#32
  let v111 : BitVec 1 := Scalar.cmpi .ne v110 c0_i32_80
  let v115 : BitVec 1 := Scalar.andi v114 v111
  let v116 : BitVec 32 := Scalar.addi v110 v109
  let v117 : BitVec 32 := Scalar.select v115 v116 v110
  let c256_i32_85 : BitVec 32 := 256#32
  let v120 : BitVec 32 := Scalar.muli v117 c256_i32_85
  let v121 : BitVec 32 := Scalar.addi v120 c0_i32_86
  let c1024_i32 : BitVec 32 := 1024#32
  ![v121.toNat, 1024]
def k0_dev4 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_102 : BitVec 32 := 1#32
  let v131 : BitVec 32 := Scalar.muli v65 c1_i32_102
  let v132 : BitVec 32 := Scalar.addi c0_i32_103 v131
  v132.toNat
def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_128 : BitVec 32 := 1#32
  let v166 : BitVec 32 := Scalar.muli v66 c1_i32_128
  let v167 : BitVec 32 := Scalar.addi c0_i32_129 v166
  v167.toNat
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_138 : BitVec 32 := 1#32
  let v175 : BitVec 32 := Scalar.muli v65 c1_i32_138
  let v176 : BitVec 32 := Scalar.addi c0_i32_139 v175
  v176.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_143 : BitVec 32 := 1#32
  let v184 : BitVec 32 := Scalar.subi v64 c1_i32_143
  let c16_i32_144 : BitVec 32 := 16#32
  let c0_i32_145 : BitVec 32 := 0#32
  let v185 : BitVec 1 := Scalar.cmpi .eq c16_i32_144 c0_i32_145
  let c1_i32_146 : BitVec 32 := 1#32
  let v186 : BitVec 32 := Scalar.select v185 c1_i32_146 c16_i32_144
  let v187 : BitVec 32 := Scalar.remsi v184 v186
  let c0_i32_148 : BitVec 32 := 0#32
  let v189 : BitVec 1 := Scalar.cmpi .slt v187 c0_i32_148
  let c0_i32_149 : BitVec 32 := 0#32
  let v190 : BitVec 1 := Scalar.cmpi .slt v186 c0_i32_149
  let v191 : BitVec 1 := Scalar.xori v189 v190
  let c0_i32_147 : BitVec 32 := 0#32
  let v188 : BitVec 1 := Scalar.cmpi .ne v187 c0_i32_147
  let v192 : BitVec 1 := Scalar.andi v191 v188
  let v193 : BitVec 32 := Scalar.addi v187 v186
  let v194 : BitVec 32 := Scalar.select v192 v193 v187
  let c256_i32_150 : BitVec 32 := 256#32
  let v195 : BitVec 32 := Scalar.muli v194 c256_i32_150
  let v196 : Index := Scalar.indexCast v195
  let c0_151 : Index := 0#32
  ![v196.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_143 : BitVec 32 := 1#32
  let v184 : BitVec 32 := Scalar.subi v64 c1_i32_143
  let c16_i32_144 : BitVec 32 := 16#32
  let c0_i32_145 : BitVec 32 := 0#32
  let v185 : BitVec 1 := Scalar.cmpi .eq c16_i32_144 c0_i32_145
  let c1_i32_146 : BitVec 32 := 1#32
  let v186 : BitVec 32 := Scalar.select v185 c1_i32_146 c16_i32_144
  let v187 : BitVec 32 := Scalar.remsi v184 v186
  let c0_i32_148 : BitVec 32 := 0#32
  let v189 : BitVec 1 := Scalar.cmpi .slt v187 c0_i32_148
  let c0_i32_149 : BitVec 32 := 0#32
  let v190 : BitVec 1 := Scalar.cmpi .slt v186 c0_i32_149
  let v191 : BitVec 1 := Scalar.xori v189 v190
  let c0_i32_147 : BitVec 32 := 0#32
  let v188 : BitVec 1 := Scalar.cmpi .ne v187 c0_i32_147
  let v192 : BitVec 1 := Scalar.andi v191 v188
  let v193 : BitVec 32 := Scalar.addi v187 v186
  let v194 : BitVec 32 := Scalar.select v192 v193 v187
  let c256_i32_155 : BitVec 32 := 256#32
  let v202 : BitVec 32 := Scalar.muli v194 c256_i32_155
  let v203 : Index := Scalar.indexCast v202
  let c0_156 : Index := 0#32
  ![v203.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_157 : BitVec 32 := 1#32
  let v207 : BitVec 32 := Scalar.addi v64 c1_i32_157
  let c16_i32_158 : BitVec 32 := 16#32
  let c0_i32_159 : BitVec 32 := 0#32
  let v208 : BitVec 1 := Scalar.cmpi .eq c16_i32_158 c0_i32_159
  let c1_i32_160 : BitVec 32 := 1#32
  let v209 : BitVec 32 := Scalar.select v208 c1_i32_160 c16_i32_158
  let v210 : BitVec 32 := Scalar.remsi v207 v209
  let c0_i32_162 : BitVec 32 := 0#32
  let v212 : BitVec 1 := Scalar.cmpi .slt v210 c0_i32_162
  let c0_i32_163 : BitVec 32 := 0#32
  let v213 : BitVec 1 := Scalar.cmpi .slt v209 c0_i32_163
  let v214 : BitVec 1 := Scalar.xori v212 v213
  let c0_i32_161 : BitVec 32 := 0#32
  let v211 : BitVec 1 := Scalar.cmpi .ne v210 c0_i32_161
  let v215 : BitVec 1 := Scalar.andi v214 v211
  let v216 : BitVec 32 := Scalar.addi v210 v209
  let v217 : BitVec 32 := Scalar.select v215 v216 v210
  let c256_i32_164 : BitVec 32 := 256#32
  let v218 : BitVec 32 := Scalar.muli v217 c256_i32_164
  let v219 : Index := Scalar.indexCast v218
  let c0_165 : Index := 0#32
  ![v219.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_157 : BitVec 32 := 1#32
  let v207 : BitVec 32 := Scalar.addi v64 c1_i32_157
  let c16_i32_158 : BitVec 32 := 16#32
  let c0_i32_159 : BitVec 32 := 0#32
  let v208 : BitVec 1 := Scalar.cmpi .eq c16_i32_158 c0_i32_159
  let c1_i32_160 : BitVec 32 := 1#32
  let v209 : BitVec 32 := Scalar.select v208 c1_i32_160 c16_i32_158
  let v210 : BitVec 32 := Scalar.remsi v207 v209
  let c0_i32_162 : BitVec 32 := 0#32
  let v212 : BitVec 1 := Scalar.cmpi .slt v210 c0_i32_162
  let c0_i32_163 : BitVec 32 := 0#32
  let v213 : BitVec 1 := Scalar.cmpi .slt v209 c0_i32_163
  let v214 : BitVec 1 := Scalar.xori v212 v213
  let c0_i32_161 : BitVec 32 := 0#32
  let v211 : BitVec 1 := Scalar.cmpi .ne v210 c0_i32_161
  let v215 : BitVec 1 := Scalar.andi v214 v211
  let v216 : BitVec 32 := Scalar.addi v210 v209
  let v217 : BitVec 32 := Scalar.select v215 v216 v210
  let c256_i32_169 : BitVec 32 := 256#32
  let v225 : BitVec 32 := Scalar.muli v217 c256_i32_169
  let v226 : Index := Scalar.indexCast v225
  let c1024_170 : Index := 1024#32
  ![v226.toNat, 1024]
def k0_off10 (d0 : Dev nD) (c0_i32_171 : BitVec 32) (c0_i32_226 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v230 : BitVec 32 := Scalar.subi v64 c0_i32_171
  let c1_i32_172 : BitVec 32 := 1#32
  let v231 : BitVec 32 := Scalar.subi v230 c1_i32_172
  let c16_i32_173 : BitVec 32 := 16#32
  let c0_i32_174 : BitVec 32 := 0#32
  let v232 : BitVec 1 := Scalar.cmpi .eq c16_i32_173 c0_i32_174
  let c1_i32_175 : BitVec 32 := 1#32
  let v233 : BitVec 32 := Scalar.select v232 c1_i32_175 c16_i32_173
  let v234 : BitVec 32 := Scalar.remsi v231 v233
  let c0_i32_177 : BitVec 32 := 0#32
  let v236 : BitVec 1 := Scalar.cmpi .slt v234 c0_i32_177
  let c0_i32_178 : BitVec 32 := 0#32
  let v237 : BitVec 1 := Scalar.cmpi .slt v233 c0_i32_178
  let v238 : BitVec 1 := Scalar.xori v236 v237
  let c0_i32_176 : BitVec 32 := 0#32
  let v235 : BitVec 1 := Scalar.cmpi .ne v234 c0_i32_176
  let v239 : BitVec 1 := Scalar.andi v238 v235
  let v240 : BitVec 32 := Scalar.addi v234 v233
  let v241 : BitVec 32 := Scalar.select v239 v240 v234
  let c256_i32_225 : BitVec 32 := 256#32
  let v294 : BitVec 32 := Scalar.muli v241 c256_i32_225
  let v295 : BitVec 32 := Scalar.addi v294 c0_i32_226
  let v296 : Index := Scalar.indexCast v295
  let c0_227 : Index := 0#32
  ![v296.toNat, 0]
def k0_off11 (d0 : Dev nD) (c0_i32_179 : BitVec 32) (c0_i32_232 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v242 : BitVec 32 := Scalar.addi v64 c0_i32_179
  let c1_i32_180 : BitVec 32 := 1#32
  let v243 : BitVec 32 := Scalar.addi v242 c1_i32_180
  let c16_i32_181 : BitVec 32 := 16#32
  let c0_i32_182 : BitVec 32 := 0#32
  let v244 : BitVec 1 := Scalar.cmpi .eq c16_i32_181 c0_i32_182
  let c1_i32_183 : BitVec 32 := 1#32
  let v245 : BitVec 32 := Scalar.select v244 c1_i32_183 c16_i32_181
  let v246 : BitVec 32 := Scalar.remsi v243 v245
  let c0_i32_185 : BitVec 32 := 0#32
  let v248 : BitVec 1 := Scalar.cmpi .slt v246 c0_i32_185
  let c0_i32_186 : BitVec 32 := 0#32
  let v249 : BitVec 1 := Scalar.cmpi .slt v245 c0_i32_186
  let v250 : BitVec 1 := Scalar.xori v248 v249
  let c0_i32_184 : BitVec 32 := 0#32
  let v247 : BitVec 1 := Scalar.cmpi .ne v246 c0_i32_184
  let v251 : BitVec 1 := Scalar.andi v250 v247
  let v252 : BitVec 32 := Scalar.addi v246 v245
  let v253 : BitVec 32 := Scalar.select v251 v252 v246
  let c256_i32_231 : BitVec 32 := 256#32
  let v301 : BitVec 32 := Scalar.muli v253 c256_i32_231
  let v302 : BitVec 32 := Scalar.addi v301 c0_i32_232
  let v303 : Index := Scalar.indexCast v302
  let c1024_233 : Index := 1024#32
  ![v303.toNat, 1024]
def k0_dev7 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_266 : BitVec 32 := 1#32
  let v346 : BitVec 32 := Scalar.muli v66 c1_i32_266
  let v347 : BitVec 32 := Scalar.addi c0_i32_267 v346
  v347.toNat
def k0_dev8 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_276 : BitVec 32 := 1#32
  let v355 : BitVec 32 := Scalar.muli v65 c1_i32_276
  let v356 : BitVec 32 := Scalar.addi c0_i32_277 v355
  v356.toNat
def k0_dev9 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_359 : BitVec 32 := 1#32
  let v456 : BitVec 32 := Scalar.muli v66 c1_i32_359
  let v457 : BitVec 32 := Scalar.addi c0_i32_360 v456
  v457.toNat
def k0_dev10 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_369 : BitVec 32 := 1#32
  let v465 : BitVec 32 := Scalar.muli v65 c1_i32_369
  let v466 : BitVec 32 := Scalar.addi c0_i32_370 v465
  v466.toNat
def k0_off12 (d0 : Dev nD) (c0_i32_374 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v474 : BitVec 32 := Scalar.subi v64 c0_i32_374
  let c2_i32_375 : BitVec 32 := 2#32
  let v475 : BitVec 32 := Scalar.subi v474 c2_i32_375
  let c16_i32_376 : BitVec 32 := 16#32
  let c0_i32_377 : BitVec 32 := 0#32
  let v476 : BitVec 1 := Scalar.cmpi .eq c16_i32_376 c0_i32_377
  let c1_i32_378 : BitVec 32 := 1#32
  let v477 : BitVec 32 := Scalar.select v476 c1_i32_378 c16_i32_376
  let v478 : BitVec 32 := Scalar.remsi v475 v477
  let c0_i32_380 : BitVec 32 := 0#32
  let v480 : BitVec 1 := Scalar.cmpi .slt v478 c0_i32_380
  let c0_i32_381 : BitVec 32 := 0#32
  let v481 : BitVec 1 := Scalar.cmpi .slt v477 c0_i32_381
  let v482 : BitVec 1 := Scalar.xori v480 v481
  let c0_i32_379 : BitVec 32 := 0#32
  let v479 : BitVec 1 := Scalar.cmpi .ne v478 c0_i32_379
  let v483 : BitVec 1 := Scalar.andi v482 v479
  let v484 : BitVec 32 := Scalar.addi v478 v477
  let v485 : BitVec 32 := Scalar.select v483 v484 v478
  let c256_i32_382 : BitVec 32 := 256#32
  let v486 : BitVec 32 := Scalar.muli v485 c256_i32_382
  let v487 : Index := Scalar.indexCast v486
  let c0_383 : Index := 0#32
  ![v487.toNat, 0]
def k0_off13 (d0 : Dev nD) (c0_i32_374 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v474 : BitVec 32 := Scalar.subi v64 c0_i32_374
  let c2_i32_375 : BitVec 32 := 2#32
  let v475 : BitVec 32 := Scalar.subi v474 c2_i32_375
  let c16_i32_376 : BitVec 32 := 16#32
  let c0_i32_377 : BitVec 32 := 0#32
  let v476 : BitVec 1 := Scalar.cmpi .eq c16_i32_376 c0_i32_377
  let c1_i32_378 : BitVec 32 := 1#32
  let v477 : BitVec 32 := Scalar.select v476 c1_i32_378 c16_i32_376
  let v478 : BitVec 32 := Scalar.remsi v475 v477
  let c0_i32_380 : BitVec 32 := 0#32
  let v480 : BitVec 1 := Scalar.cmpi .slt v478 c0_i32_380
  let c0_i32_381 : BitVec 32 := 0#32
  let v481 : BitVec 1 := Scalar.cmpi .slt v477 c0_i32_381
  let v482 : BitVec 1 := Scalar.xori v480 v481
  let c0_i32_379 : BitVec 32 := 0#32
  let v479 : BitVec 1 := Scalar.cmpi .ne v478 c0_i32_379
  let v483 : BitVec 1 := Scalar.andi v482 v479
  let v484 : BitVec 32 := Scalar.addi v478 v477
  let v485 : BitVec 32 := Scalar.select v483 v484 v478
  let c256_i32_387 : BitVec 32 := 256#32
  let v493 : BitVec 32 := Scalar.muli v485 c256_i32_387
  let v494 : Index := Scalar.indexCast v493
  let c0_388 : Index := 0#32
  ![v494.toNat, 0]
def k0_off14 (d0 : Dev nD) (c0_i32_389 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v498 : BitVec 32 := Scalar.addi v64 c0_i32_389
  let c2_i32_390 : BitVec 32 := 2#32
  let v499 : BitVec 32 := Scalar.addi v498 c2_i32_390
  let c16_i32_391 : BitVec 32 := 16#32
  let c0_i32_392 : BitVec 32 := 0#32
  let v500 : BitVec 1 := Scalar.cmpi .eq c16_i32_391 c0_i32_392
  let c1_i32_393 : BitVec 32 := 1#32
  let v501 : BitVec 32 := Scalar.select v500 c1_i32_393 c16_i32_391
  let v502 : BitVec 32 := Scalar.remsi v499 v501
  let c0_i32_395 : BitVec 32 := 0#32
  let v504 : BitVec 1 := Scalar.cmpi .slt v502 c0_i32_395
  let c0_i32_396 : BitVec 32 := 0#32
  let v505 : BitVec 1 := Scalar.cmpi .slt v501 c0_i32_396
  let v506 : BitVec 1 := Scalar.xori v504 v505
  let c0_i32_394 : BitVec 32 := 0#32
  let v503 : BitVec 1 := Scalar.cmpi .ne v502 c0_i32_394
  let v507 : BitVec 1 := Scalar.andi v506 v503
  let v508 : BitVec 32 := Scalar.addi v502 v501
  let v509 : BitVec 32 := Scalar.select v507 v508 v502
  let c256_i32_397 : BitVec 32 := 256#32
  let v510 : BitVec 32 := Scalar.muli v509 c256_i32_397
  let v511 : Index := Scalar.indexCast v510
  let c0_398 : Index := 0#32
  ![v511.toNat, 0]
def k0_off15 (d0 : Dev nD) (c0_i32_389 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v498 : BitVec 32 := Scalar.addi v64 c0_i32_389
  let c2_i32_390 : BitVec 32 := 2#32
  let v499 : BitVec 32 := Scalar.addi v498 c2_i32_390
  let c16_i32_391 : BitVec 32 := 16#32
  let c0_i32_392 : BitVec 32 := 0#32
  let v500 : BitVec 1 := Scalar.cmpi .eq c16_i32_391 c0_i32_392
  let c1_i32_393 : BitVec 32 := 1#32
  let v501 : BitVec 32 := Scalar.select v500 c1_i32_393 c16_i32_391
  let v502 : BitVec 32 := Scalar.remsi v499 v501
  let c0_i32_395 : BitVec 32 := 0#32
  let v504 : BitVec 1 := Scalar.cmpi .slt v502 c0_i32_395
  let c0_i32_396 : BitVec 32 := 0#32
  let v505 : BitVec 1 := Scalar.cmpi .slt v501 c0_i32_396
  let v506 : BitVec 1 := Scalar.xori v504 v505
  let c0_i32_394 : BitVec 32 := 0#32
  let v503 : BitVec 1 := Scalar.cmpi .ne v502 c0_i32_394
  let v507 : BitVec 1 := Scalar.andi v506 v503
  let v508 : BitVec 32 := Scalar.addi v502 v501
  let v509 : BitVec 32 := Scalar.select v507 v508 v502
  let c256_i32_402 : BitVec 32 := 256#32
  let v517 : BitVec 32 := Scalar.muli v509 c256_i32_402
  let v518 : Index := Scalar.indexCast v517
  let c1024_403 : Index := 1024#32
  ![v518.toNat, 1024]
def k0_dev11 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_534 : BitVec 32 := 1#32
  let v674 : BitVec 32 := Scalar.muli v66 c1_i32_534
  let v675 : BitVec 32 := Scalar.addi c0_i32_535 v674
  v675.toNat
def k0_dev12 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_544 : BitVec 32 := 1#32
  let v683 : BitVec 32 := Scalar.muli v65 c1_i32_544
  let v684 : BitVec 32 := Scalar.addi c0_i32_545 v683
  v684.toNat
def k0_dev13 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_664 : BitVec 32 := 1#32
  let v820 : BitVec 32 := Scalar.muli v66 c1_i32_664
  let v821 : BitVec 32 := Scalar.addi c0_i32_665 v820
  v821.toNat
def k0_dev14 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_674 : BitVec 32 := 1#32
  let v829 : BitVec 32 := Scalar.muli v65 c1_i32_674
  let v830 : BitVec 32 := Scalar.addi c0_i32_675 v829
  v830.toNat
def k0_dev15 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_840 : BitVec 32 := 1#32
  let v1038 : BitVec 32 := Scalar.muli v66 c1_i32_840
  let v1039 : BitVec 32 := Scalar.addi c0_i32_841 v1038
  v1039.toNat
def k0_dev16 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_850 : BitVec 32 := 1#32
  let v1047 : BitVec 32 := Scalar.muli v65 c1_i32_850
  let v1048 : BitVec 32 := Scalar.addi c0_i32_851 v1047
  v1048.toNat
def k0_dev17 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_970 : BitVec 32 := 1#32
  let v1184 : BitVec 32 := Scalar.muli v66 c1_i32_970
  let v1185 : BitVec 32 := Scalar.addi c0_i32_971 v1184
  v1185.toNat
def k0_dev18 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_980 : BitVec 32 := 1#32
  let v1193 : BitVec 32 := Scalar.muli v65 c1_i32_980
  let v1194 : BitVec 32 := Scalar.addi c0_i32_981 v1193
  v1194.toNat
def k0_dev19 (d0 : Dev nD) : Nat :=
  let c0_i32_1147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_1146 : BitVec 32 := 1#32
  let v1402 : BitVec 32 := Scalar.muli v66 c1_i32_1146
  let v1403 : BitVec 32 := Scalar.addi c0_i32_1147 v1402
  v1403.toNat
def k0_dev20 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_1156 : BitVec 32 := 1#32
  let v1411 : BitVec 32 := Scalar.muli v65 c1_i32_1156
  let v1412 : BitVec 32 := Scalar.addi c0_i32_1157 v1411
  v1412.toNat
def k0_dev21 (d0 : Dev nD) : Nat :=
  let c0_i32_1277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_1276 : BitVec 32 := 1#32
  let v1548 : BitVec 32 := Scalar.muli v66 c1_i32_1276
  let v1549 : BitVec 32 := Scalar.addi c0_i32_1277 v1548
  v1549.toNat
def k0_dev22 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_1286 : BitVec 32 := 1#32
  let v1557 : BitVec 32 := Scalar.muli v65 c1_i32_1286
  let v1558 : BitVec 32 := Scalar.addi c0_i32_1287 v1557
  v1558.toNat
def k0_dev23 (d0 : Dev nD) : Nat :=
  let c0_i32_1453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_1452 : BitVec 32 := 1#32
  let v1766 : BitVec 32 := Scalar.muli v66 c1_i32_1452
  let v1767 : BitVec 32 := Scalar.addi c0_i32_1453 v1766
  v1767.toNat
def k0_dev24 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_1462 : BitVec 32 := 1#32
  let v1775 : BitVec 32 := Scalar.muli v65 c1_i32_1462
  let v1776 : BitVec 32 := Scalar.addi c0_i32_1463 v1775
  v1776.toNat
def k0_dev25 (d0 : Dev nD) : Nat :=
  let c0_i32_1583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_1582 : BitVec 32 := 1#32
  let v1912 : BitVec 32 := Scalar.muli v66 c1_i32_1582
  let v1913 : BitVec 32 := Scalar.addi c0_i32_1583 v1912
  v1913.toNat
def k0_dev26 (d0 : Dev nD) : Nat :=
  let c0_i32_1593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_1592 : BitVec 32 := 1#32
  let v1921 : BitVec 32 := Scalar.muli v65 c1_i32_1592
  let v1922 : BitVec 32 := Scalar.addi c0_i32_1593 v1921
  v1922.toNat
def k0_dev27 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_1758 : BitVec 32 := 1#32
  let v2130 : BitVec 32 := Scalar.muli v66 c1_i32_1758
  let v2131 : BitVec 32 := Scalar.addi c0_i32_1759 v2130
  v2131.toNat
def k0_dev28 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_1768 : BitVec 32 := 1#32
  let v2139 : BitVec 32 := Scalar.muli v65 c1_i32_1768
  let v2140 : BitVec 32 := Scalar.addi c0_i32_1769 v2139
  v2140.toNat
def k0_dev29 (d0 : Dev nD) : Nat :=
  let c0_i32_1889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_1888 : BitVec 32 := 1#32
  let v2276 : BitVec 32 := Scalar.muli v66 c1_i32_1888
  let v2277 : BitVec 32 := Scalar.addi c0_i32_1889 v2276
  v2277.toNat
def k0_dev30 (d0 : Dev nD) : Nat :=
  let c0_i32_1899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_1898 : BitVec 32 := 1#32
  let v2285 : BitVec 32 := Scalar.muli v65 c1_i32_1898
  let v2286 : BitVec 32 := Scalar.addi c0_i32_1899 v2285
  v2286.toNat
def k0_dev31 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_2064 : BitVec 32 := 1#32
  let v2494 : BitVec 32 := Scalar.muli v66 c1_i32_2064
  let v2495 : BitVec 32 := Scalar.addi c0_i32_2065 v2494
  v2495.toNat
def k0_dev32 (d0 : Dev nD) : Nat :=
  let c0_i32_2075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_2074 : BitVec 32 := 1#32
  let v2503 : BitVec 32 := Scalar.muli v65 c1_i32_2074
  let v2504 : BitVec 32 := Scalar.addi c0_i32_2075 v2503
  v2504.toNat
def k0_dev33 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_2194 : BitVec 32 := 1#32
  let v2640 : BitVec 32 := Scalar.muli v66 c1_i32_2194
  let v2641 : BitVec 32 := Scalar.addi c0_i32_2195 v2640
  v2641.toNat
def k0_dev34 (d0 : Dev nD) : Nat :=
  let c0_i32_2205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_2204 : BitVec 32 := 1#32
  let v2649 : BitVec 32 := Scalar.muli v65 c1_i32_2204
  let v2650 : BitVec 32 := Scalar.addi c0_i32_2205 v2649
  v2650.toNat
def k0_dev35 (d0 : Dev nD) : Nat :=
  let c0_i32_2371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_2370 : BitVec 32 := 1#32
  let v2858 : BitVec 32 := Scalar.muli v66 c1_i32_2370
  let v2859 : BitVec 32 := Scalar.addi c0_i32_2371 v2858
  v2859.toNat
def k0_dev36 (d0 : Dev nD) : Nat :=
  let c0_i32_2381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_2380 : BitVec 32 := 1#32
  let v2867 : BitVec 32 := Scalar.muli v65 c1_i32_2380
  let v2868 : BitVec 32 := Scalar.addi c0_i32_2381 v2867
  v2868.toNat
def k0_dev37 (d0 : Dev nD) : Nat :=
  let c0_i32_2501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_2500 : BitVec 32 := 1#32
  let v3004 : BitVec 32 := Scalar.muli v66 c1_i32_2500
  let v3005 : BitVec 32 := Scalar.addi c0_i32_2501 v3004
  v3005.toNat
def k0_dev38 (d0 : Dev nD) : Nat :=
  let c0_i32_2511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_2510 : BitVec 32 := 1#32
  let v3013 : BitVec 32 := Scalar.muli v65 c1_i32_2510
  let v3014 : BitVec 32 := Scalar.addi c0_i32_2511 v3013
  v3014.toNat
def k0_dev39 (d0 : Dev nD) : Nat :=
  let c0_i32_2677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_2676 : BitVec 32 := 1#32
  let v3222 : BitVec 32 := Scalar.muli v66 c1_i32_2676
  let v3223 : BitVec 32 := Scalar.addi c0_i32_2677 v3222
  v3223.toNat
def k0_dev40 (d0 : Dev nD) : Nat :=
  let c0_i32_2687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_2686 : BitVec 32 := 1#32
  let v3231 : BitVec 32 := Scalar.muli v65 c1_i32_2686
  let v3232 : BitVec 32 := Scalar.addi c0_i32_2687 v3231
  v3232.toNat
def k0_dev41 (d0 : Dev nD) : Nat :=
  let c0_i32_2807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_2806 : BitVec 32 := 1#32
  let v3368 : BitVec 32 := Scalar.muli v66 c1_i32_2806
  let v3369 : BitVec 32 := Scalar.addi c0_i32_2807 v3368
  v3369.toNat
def k0_dev42 (d0 : Dev nD) : Nat :=
  let c0_i32_2817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_2816 : BitVec 32 := 1#32
  let v3377 : BitVec 32 := Scalar.muli v65 c1_i32_2816
  let v3378 : BitVec 32 := Scalar.addi c0_i32_2817 v3377
  v3378.toNat
def k0_dev43 (d0 : Dev nD) : Nat :=
  let c0_i32_2983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_2982 : BitVec 32 := 1#32
  let v3586 : BitVec 32 := Scalar.muli v66 c1_i32_2982
  let v3587 : BitVec 32 := Scalar.addi c0_i32_2983 v3586
  v3587.toNat
def k0_dev44 (d0 : Dev nD) : Nat :=
  let c0_i32_2993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_2992 : BitVec 32 := 1#32
  let v3595 : BitVec 32 := Scalar.muli v65 c1_i32_2992
  let v3596 : BitVec 32 := Scalar.addi c0_i32_2993 v3595
  v3596.toNat
def k0_dev45 (d0 : Dev nD) : Nat :=
  let c0_i32_3113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_3112 : BitVec 32 := 1#32
  let v3732 : BitVec 32 := Scalar.muli v66 c1_i32_3112
  let v3733 : BitVec 32 := Scalar.addi c0_i32_3113 v3732
  v3733.toNat
def k0_dev46 (d0 : Dev nD) : Nat :=
  let c0_i32_3123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_3122 : BitVec 32 := 1#32
  let v3741 : BitVec 32 := Scalar.muli v65 c1_i32_3122
  let v3742 : BitVec 32 := Scalar.addi c0_i32_3123 v3741
  v3742.toNat
def k0_dev47 (d0 : Dev nD) : Nat :=
  let c0_i32_3289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_3288 : BitVec 32 := 1#32
  let v3950 : BitVec 32 := Scalar.muli v66 c1_i32_3288
  let v3951 : BitVec 32 := Scalar.addi c0_i32_3289 v3950
  v3951.toNat
def k0_dev48 (d0 : Dev nD) : Nat :=
  let c0_i32_3299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_3298 : BitVec 32 := 1#32
  let v3959 : BitVec 32 := Scalar.muli v65 c1_i32_3298
  let v3960 : BitVec 32 := Scalar.addi c0_i32_3299 v3959
  v3960.toNat
def k0_dev49 (d0 : Dev nD) : Nat :=
  let c0_i32_3419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_3418 : BitVec 32 := 1#32
  let v4096 : BitVec 32 := Scalar.muli v66 c1_i32_3418
  let v4097 : BitVec 32 := Scalar.addi c0_i32_3419 v4096
  v4097.toNat
def k0_dev50 (d0 : Dev nD) : Nat :=
  let c0_i32_3429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_3428 : BitVec 32 := 1#32
  let v4105 : BitVec 32 := Scalar.muli v65 c1_i32_3428
  let v4106 : BitVec 32 := Scalar.addi c0_i32_3429 v4105
  v4106.toNat
def k0_dev51 (d0 : Dev nD) : Nat :=
  let c0_i32_3595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_3594 : BitVec 32 := 1#32
  let v4314 : BitVec 32 := Scalar.muli v66 c1_i32_3594
  let v4315 : BitVec 32 := Scalar.addi c0_i32_3595 v4314
  v4315.toNat
def k0_dev52 (d0 : Dev nD) : Nat :=
  let c0_i32_3605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_3604 : BitVec 32 := 1#32
  let v4323 : BitVec 32 := Scalar.muli v65 c1_i32_3604
  let v4324 : BitVec 32 := Scalar.addi c0_i32_3605 v4323
  v4324.toNat
def k0_dev53 (d0 : Dev nD) : Nat :=
  let c0_i32_3725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_3724 : BitVec 32 := 1#32
  let v4460 : BitVec 32 := Scalar.muli v66 c1_i32_3724
  let v4461 : BitVec 32 := Scalar.addi c0_i32_3725 v4460
  v4461.toNat
def k0_dev54 (d0 : Dev nD) : Nat :=
  let c0_i32_3735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_3734 : BitVec 32 := 1#32
  let v4469 : BitVec 32 := Scalar.muli v65 c1_i32_3734
  let v4470 : BitVec 32 := Scalar.addi c0_i32_3735 v4469
  v4470.toNat
def k0_dev55 (d0 : Dev nD) : Nat :=
  let c0_i32_3901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_3900 : BitVec 32 := 1#32
  let v4678 : BitVec 32 := Scalar.muli v66 c1_i32_3900
  let v4679 : BitVec 32 := Scalar.addi c0_i32_3901 v4678
  v4679.toNat
def k0_dev56 (d0 : Dev nD) : Nat :=
  let c0_i32_3911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_3910 : BitVec 32 := 1#32
  let v4687 : BitVec 32 := Scalar.muli v65 c1_i32_3910
  let v4688 : BitVec 32 := Scalar.addi c0_i32_3911 v4687
  v4688.toNat
def k0_dev57 (d0 : Dev nD) : Nat :=
  let c0_i32_4031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_4030 : BitVec 32 := 1#32
  let v4824 : BitVec 32 := Scalar.muli v66 c1_i32_4030
  let v4825 : BitVec 32 := Scalar.addi c0_i32_4031 v4824
  v4825.toNat
def k0_dev58 (d0 : Dev nD) : Nat :=
  let c0_i32_4041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_4040 : BitVec 32 := 1#32
  let v4833 : BitVec 32 := Scalar.muli v65 c1_i32_4040
  let v4834 : BitVec 32 := Scalar.addi c0_i32_4041 v4833
  v4834.toNat
def k0_dev59 (d0 : Dev nD) : Nat :=
  let c0_i32_4207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_4206 : BitVec 32 := 1#32
  let v5042 : BitVec 32 := Scalar.muli v66 c1_i32_4206
  let v5043 : BitVec 32 := Scalar.addi c0_i32_4207 v5042
  v5043.toNat
def k0_dev60 (d0 : Dev nD) : Nat :=
  let c0_i32_4217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_4216 : BitVec 32 := 1#32
  let v5051 : BitVec 32 := Scalar.muli v65 c1_i32_4216
  let v5052 : BitVec 32 := Scalar.addi c0_i32_4217 v5051
  v5052.toNat
def k0_dev61 (d0 : Dev nD) : Nat :=
  let c0_i32_4337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c0_i32_51 : BitVec 32 := 0#32
  let c8_i32_44 : BitVec 32 := 8#32
  let v59 : BitVec 1 := Scalar.cmpi .eq v2 c8_i32_44
  let c4_i32_47 : BitVec 32 := 4#32
  let c12_i32_40 : BitVec 32 := 12#32
  let v55 : BitVec 1 := Scalar.cmpi .eq v2 c12_i32_40
  let c8_i32_43 : BitVec 32 := 8#32
  let c15_i32_37 : BitVec 32 := 15#32
  let v51 : BitVec 1 := Scalar.cmpi .eq v2 c15_i32_37
  let c12_i32_39 : BitVec 32 := 12#32
  let c11_i32_34 : BitVec 32 := 11#32
  let v47 : BitVec 1 := Scalar.cmpi .eq v2 c11_i32_34
  let c15_i32 : BitVec 32 := 15#32
  let c7_i32_31 : BitVec 32 := 7#32
  let v43 : BitVec 1 := Scalar.cmpi .eq v2 c7_i32_31
  let c11_i32 : BitVec 32 := 11#32
  let c3_i32_27 : BitVec 32 := 3#32
  let v39 : BitVec 1 := Scalar.cmpi .eq v2 c3_i32_27
  let c7_i32_30 : BitVec 32 := 7#32
  let c2_i32_24 : BitVec 32 := 2#32
  let v35 : BitVec 1 := Scalar.cmpi .eq v2 c2_i32_24
  let c3_i32_26 : BitVec 32 := 3#32
  let c6_i32_21 : BitVec 32 := 6#32
  let v31 : BitVec 1 := Scalar.cmpi .eq v2 c6_i32_21
  let c2_i32_23 : BitVec 32 := 2#32
  let c10_i32_18 : BitVec 32 := 10#32
  let v27 : BitVec 1 := Scalar.cmpi .eq v2 c10_i32_18
  let c6_i32_20 : BitVec 32 := 6#32
  let c14_i32_15 : BitVec 32 := 14#32
  let v23 : BitVec 1 := Scalar.cmpi .eq v2 c14_i32_15
  let c10_i32 : BitVec 32 := 10#32
  let c13_i32_12 : BitVec 32 := 13#32
  let v19 : BitVec 1 := Scalar.cmpi .eq v2 c13_i32_12
  let c14_i32 : BitVec 32 := 14#32
  let c9_i32_10 : BitVec 32 := 9#32
  let v15 : BitVec 1 := Scalar.cmpi .eq v2 c9_i32_10
  let c13_i32 : BitVec 32 := 13#32
  let c5_i32_8 : BitVec 32 := 5#32
  let v11 : BitVec 1 := Scalar.cmpi .eq v2 c5_i32_8
  let c9_i32 : BitVec 32 := 9#32
  let c1_i32_5 : BitVec 32 := 1#32
  let v7 : BitVec 1 := Scalar.cmpi .eq v2 c1_i32_5
  let c5_i32 : BitVec 32 := 5#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c5_i32 v6
  let v14 : BitVec 32 := Scalar.select v11 c9_i32 v10
  let v18 : BitVec 32 := Scalar.select v15 c13_i32 v14
  let v22 : BitVec 32 := Scalar.select v19 c14_i32 v18
  let v26 : BitVec 32 := Scalar.select v23 c10_i32 v22
  let v30 : BitVec 32 := Scalar.select v27 c6_i32_20 v26
  let v34 : BitVec 32 := Scalar.select v31 c2_i32_23 v30
  let v38 : BitVec 32 := Scalar.select v35 c3_i32_26 v34
  let v42 : BitVec 32 := Scalar.select v39 c7_i32_30 v38
  let v46 : BitVec 32 := Scalar.select v43 c11_i32 v42
  let v50 : BitVec 32 := Scalar.select v47 c15_i32 v46
  let v54 : BitVec 32 := Scalar.select v51 c12_i32_39 v50
  let v58 : BitVec 32 := Scalar.select v55 c8_i32_43 v54
  let v62 : BitVec 32 := Scalar.select v59 c4_i32_47 v58
  let v66 : BitVec 32 := Scalar.select v63 c0_i32_51 v62
  let c1_i32_4336 : BitVec 32 := 1#32
  let v5188 : BitVec 32 := Scalar.muli v66 c1_i32_4336
  let v5189 : BitVec 32 := Scalar.addi c0_i32_4337 v5188
  v5189.toNat
def k0_dev62 (d0 : Dev nD) : Nat :=
  let c0_i32_4347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c8_i32_50 : BitVec 32 := 8#32
  let c8_i32_44 : BitVec 32 := 8#32
  let v59 : BitVec 1 := Scalar.cmpi .eq v2 c8_i32_44
  let c12_i32_46 : BitVec 32 := 12#32
  let c12_i32_40 : BitVec 32 := 12#32
  let v55 : BitVec 1 := Scalar.cmpi .eq v2 c12_i32_40
  let c15_i32_42 : BitVec 32 := 15#32
  let c15_i32_37 : BitVec 32 := 15#32
  let v51 : BitVec 1 := Scalar.cmpi .eq v2 c15_i32_37
  let c11_i32_38 : BitVec 32 := 11#32
  let c11_i32_34 : BitVec 32 := 11#32
  let v47 : BitVec 1 := Scalar.cmpi .eq v2 c11_i32_34
  let c7_i32_36 : BitVec 32 := 7#32
  let c7_i32_31 : BitVec 32 := 7#32
  let v43 : BitVec 1 := Scalar.cmpi .eq v2 c7_i32_31
  let c3_i32_33 : BitVec 32 := 3#32
  let c3_i32_27 : BitVec 32 := 3#32
  let v39 : BitVec 1 := Scalar.cmpi .eq v2 c3_i32_27
  let c2_i32_29 : BitVec 32 := 2#32
  let c2_i32_24 : BitVec 32 := 2#32
  let v35 : BitVec 1 := Scalar.cmpi .eq v2 c2_i32_24
  let c6_i32_25 : BitVec 32 := 6#32
  let c6_i32_21 : BitVec 32 := 6#32
  let v31 : BitVec 1 := Scalar.cmpi .eq v2 c6_i32_21
  let c10_i32_22 : BitVec 32 := 10#32
  let c10_i32_18 : BitVec 32 := 10#32
  let v27 : BitVec 1 := Scalar.cmpi .eq v2 c10_i32_18
  let c14_i32_19 : BitVec 32 := 14#32
  let c14_i32_15 : BitVec 32 := 14#32
  let v23 : BitVec 1 := Scalar.cmpi .eq v2 c14_i32_15
  let c13_i32_17 : BitVec 32 := 13#32
  let c13_i32_12 : BitVec 32 := 13#32
  let v19 : BitVec 1 := Scalar.cmpi .eq v2 c13_i32_12
  let c9_i32_14 : BitVec 32 := 9#32
  let c9_i32_10 : BitVec 32 := 9#32
  let v15 : BitVec 1 := Scalar.cmpi .eq v2 c9_i32_10
  let c5_i32_11 : BitVec 32 := 5#32
  let c5_i32_8 : BitVec 32 := 5#32
  let v11 : BitVec 1 := Scalar.cmpi .eq v2 c5_i32_8
  let c1_i32_9 : BitVec 32 := 1#32
  let c1_i32_5 : BitVec 32 := 1#32
  let v7 : BitVec 1 := Scalar.cmpi .eq v2 c1_i32_5
  let c0_i32_7 : BitVec 32 := 0#32
  let c0_i32 : BitVec 32 := 0#32
  let v3 : BitVec 1 := Scalar.cmpi .eq v2 c0_i32
  let c4_i32 : BitVec 32 := 4#32
  let c0_i32_2 : BitVec 32 := 0#32
  let v5 : BitVec 32 := Scalar.select v3 c4_i32 c0_i32_2
  let v9 : BitVec 32 := Scalar.select v7 c0_i32_7 v5
  let v13 : BitVec 32 := Scalar.select v11 c1_i32_9 v9
  let v17 : BitVec 32 := Scalar.select v15 c5_i32_11 v13
  let v21 : BitVec 32 := Scalar.select v19 c9_i32_14 v17
  let v25 : BitVec 32 := Scalar.select v23 c13_i32_17 v21
  let v29 : BitVec 32 := Scalar.select v27 c14_i32_19 v25
  let v33 : BitVec 32 := Scalar.select v31 c10_i32_22 v29
  let v37 : BitVec 32 := Scalar.select v35 c6_i32_25 v33
  let v41 : BitVec 32 := Scalar.select v39 c2_i32_29 v37
  let v45 : BitVec 32 := Scalar.select v43 c3_i32_33 v41
  let v49 : BitVec 32 := Scalar.select v47 c7_i32_36 v45
  let v53 : BitVec 32 := Scalar.select v51 c11_i32_38 v49
  let v57 : BitVec 32 := Scalar.select v55 c15_i32_42 v53
  let v61 : BitVec 32 := Scalar.select v59 c12_i32_46 v57
  let v65 : BitVec 32 := Scalar.select v63 c8_i32_50 v61
  let c1_i32_4346 : BitVec 32 := 1#32
  let v5197 : BitVec 32 := Scalar.muli v65 c1_i32_4346
  let v5198 : BitVec 32 := Scalar.addi c0_i32_4347 v5197
  v5198.toNat
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let v5604 : Index := Scalar.indexCast v64
  let c0_4675 : Index := 0#32
  let c0_4676 : Index := 0#32
  ![v5604.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4677 : BitVec 32 := 0#32
  let v5608 : BitVec 1 := Scalar.cmpi .ne v64 c0_i32_4677
  let v5609 : BitVec 32 := Scalar.extui v5608
  let c0_i32_4678 : BitVec 32 := 0#32
  let v5610 : BitVec 1 := Scalar.cmpi .ne v5609 c0_i32_4678
  v5610

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev63 : Nat :=
  let c0_i32_4782 : BitVec 32 := 0#32
  let c0_i32_4780 : BitVec 32 := 0#32
  let c1_i32_4781 : BitVec 32 := 1#32
  let v5773 : BitVec 32 := Scalar.muli c0_i32_4780 c1_i32_4781
  let v5774 : BitVec 32 := Scalar.addi c0_i32_4782 v5773
  v5774.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_4679 : BitVec 32 := 1#32
  let v5611 : BitVec 1 := Scalar.cmpi .ne v64 c1_i32_4679
  let v5612 : BitVec 32 := Scalar.extui v5611
  let c0_i32_4680 : BitVec 32 := 0#32
  let v5613 : BitVec 1 := Scalar.cmpi .ne v5612 c0_i32_4680
  v5613

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev64 : Nat :=
  let c0_i32_4782 : BitVec 32 := 0#32
  let c1_i32_4780 : BitVec 32 := 1#32
  let c1_i32_4781 : BitVec 32 := 1#32
  let v5773 : BitVec 32 := Scalar.muli c1_i32_4780 c1_i32_4781
  let v5774 : BitVec 32 := Scalar.addi c0_i32_4782 v5773
  v5774.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c2_i32_4681 : BitVec 32 := 2#32
  let v5614 : BitVec 1 := Scalar.cmpi .ne v64 c2_i32_4681
  let v5615 : BitVec 32 := Scalar.extui v5614
  let c0_i32_4682 : BitVec 32 := 0#32
  let v5616 : BitVec 1 := Scalar.cmpi .ne v5615 c0_i32_4682
  v5616

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev65 : Nat :=
  let c0_i32_4782 : BitVec 32 := 0#32
  let c5_i32_4780 : BitVec 32 := 5#32
  let c1_i32_4781 : BitVec 32 := 1#32
  let v5773 : BitVec 32 := Scalar.muli c5_i32_4780 c1_i32_4781
  let v5774 : BitVec 32 := Scalar.addi c0_i32_4782 v5773
  v5774.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c3_i32_4683 : BitVec 32 := 3#32
  let v5617 : BitVec 1 := Scalar.cmpi .ne v64 c3_i32_4683
  let v5618 : BitVec 32 := Scalar.extui v5617
  let c0_i32_4684 : BitVec 32 := 0#32
  let v5619 : BitVec 1 := Scalar.cmpi .ne v5618 c0_i32_4684
  v5619

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev66 : Nat :=
  let c0_i32_4782 : BitVec 32 := 0#32
  let c9_i32_4780 : BitVec 32 := 9#32
  let c1_i32_4781 : BitVec 32 := 1#32
  let v5773 : BitVec 32 := Scalar.muli c9_i32_4780 c1_i32_4781
  let v5774 : BitVec 32 := Scalar.addi c0_i32_4782 v5773
  v5774.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c4_i32_4685 : BitVec 32 := 4#32
  let v5620 : BitVec 1 := Scalar.cmpi .ne v64 c4_i32_4685
  let v5621 : BitVec 32 := Scalar.extui v5620
  let c0_i32_4686 : BitVec 32 := 0#32
  let v5622 : BitVec 1 := Scalar.cmpi .ne v5621 c0_i32_4686
  v5622

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev67 : Nat :=
  let c0_i32_4782 : BitVec 32 := 0#32
  let c13_i32_4780 : BitVec 32 := 13#32
  let c1_i32_4781 : BitVec 32 := 1#32
  let v5773 : BitVec 32 := Scalar.muli c13_i32_4780 c1_i32_4781
  let v5774 : BitVec 32 := Scalar.addi c0_i32_4782 v5773
  v5774.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c5_i32_4687 : BitVec 32 := 5#32
  let v5623 : BitVec 1 := Scalar.cmpi .ne v64 c5_i32_4687
  let v5624 : BitVec 32 := Scalar.extui v5623
  let c0_i32_4688 : BitVec 32 := 0#32
  let v5625 : BitVec 1 := Scalar.cmpi .ne v5624 c0_i32_4688
  v5625

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev68 : Nat :=
  let c0_i32_4782 : BitVec 32 := 0#32
  let c14_i32_4780 : BitVec 32 := 14#32
  let c1_i32_4781 : BitVec 32 := 1#32
  let v5773 : BitVec 32 := Scalar.muli c14_i32_4780 c1_i32_4781
  let v5774 : BitVec 32 := Scalar.addi c0_i32_4782 v5773
  v5774.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c6_i32_4689 : BitVec 32 := 6#32
  let v5626 : BitVec 1 := Scalar.cmpi .ne v64 c6_i32_4689
  let v5627 : BitVec 32 := Scalar.extui v5626
  let c0_i32_4690 : BitVec 32 := 0#32
  let v5628 : BitVec 1 := Scalar.cmpi .ne v5627 c0_i32_4690
  v5628

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev69 : Nat :=
  let c0_i32_4782 : BitVec 32 := 0#32
  let c10_i32_4780 : BitVec 32 := 10#32
  let c1_i32_4781 : BitVec 32 := 1#32
  let v5773 : BitVec 32 := Scalar.muli c10_i32_4780 c1_i32_4781
  let v5774 : BitVec 32 := Scalar.addi c0_i32_4782 v5773
  v5774.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c7_i32_4691 : BitVec 32 := 7#32
  let v5629 : BitVec 1 := Scalar.cmpi .ne v64 c7_i32_4691
  let v5630 : BitVec 32 := Scalar.extui v5629
  let c0_i32_4692 : BitVec 32 := 0#32
  let v5631 : BitVec 1 := Scalar.cmpi .ne v5630 c0_i32_4692
  v5631

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev70 : Nat :=
  let c0_i32_4782 : BitVec 32 := 0#32
  let c6_i32_4780 : BitVec 32 := 6#32
  let c1_i32_4781 : BitVec 32 := 1#32
  let v5773 : BitVec 32 := Scalar.muli c6_i32_4780 c1_i32_4781
  let v5774 : BitVec 32 := Scalar.addi c0_i32_4782 v5773
  v5774.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c8_i32_4693 : BitVec 32 := 8#32
  let v5632 : BitVec 1 := Scalar.cmpi .ne v64 c8_i32_4693
  let v5633 : BitVec 32 := Scalar.extui v5632
  let c0_i32_4694 : BitVec 32 := 0#32
  let v5634 : BitVec 1 := Scalar.cmpi .ne v5633 c0_i32_4694
  v5634

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev71 : Nat :=
  let c0_i32_4782 : BitVec 32 := 0#32
  let c2_i32_4780 : BitVec 32 := 2#32
  let c1_i32_4781 : BitVec 32 := 1#32
  let v5773 : BitVec 32 := Scalar.muli c2_i32_4780 c1_i32_4781
  let v5774 : BitVec 32 := Scalar.addi c0_i32_4782 v5773
  v5774.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c9_i32_4695 : BitVec 32 := 9#32
  let v5635 : BitVec 1 := Scalar.cmpi .ne v64 c9_i32_4695
  let v5636 : BitVec 32 := Scalar.extui v5635
  let c0_i32_4696 : BitVec 32 := 0#32
  let v5637 : BitVec 1 := Scalar.cmpi .ne v5636 c0_i32_4696
  v5637

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev72 : Nat :=
  let c0_i32_4782 : BitVec 32 := 0#32
  let c3_i32_4780 : BitVec 32 := 3#32
  let c1_i32_4781 : BitVec 32 := 1#32
  let v5773 : BitVec 32 := Scalar.muli c3_i32_4780 c1_i32_4781
  let v5774 : BitVec 32 := Scalar.addi c0_i32_4782 v5773
  v5774.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c10_i32_4697 : BitVec 32 := 10#32
  let v5638 : BitVec 1 := Scalar.cmpi .ne v64 c10_i32_4697
  let v5639 : BitVec 32 := Scalar.extui v5638
  let c0_i32_4698 : BitVec 32 := 0#32
  let v5640 : BitVec 1 := Scalar.cmpi .ne v5639 c0_i32_4698
  v5640

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev73 : Nat :=
  let c0_i32_4782 : BitVec 32 := 0#32
  let c7_i32_4780 : BitVec 32 := 7#32
  let c1_i32_4781 : BitVec 32 := 1#32
  let v5773 : BitVec 32 := Scalar.muli c7_i32_4780 c1_i32_4781
  let v5774 : BitVec 32 := Scalar.addi c0_i32_4782 v5773
  v5774.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c11_i32_4699 : BitVec 32 := 11#32
  let v5641 : BitVec 1 := Scalar.cmpi .ne v64 c11_i32_4699
  let v5642 : BitVec 32 := Scalar.extui v5641
  let c0_i32_4700 : BitVec 32 := 0#32
  let v5643 : BitVec 1 := Scalar.cmpi .ne v5642 c0_i32_4700
  v5643

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev74 : Nat :=
  let c0_i32_4782 : BitVec 32 := 0#32
  let c11_i32_4780 : BitVec 32 := 11#32
  let c1_i32_4781 : BitVec 32 := 1#32
  let v5773 : BitVec 32 := Scalar.muli c11_i32_4780 c1_i32_4781
  let v5774 : BitVec 32 := Scalar.addi c0_i32_4782 v5773
  v5774.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c12_i32_4701 : BitVec 32 := 12#32
  let v5644 : BitVec 1 := Scalar.cmpi .ne v64 c12_i32_4701
  let v5645 : BitVec 32 := Scalar.extui v5644
  let c0_i32_4702 : BitVec 32 := 0#32
  let v5646 : BitVec 1 := Scalar.cmpi .ne v5645 c0_i32_4702
  v5646

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev75 : Nat :=
  let c0_i32_4782 : BitVec 32 := 0#32
  let c15_i32_4780 : BitVec 32 := 15#32
  let c1_i32_4781 : BitVec 32 := 1#32
  let v5773 : BitVec 32 := Scalar.muli c15_i32_4780 c1_i32_4781
  let v5774 : BitVec 32 := Scalar.addi c0_i32_4782 v5773
  v5774.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c13_i32_4703 : BitVec 32 := 13#32
  let v5647 : BitVec 1 := Scalar.cmpi .ne v64 c13_i32_4703
  let v5648 : BitVec 32 := Scalar.extui v5647
  let c0_i32_4704 : BitVec 32 := 0#32
  let v5649 : BitVec 1 := Scalar.cmpi .ne v5648 c0_i32_4704
  v5649

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev76 : Nat :=
  let c0_i32_4782 : BitVec 32 := 0#32
  let c12_i32_4780 : BitVec 32 := 12#32
  let c1_i32_4781 : BitVec 32 := 1#32
  let v5773 : BitVec 32 := Scalar.muli c12_i32_4780 c1_i32_4781
  let v5774 : BitVec 32 := Scalar.addi c0_i32_4782 v5773
  v5774.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c14_i32_4705 : BitVec 32 := 14#32
  let v5650 : BitVec 1 := Scalar.cmpi .ne v64 c14_i32_4705
  let v5651 : BitVec 32 := Scalar.extui v5650
  let c0_i32_4706 : BitVec 32 := 0#32
  let v5652 : BitVec 1 := Scalar.cmpi .ne v5651 c0_i32_4706
  v5652

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev77 : Nat :=
  let c0_i32_4782 : BitVec 32 := 0#32
  let c8_i32_4780 : BitVec 32 := 8#32
  let c1_i32_4781 : BitVec 32 := 1#32
  let v5773 : BitVec 32 := Scalar.muli c8_i32_4780 c1_i32_4781
  let v5774 : BitVec 32 := Scalar.addi c0_i32_4782 v5773
  v5774.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c15_i32_4707 : BitVec 32 := 15#32
  let v5653 : BitVec 1 := Scalar.cmpi .ne v64 c15_i32_4707
  let v5654 : BitVec 32 := Scalar.extui v5653
  let c0_i32_4708 : BitVec 32 := 0#32
  let v5655 : BitVec 1 := Scalar.cmpi .ne v5654 c0_i32_4708
  v5655

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  ![v64.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c0_i32_4783 : BitVec 32 := 0#32
  let c0_i32_4784 : BitVec 32 := 0#32
  ![v64.toNat, 0, 0]
def k0_dev78 : Nat :=
  let c0_i32_4782 : BitVec 32 := 0#32
  let c4_i32_4780 : BitVec 32 := 4#32
  let c1_i32_4781 : BitVec 32 := 1#32
  let v5773 : BitVec 32 := Scalar.muli c4_i32_4780 c1_i32_4781
  let v5774 : BitVec 32 := Scalar.addi c0_i32_4782 v5773
  v5774.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_4661 : BitVec 32 := 1#32
  let v5578 : BitVec 32 := Scalar.addi v64 c1_i32_4661
  let c16_i32_4662 : BitVec 32 := 16#32
  let c0_i32_4663 : BitVec 32 := 0#32
  let v5579 : BitVec 1 := Scalar.cmpi .eq c16_i32_4662 c0_i32_4663
  let c1_i32_4664 : BitVec 32 := 1#32
  let v5580 : BitVec 32 := Scalar.select v5579 c1_i32_4664 c16_i32_4662
  let v5581 : BitVec 32 := Scalar.remsi v5578 v5580
  let c0_i32_4666 : BitVec 32 := 0#32
  let v5583 : BitVec 1 := Scalar.cmpi .slt v5581 c0_i32_4666
  let c0_i32_4667 : BitVec 32 := 0#32
  let v5584 : BitVec 1 := Scalar.cmpi .slt v5580 c0_i32_4667
  let v5585 : BitVec 1 := Scalar.xori v5583 v5584
  let c0_i32_4665 : BitVec 32 := 0#32
  let v5582 : BitVec 1 := Scalar.cmpi .ne v5581 c0_i32_4665
  let v5586 : BitVec 1 := Scalar.andi v5585 v5582
  let v5587 : BitVec 32 := Scalar.addi v5581 v5580
  let v5588 : BitVec 32 := Scalar.select v5586 v5587 v5581
  let c256_i32_4747 : BitVec 32 := 256#32
  let v5711 : BitVec 32 := Scalar.muli v5588 c256_i32_4747
  let v5712 : Index := Scalar.indexCast v5711
  let c0_4748 : Index := 0#32
  ![v5712.toNat, 0]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_4668 : BitVec 32 := 1#32
  let v5589 : BitVec 32 := Scalar.subi v64 c1_i32_4668
  let c16_i32_4669 : BitVec 32 := 16#32
  let c0_i32_4670 : BitVec 32 := 0#32
  let v5590 : BitVec 1 := Scalar.cmpi .eq c16_i32_4669 c0_i32_4670
  let c1_i32_4671 : BitVec 32 := 1#32
  let v5591 : BitVec 32 := Scalar.select v5590 c1_i32_4671 c16_i32_4669
  let v5592 : BitVec 32 := Scalar.remsi v5589 v5591
  let c0_i32_4673 : BitVec 32 := 0#32
  let v5594 : BitVec 1 := Scalar.cmpi .slt v5592 c0_i32_4673
  let c0_i32_4674 : BitVec 32 := 0#32
  let v5595 : BitVec 1 := Scalar.cmpi .slt v5591 c0_i32_4674
  let v5596 : BitVec 1 := Scalar.xori v5594 v5595
  let c0_i32_4672 : BitVec 32 := 0#32
  let v5593 : BitVec 1 := Scalar.cmpi .ne v5592 c0_i32_4672
  let v5597 : BitVec 1 := Scalar.andi v5596 v5593
  let v5598 : BitVec 32 := Scalar.addi v5592 v5591
  let v5599 : BitVec 32 := Scalar.select v5597 v5598 v5592
  let c256_i32_4753 : BitVec 32 := 256#32
  let v5725 : BitVec 32 := Scalar.muli v5599 c256_i32_4753
  let v5726 : Index := Scalar.indexCast v5725
  let c1024_4754 : Index := 1024#32
  ![v5726.toNat, 1024]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_4661 : BitVec 32 := 1#32
  let v5578 : BitVec 32 := Scalar.addi v64 c1_i32_4661
  let c16_i32_4662 : BitVec 32 := 16#32
  let c0_i32_4663 : BitVec 32 := 0#32
  let v5579 : BitVec 1 := Scalar.cmpi .eq c16_i32_4662 c0_i32_4663
  let c1_i32_4664 : BitVec 32 := 1#32
  let v5580 : BitVec 32 := Scalar.select v5579 c1_i32_4664 c16_i32_4662
  let v5581 : BitVec 32 := Scalar.remsi v5578 v5580
  let c0_i32_4666 : BitVec 32 := 0#32
  let v5583 : BitVec 1 := Scalar.cmpi .slt v5581 c0_i32_4666
  let c0_i32_4667 : BitVec 32 := 0#32
  let v5584 : BitVec 1 := Scalar.cmpi .slt v5580 c0_i32_4667
  let v5585 : BitVec 1 := Scalar.xori v5583 v5584
  let c0_i32_4665 : BitVec 32 := 0#32
  let v5582 : BitVec 1 := Scalar.cmpi .ne v5581 c0_i32_4665
  let v5586 : BitVec 1 := Scalar.andi v5585 v5582
  let v5587 : BitVec 32 := Scalar.addi v5581 v5580
  let v5588 : BitVec 32 := Scalar.select v5586 v5587 v5581
  let c0_i32_4764 : BitVec 32 := 0#32
  ![v5588.toNat, 0]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_4661 : BitVec 32 := 1#32
  let v5578 : BitVec 32 := Scalar.addi v64 c1_i32_4661
  let c16_i32_4662 : BitVec 32 := 16#32
  let c0_i32_4663 : BitVec 32 := 0#32
  let v5579 : BitVec 1 := Scalar.cmpi .eq c16_i32_4662 c0_i32_4663
  let c1_i32_4664 : BitVec 32 := 1#32
  let v5580 : BitVec 32 := Scalar.select v5579 c1_i32_4664 c16_i32_4662
  let v5581 : BitVec 32 := Scalar.remsi v5578 v5580
  let c0_i32_4666 : BitVec 32 := 0#32
  let v5583 : BitVec 1 := Scalar.cmpi .slt v5581 c0_i32_4666
  let c0_i32_4667 : BitVec 32 := 0#32
  let v5584 : BitVec 1 := Scalar.cmpi .slt v5580 c0_i32_4667
  let v5585 : BitVec 1 := Scalar.xori v5583 v5584
  let c0_i32_4665 : BitVec 32 := 0#32
  let v5582 : BitVec 1 := Scalar.cmpi .ne v5581 c0_i32_4665
  let v5586 : BitVec 1 := Scalar.andi v5585 v5582
  let v5587 : BitVec 32 := Scalar.addi v5581 v5580
  let v5588 : BitVec 32 := Scalar.select v5586 v5587 v5581
  let c256_i32_4763 : BitVec 32 := 256#32
  let v5748 : BitVec 32 := Scalar.muli v5588 c256_i32_4763
  let c0_i32_4765 : BitVec 32 := 0#32
  ![v5748.toNat, 0]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_4668 : BitVec 32 := 1#32
  let v5589 : BitVec 32 := Scalar.subi v64 c1_i32_4668
  let c16_i32_4669 : BitVec 32 := 16#32
  let c0_i32_4670 : BitVec 32 := 0#32
  let v5590 : BitVec 1 := Scalar.cmpi .eq c16_i32_4669 c0_i32_4670
  let c1_i32_4671 : BitVec 32 := 1#32
  let v5591 : BitVec 32 := Scalar.select v5590 c1_i32_4671 c16_i32_4669
  let v5592 : BitVec 32 := Scalar.remsi v5589 v5591
  let c0_i32_4673 : BitVec 32 := 0#32
  let v5594 : BitVec 1 := Scalar.cmpi .slt v5592 c0_i32_4673
  let c0_i32_4674 : BitVec 32 := 0#32
  let v5595 : BitVec 1 := Scalar.cmpi .slt v5591 c0_i32_4674
  let v5596 : BitVec 1 := Scalar.xori v5594 v5595
  let c0_i32_4672 : BitVec 32 := 0#32
  let v5593 : BitVec 1 := Scalar.cmpi .ne v5592 c0_i32_4672
  let v5597 : BitVec 1 := Scalar.andi v5596 v5593
  let v5598 : BitVec 32 := Scalar.addi v5592 v5591
  let v5599 : BitVec 32 := Scalar.select v5597 v5598 v5592
  let c1_i32_4771 : BitVec 32 := 1#32
  ![v5599.toNat, 1]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let v63 : BitVec 1 := Scalar.cmpi .eq v2 c4_i32_48
  let c15_i32_49 : BitVec 32 := 15#32
  let c8_i32_44 : BitVec 32 := 8#32
  let v59 : BitVec 1 := Scalar.cmpi .eq v2 c8_i32_44
  let c14_i32_45 : BitVec 32 := 14#32
  let c12_i32_40 : BitVec 32 := 12#32
  let v55 : BitVec 1 := Scalar.cmpi .eq v2 c12_i32_40
  let c13_i32_41 : BitVec 32 := 13#32
  let c15_i32_37 : BitVec 32 := 15#32
  let v51 : BitVec 1 := Scalar.cmpi .eq v2 c15_i32_37
  let c12_i32 : BitVec 32 := 12#32
  let c11_i32_34 : BitVec 32 := 11#32
  let v47 : BitVec 1 := Scalar.cmpi .eq v2 c11_i32_34
  let c11_i32_35 : BitVec 32 := 11#32
  let c7_i32_31 : BitVec 32 := 7#32
  let v43 : BitVec 1 := Scalar.cmpi .eq v2 c7_i32_31
  let c10_i32_32 : BitVec 32 := 10#32
  let c3_i32_27 : BitVec 32 := 3#32
  let v39 : BitVec 1 := Scalar.cmpi .eq v2 c3_i32_27
  let c9_i32_28 : BitVec 32 := 9#32
  let c2_i32_24 : BitVec 32 := 2#32
  let v35 : BitVec 1 := Scalar.cmpi .eq v2 c2_i32_24
  let c8_i32 : BitVec 32 := 8#32
  let c6_i32_21 : BitVec 32 := 6#32
  let v31 : BitVec 1 := Scalar.cmpi .eq v2 c6_i32_21
  let c7_i32 : BitVec 32 := 7#32
  let c10_i32_18 : BitVec 32 := 10#32
  let v27 : BitVec 1 := Scalar.cmpi .eq v2 c10_i32_18
  let c6_i32 : BitVec 32 := 6#32
  let c14_i32_15 : BitVec 32 := 14#32
  let v23 : BitVec 1 := Scalar.cmpi .eq v2 c14_i32_15
  let c5_i32_16 : BitVec 32 := 5#32
  let c13_i32_12 : BitVec 32 := 13#32
  let v19 : BitVec 1 := Scalar.cmpi .eq v2 c13_i32_12
  let c4_i32_13 : BitVec 32 := 4#32
  let c9_i32_10 : BitVec 32 := 9#32
  let v15 : BitVec 1 := Scalar.cmpi .eq v2 c9_i32_10
  let c3_i32 : BitVec 32 := 3#32
  let c5_i32_8 : BitVec 32 := 5#32
  let v11 : BitVec 1 := Scalar.cmpi .eq v2 c5_i32_8
  let c2_i32 : BitVec 32 := 2#32
  let c1_i32_5 : BitVec 32 := 1#32
  let v7 : BitVec 1 := Scalar.cmpi .eq v2 c1_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32 v12
  let v20 : BitVec 32 := Scalar.select v19 c4_i32_13 v16
  let v24 : BitVec 32 := Scalar.select v23 c5_i32_16 v20
  let v28 : BitVec 32 := Scalar.select v27 c6_i32 v24
  let v32 : BitVec 32 := Scalar.select v31 c7_i32 v28
  let v36 : BitVec 32 := Scalar.select v35 c8_i32 v32
  let v40 : BitVec 32 := Scalar.select v39 c9_i32_28 v36
  let v44 : BitVec 32 := Scalar.select v43 c10_i32_32 v40
  let v48 : BitVec 32 := Scalar.select v47 c11_i32_35 v44
  let v52 : BitVec 32 := Scalar.select v51 c12_i32 v48
  let v56 : BitVec 32 := Scalar.select v55 c13_i32_41 v52
  let v60 : BitVec 32 := Scalar.select v59 c14_i32_45 v56
  let v64 : BitVec 32 := Scalar.select v63 c15_i32_49 v60
  let c1_i32_4668 : BitVec 32 := 1#32
  let v5589 : BitVec 32 := Scalar.subi v64 c1_i32_4668
  let c16_i32_4669 : BitVec 32 := 16#32
  let c0_i32_4670 : BitVec 32 := 0#32
  let v5590 : BitVec 1 := Scalar.cmpi .eq c16_i32_4669 c0_i32_4670
  let c1_i32_4671 : BitVec 32 := 1#32
  let v5591 : BitVec 32 := Scalar.select v5590 c1_i32_4671 c16_i32_4669
  let v5592 : BitVec 32 := Scalar.remsi v5589 v5591
  let c0_i32_4673 : BitVec 32 := 0#32
  let v5594 : BitVec 1 := Scalar.cmpi .slt v5592 c0_i32_4673
  let c0_i32_4674 : BitVec 32 := 0#32
  let v5595 : BitVec 1 := Scalar.cmpi .slt v5591 c0_i32_4674
  let v5596 : BitVec 1 := Scalar.xori v5594 v5595
  let c0_i32_4672 : BitVec 32 := 0#32
  let v5593 : BitVec 1 := Scalar.cmpi .ne v5592 c0_i32_4672
  let v5597 : BitVec 1 := Scalar.andi v5596 v5593
  let v5598 : BitVec 32 := Scalar.addi v5592 v5591
  let v5599 : BitVec 32 := Scalar.select v5597 v5598 v5592
  let c256_i32_4770 : BitVec 32 := 256#32
  let v5761 : BitVec 32 := Scalar.muli v5599 c256_i32_4770
  let c1024_i32_4772 : BitVec 32 := 1024#32
  ![v5761.toNat, 1024]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S256x1024 : Shape := ⟨2, ![256, 1024]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S4096x1024, .f32⟩
  | .hbm, ⟨57, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Proof.Prog.lean ====
module

public import proofs.«01_k».proof.Proof.Gen.KernelIdeal.Skeleton

@[expose] public section

noncomputable section

namespace Cert.Slice

open Idealize.ShloMosaic Idealize.ShloMosaic.TcCoe Idealize.SL.Sem
open Cert.KernelIdeal Cert.KernelIdeal.Gen

variable {F : FTy → Type} [FloatOps F]

/-- Programs of the TensorCore that return nothing. -/
abbrev PU (F : FTy → Type) := Prog (TpuEff nD τ sig (Elt F) Λ₀ .tc) PUnit

/-! ## The buffers and the pieces of them the kernel names

`b = true` is the clockwise half of the columns (`0 … 1023`), `b = false` the other. -/

abbrev yM : Memref sig .tc .vmem S4096x2048 .f32 := Memref.whole cc0_scratch0
abbrev axM : Memref sig .tc .vmem S16x8x128 .f32 := Memref.whole cc0_scratch5

/-- The landing buffer of a direction. -/
abbrev cM (b : Bool) : Memref sig .tc .vmem S2x256x1024 .f32 :=
  match b with | true => Memref.whole cc0_scratch1 | false => Memref.whole cc0_scratch2

/-- The neighbour a direction's copies go to. -/
def nx (b : Bool) (d : Dev nD) : Dev nD :=
  match b with | true => ⟨k0_dev3 d, k0_dev3_lt d⟩ | false => ⟨k0_dev4 d, k0_dev4_lt d⟩

/-- Rows of the chunk a hop sends, one half-chunk. -/
def oS (b : Bool) (d : Dev nD) (h : Fin 15) (j : Fin 2) : Fin 2 → Nat :=
  match b with
  | true => k0_off4 d (BitVec.ofNat 32 h.val) (BitVec.ofNat 32 (128 * j.val))
  | false => k0_off5 d (BitVec.ofNat 32 h.val) (BitVec.ofNat 32 (128 * j.val))
/-- Rows of the chunk a hop adds into, one half-chunk. -/
def oR (b : Bool) (d : Dev nD) (h : Fin 15) (j : Fin 2) : Fin 2 → Nat :=
  match b with
  | true => k0_off10 d (BitVec.ofNat 32 h.val) (BitVec.ofNat 32 (128 * j.val))
  | false => k0_off11 d (BitVec.ofNat 32 h.val) (BitVec.ofNat 32 (128 * j.val))
theorem oS_inb (b : Bool) (d : Dev nD) (h : Fin 15) (j : Fin 2) : ∀ a, oS b d h j a + S128x1024.size a ≤ S4096x2048.size a :=
  match b with | true => k0_off4_inb d h j | false => k0_off5_inb d h j
theorem oR_inb (b : Bool) (d : Dev nD) (h : Fin 15) (j : Fin 2) : ∀ a, oR b d h j a + S128x1024.size a ≤ S4096x2048.size a :=
  match b with | true => k0_off10_inb d h j | false => k0_off11_inb d h j

/-- Rows of `x` the `t`-th product of a direction reads. -/
def oX (b : Bool) (d : Dev nD) (t : Fin 16) : Fin 2 → Nat :=
  match t, b with
  | ⟨0, _⟩, _ => k0_off1 d
  | ⟨1, _⟩, true => k0_off6 d
  | ⟨1, _⟩, false => k0_off8 d
  | ⟨t + 2, _⟩, true => k0_off12 d (BitVec.ofNat 32 t)
  | ⟨t + 2, _⟩, false => k0_off14 d (BitVec.ofNat 32 t)
/-- Where in `y` the `t`-th product of a direction is stored. -/
def oY (b : Bool) (d : Dev nD) (t : Fin 16) : Fin 2 → Nat :=
  match t, b with
  | ⟨0, _⟩, true => k0_off2 d
  | ⟨0, _⟩, false => k0_off3 d
  | ⟨1, _⟩, true => k0_off7 d
  | ⟨1, _⟩, false => k0_off9 d
  | ⟨t + 2, _⟩, true => k0_off13 d (BitVec.ofNat 32 t)
  | ⟨t + 2, _⟩, false => k0_off15 d (BitVec.ofNat 32 t)
theorem oX_inb (b : Bool) (d : Dev nD) (t : Fin 16) : ∀ a, oX b d t a + S256x256.size a ≤ S4096x256.size a :=
  match t, b with
  | ⟨0, _⟩, _ => k0_off1_inb d
  | ⟨1, _⟩, true => k0_off6_inb d
  | ⟨1, _⟩, false => k0_off8_inb d
  | ⟨t + 2, h⟩, true => k0_off12_inb d ⟨t, by omega⟩
  | ⟨t + 2, h⟩, false => k0_off14_inb d ⟨t, by omega⟩
theorem oY_inb (b : Bool) (d : Dev nD) (t : Fin 16) : ∀ a, oY b d t a + S256x1024.size a ≤ S4096x2048.size a :=
  match t, b with
  | ⟨0, _⟩, true => k0_off2_inb d
  | ⟨0, _⟩, false => k0_off3_inb d
  | ⟨1, _⟩, true => k0_off7_inb d
  | ⟨1, _⟩, false => k0_off9_inb d
  | ⟨t + 2, h⟩, true => k0_off13_inb d ⟨t, by omega⟩
  | ⟨t + 2, h⟩, false => k0_off15_inb d ⟨t, by omega⟩

/-- Columns of `w` a direction multiplies by. -/
def oW (b : Bool) : Fin 2 → Nat := match b with | true => ![0, 0] | false => ![0, 1024]
theorem oW_inb (b : Bool) : ∀ a, oW b a + S256x1024.size a ≤ S256x2048.size a := by revert b; decide

theorem c_inb (s j : Fin 2) : ∀ a, (![s.val, 128 * j.val, 0] : Fin 3 → Nat) a + S1x128x1024.size a ≤ S2x256x1024.size a := by
  revert s j; decide
theorem s22_inb (s j : Fin 2) : ∀ a, (![s.val, j.val] : Fin 2 → Nat) a + S1x1.size a ≤ S2x2.size a := by revert s j; decide
theorem s16_inb (p : Fin 16) : ∀ a, (![p.val] : Fin 1 → Nat) a + S1.size a ≤ S16.size a := by revert p; decide
theorem ax_inb (p : Fin 16) : ∀ a, (![p.val, 0, 0] : Fin 3 → Nat) a + S1x8x128.size a ≤ S16x8x128.size a := by revert p; decide

/-- The half-chunk of `y` a hop sends. -/
abbrev yS (b : Bool) (d : Dev nD) (h : Fin 15) (j : Fin 2) : Memref sig .tc .vmem S128x1024 .f32 :=
  yM.slice (Rect.unit (s := S4096x2048) (oS b d h j) S128x1024.size (oS_inb b d h j)) (fun _ => rfl)
/-- The half of a landing slot a hop fills. -/
abbrev cS (b : Bool) (s j : Fin 2) : Memref sig .tc .vmem S128x1024 .f32 :=
  ((cM b).slice (Rect.unit (s := S2x256x1024) ![s.val, 128 * j.val, 0] S1x128x1024.size (c_inb s j)) (fun _ => rfl)).squeeze S128x1024
    squeezes_S1x128x1024_S128x1024
/-- The send semaphores of a direction. -/
abbrev sSem (b : Bool) (s j : Fin 2) : DmaSem sig :=
  (((match b with | true => cc0_scratch6 | false => cc0_scratch8 : DmaSems sig S2x2).slice
    (Rect.unit (s := S2x2) ![s.val, j.val] S1x1.size (s22_inb s j))).squeeze S_ squeezes_S1x1_S_).sem
/-- The receive semaphores of a direction. -/
abbrev rSem (b : Bool) (s j : Fin 2) : DmaSem sig :=
  (((match b with | true => cc0_scratch7 | false => cc0_scratch9 : DmaSems sig S2x2).slice
    (Rect.unit (s := S2x2) ![s.val, j.val] S1x1.size (s22_inb s j))).squeeze S_ squeezes_S1x1_S_).sem

/-- The parity of a hop. -/
def par (h : Fin 15) : Fin 2 := ⟨h.val % 2, Nat.mod_lt _ (by decide)⟩

/-! ## The blocks, each before the rest `k` of the program -/

/-- Start one hop's copy of a half-chunk. -/
def sendP (b : Bool) (d : Dev nD) (h : Fin 15) (j : Fin 2) (k : PU F) : PU F :=
  .op (.enqueueDma (yS b d h j) (.remote (Dev.tc (nx b d)) (cS b (par h) j) (.dma (sSem b (par h) j))) (.dma (rSem b (par h) j))
    (View.wordExact_bits rfl) ((View.wordExact_bits rfl).reshape _ _) ⟨⟨rfl, Or.inl rfl⟩, trivial⟩) fun _ => k
/-- Wait for one hop's half-chunk to land. -/
def waitRP (b : Bool) (d : Dev nD) (h : Fin 15) (j : Fin 2) (k : PU F) : PU F :=
  .op (.waitDma2 (rSem b (par h) j) (yS b d h j) (cS b (par h) j) (View.wordExact_bits rfl) ((View.wordExact_bits rfl).reshape _ _)) fun _ => k
/-- Wait for one hop's own copy to be sent. -/
def waitSP (b : Bool) (d : Dev nD) (h : Fin 15) (j : Fin 2) (k : PU F) : PU F :=
  .op (.waitDma2 (sSem b (par h) j) (cS b (par h) j) (yS b d h j) ((View.wordExact_bits rfl).reshape _ _) (View.wordExact_bits rfl)) fun _ => k

/-- The rectangle of `y` a hop adds into, one half-chunk. -/
abbrev rR (b : Bool) (d : Dev nD) (h : Fin 15) (j : Fin 2) : Rect S4096x2048 :=
  Rect.unit (s := S4096x2048) (oR b d h j) S128x1024.size (oR_inb b d h j)
/-- The rectangle of a landing buffer a hop fills, one half-chunk. -/
abbrev rC (s j : Fin 2) : Rect S2x256x1024 :=
  Rect.unit (s := S2x256x1024) ![s.val, 128 * j.val, 0] S1x128x1024.size (c_inb s j)

/-- Read a half-chunk of `y`. -/
def loadYP (b : Bool) (d : Dev nD) (h : Fin 15) (j : Fin 2) (k : Vec F S128x1024 .f32 → PU F) : PU F :=
  .op (.load yM (rR b d h j).toLoadRect (View.loadsAt_vmem h_S128x1024)) k
/-- Read a landed half-chunk. -/
def loadCP (b : Bool) (s j : Fin 2) (k : Vec F S1x128x1024 .f32 → PU F) : PU F :=
  .op (.load (cM b) (rC s j).toLoadRect (View.loadsAt_vmem h_S1x128x1024)) k
/-- Store a half-chunk of `y`. -/
def storeYP (b : Bool) (d : Dev nD) (h : Fin 15) (j : Fin 2) (v : FVec F S128x1024 .f32) (k : PU F) : PU F :=
  .op (.store yM (rR b d h j) v Finset.univ (View.stores_vmem_bits_univ h_S128x1024 rfl) (.inl rfl)) fun _ => k

/-- A half-chunk plus the landed one. -/
def addV (a : Vec F S128x1024 .f32) (c : Vec F S1x128x1024 .f32) : FVec F S128x1024 .f32 :=
  addf a (shapeCast S128x1024 c shapeCasts_S1x128x1024_S128x1024)
/-- What the last hop stores: the sum cut below at nought. -/
def reluV (a : FVec F S128x1024 .f32) : FVec F S128x1024 .f32 :=
  maximumf a (broadcast S128x1024 (Scalar.ofBits .f32 0x00000000#32))
/-- The largest entry of a half-chunk. -/
def maxV (a : FVec F S128x1024 .f32) : F .f32 :=
  extractAt ![0, 0, 0] (shapeCast S1x1x1 (multiReduction .maximumf [1, 2] S1 (shapeCast S1x128x1024 a shapeCasts_S128x1024_S1x128x1024)
    0xFF800000#32 reduces_S1x128x1024_S1 (.inl rfl) rfl) shapeCasts_S1_S1x1x1) inpos_S1x1x1_p0_0_0
abbrev castV (a : FVec F S128x1024 .f32) : FVec F S128x1024 .f32 := shapeCast S128x1024 a shapeCasts_S128x1024_S128x1024

/-- One hop's two half-chunks are waited for, added (and passed through `g`) and stored. -/
def recvP (d : Dev nD) (h : Fin 15) (j : Fin 2) (g : FVec F S128x1024 .f32 → FVec F S128x1024 .f32)
    (k : FVec F S128x1024 .f32 → FVec F S128x1024 .f32 → PU F) : PU F :=
  waitRP true d h j <| waitRP false d h j <|
  loadYP true d h j fun a₁ => loadCP true (par h) j fun c₁ =>
  loadYP false d h j fun a₂ => loadCP false (par h) j fun c₂ =>
  loadYP true d h j fun _ => storeYP true d h j (castV (g (addV a₁ c₁))) <|
  loadYP false d h j fun _ => storeYP false d h j (castV (g (addV a₂ c₂))) <|
  k (g (addV a₁ c₁)) (g (addV a₂ c₂))

/-- One chunk's product. -/
def prodV (x : Vec F S256x256 .f32) (w : Vec F S256x1024 .f32) : FVec F S256x1024 .f32 :=
  shapeCast S256x1024 (matmul dot_S256x256_S256x1024_S256x1024_1_0_0_1_n_n none (shapeCast S256x256 x shapeCasts_S256x256_S256x256)
    (shapeCast S256x1024 w shapeCasts_S256x1024_S256x1024) (constant S256x1024 .f32 0x00000000#32)) shapeCasts_S256x1024_S256x1024

section Body

variable (xM : Memref sig .tc .vmem S4096x256 .f32) (wM : Memref sig .tc .vmem S256x2048 .f32)

/-- One chunk's product, computed and stored. -/
def gemmP (b : Bool) (d : Dev nD) (t : Fin 16) (k : PU F) : PU F :=
  .op (.load xM (Rect.unit (s := S4096x256) (oX b d t) S256x256.size (oX_inb b d t)).toLoadRect (View.loadsAt_vmem h_S256x256)) fun x =>
  .op (.load wM (Rect.unit (s := S256x2048) (oW b) S256x1024.size (oW_inb b)).toLoadRect (View.loadsAt_vmem h_S256x1024)) fun w =>
  .op (.load yM (Rect.unit (s := S4096x2048) (oY b d t) S256x1024.size (oY_inb b d t)).toLoadRect (View.loadsAt_vmem h_S256x1024)) fun _ =>
  .op (.store yM (Rect.unit (s := S4096x2048) (oY b d t) S256x1024.size (oY_inb b d t)) (prodV x w) Finset.univ
    (View.stores_vmem_bits_univ h_S256x1024 rfl) (.inl rfl)) fun _ => k

/-- The first hop's receive, and the second hop's sends. -/
def hop0P (d : Dev nD) (k : PU F) : PU F :=
  recvP d 0 0 id fun _ _ => sendP true d 1 0 <| sendP false d 1 0 <|
  recvP d 0 1 id fun _ _ => sendP true d 1 1 <| sendP false d 1 1 <|
  gemmP xM wM true d 2 <| gemmP xM wM false d 2 k

/-- A middle hop's receive (hop `h + 1`), the wait for hop `h`'s own copies, and the sends of hop `h + 2`. -/
def hopP (d : Dev nD) (h : Fin 13) (k : PU F) : PU F :=
  let h₀ : Fin 15 := ⟨h.val, by omega⟩
  let h₁ : Fin 15 := ⟨h.val + 1, by omega⟩
  let h₂ : Fin 15 := ⟨h.val + 2, by omega⟩
  let t : Fin 16 := ⟨h.val + 3, by omega⟩
  recvP d h₁ 0 id fun _ _ => waitSP true d h₀ 0 <| waitSP false d h₀ 0 <| sendP true d h₂ 0 <| sendP false d h₂ 0 <|
  recvP d h₁ 1 id fun _ _ => waitSP true d h₀ 1 <| waitSP false d h₀ 1 <| sendP true d h₂ 1 <| sendP false d h₂ 1 <|
  gemmP xM wM true d t <| gemmP xM wM false d t k

end Body

/-! ## The last hop, the exchange of the largest entries, the quantiser -/

/-- The device at a ring position. -/
def ringDev : Fin 16 → Dev nD := ![0, 1, 5, 9, 13, 14, 10, 6, 2, 3, 7, 11, 15, 12, 8, 4]

/-- Whether position `p` is another device's (as the kernel computes it). -/
def axCond (p : Fin 16) (d : Dev nD) : BitVec 1 :=
  (![k0_cond1, k0_cond2, k0_cond3, k0_cond4, k0_cond5, k0_cond6, k0_cond7, k0_cond8, k0_cond9, k0_cond10, k0_cond11, k0_cond12, k0_cond13,
    k0_cond14, k0_cond15, k0_cond16] : Fin 16 → Dev nD → BitVec 1) p d

theorem ax17_inb : ∀ d : Dev nD, ∀ a, k0_off17 d a + S1.size a ≤ S16.size a := by decide +kernel
theorem ax18_inb : ∀ d : Dev nD, ∀ a, k0_off18 d a + S1x8x128.size a ≤ S16x8x128.size a := by decide +kernel

/-- The device's own slot of the exchange. -/
abbrev axOwn (d : Dev nD) : Memref sig .tc .vmem S8x128 .f32 :=
  (axM.slice (Rect.unit (s := S16x8x128) (k0_off18 d) S1x8x128.size (ax18_inb d)) (fun _ => rfl)).squeeze S8x128 squeezes_S1x8x128_S8x128
/-- The slot of position `p`. -/
abbrev axSlot (p : Fin 16) : Memref sig .tc .vmem S8x128 .f32 :=
  (axM.slice (Rect.unit (s := S16x8x128) ![p.val, 0, 0] S1x8x128.size (ax_inb p)) (fun _ => rfl)).squeeze S8x128 squeezes_S1x8x128_S8x128
/-- The send semaphore for position `p`. -/
abbrev axS (p : Fin 16) : DmaSem sig :=
  ((cc0_scratch10.slice (Rect.unit (s := S16) ![p.val] S1.size (s16_inb p))).squeeze S_ squeezes_S1_S_).sem
/-- The receive semaphore for position `p`. -/
abbrev axR (p : Fin 16) : DmaSem sig :=
  ((cc0_scratch11.slice (Rect.unit (s := S16) ![p.val] S1.size (s16_inb p))).squeeze S_ squeezes_S1_S_).sem
/-- The receive semaphore the device raises at its peers. -/
abbrev axRown (d : Dev nD) : DmaSem sig :=
  ((cc0_scratch11.slice (Rect.unit (s := S16) (k0_off17 d) S1.size (ax17_inb d))).squeeze S_ squeezes_S1_S_).sem

/-- Send the device's largest entry to position `p`, unless that is its own, then `k`. -/
def axSendP {α : Type} (p : Fin 16) (d : Dev nD) (k : Prog (TpuEff nD τ sig (Elt F) Λ₀ .tc) α) : Prog (TpuEff nD τ sig (Elt F) Λ₀ .tc) α :=
  if _ : axCond p d = 1#1 then
    .op (.enqueueDma (axOwn d) (.remote (Dev.tc (ringDev p)) (axOwn d) (.dma (axS p))) (.dma (axRown d))
      ((View.wordExact_bits rfl).reshape _ _) ((View.wordExact_bits rfl).reshape _ _) ⟨⟨rfl, Or.inl rfl⟩, trivial⟩) fun _ => k
  else k
/-- Wait for that copy and for position `p`'s, where the word `c` is set, then `k`. -/
def axWaitP {α : Type} (p : Fin 16) (c : BitVec 1) (k : Prog (TpuEff nD τ sig (Elt F) Λ₀ .tc) α) : Prog (TpuEff nD τ sig (Elt F) Λ₀ .tc) α :=
  if _ : c = 1#1 then
    .op (.waitDma2 (axS p) (axSlot p) (axSlot p) ((View.wordExact_bits rfl).reshape _ _) ((View.wordExact_bits rfl).reshape _ _)) fun _ =>
    .op (.waitDma2 (axR p) (axSlot p) (axSlot p) ((View.wordExact_bits rfl).reshape _ _) ((View.wordExact_bits rfl).reshape _ _)) fun _ => k
  else k

theorem axSendP_bind {α β : Type} (p : Fin 16) (d : Dev nD) (k : Prog (TpuEff nD τ sig (Elt F) Λ₀ .tc) α)
    (K : α → Prog (TpuEff nD τ sig (Elt F) Λ₀ .tc) β) : axSendP p d k >>= K = axSendP p d (k >>= K) := by
  unfold axSendP; split <;> rfl
theorem axWaitP_bind {α β : Type} (p : Fin 16) (c : BitVec 1) (k : Prog (TpuEff nD τ sig (Elt F) Λ₀ .tc) α)
    (K : α → Prog (TpuEff nD τ sig (Elt F) Λ₀ .tc) β) : axWaitP p c k >>= K = axWaitP p c (k >>= K) := by
  unfold axWaitP; split <;> rfl

/-- The own slot's value: the largest of the four half-chunks' largest entries. -/
def ownMaxV (a b c e : F .f32) : FVec F S1x8x128 .f32 :=
  shapeCast S1x8x128 (broadcast S8x128 (Scalar.maximumf (Scalar.maximumf (Scalar.maximumf a b) c) e)) shapeCasts_S8x128_S1x8x128
/-- The largest entry of all. -/
def allMaxV (v : Vec F S16x8x128 .f32) : F .f32 :=
  extractAt ![0, 0, 0, 0] (shapeCast S1x1x1x1 (multiReduction .maximumf [1, 2, 3] S1 (shapeCast S1x16x8x128 v shapeCasts_S16x8x128_S1x16x8x128)
    0xFF800000#32 reduces_S1x16x8x128_S1 (.inl rfl) rfl) shapeCasts_S1_S1x1x1x1) inpos_S1x1x1x1_p0_0_0_0
abbrev invV (v : Vec F S16x8x128 .f32) : F .f32 := Scalar.divf (Scalar.ofBits .f32 0x42FE0000#32) (allMaxV v)
abbrev scaleV (v : Vec F S16x8x128 .f32) : F .f32 := Scalar.divf (allMaxV v) (Scalar.ofBits .f32 0x42FE0000#32)
/-- A chunk quantised. -/
def quantV (i : F .f32) (y : Vec F S256x1024 .f32) : IVec S256x1024 8 :=
  shapeCast S256x1024 (fptosi 8 (minimumf (broadcast S256x1024 (Scalar.ofBits .f32 0x42FE0000#32))
    (maximumf (broadcast S256x1024 (Scalar.ofBits .f32 0xC2FE0000#32)) (roundeven (mulf y (broadcast S256x1024 i)))))) shapeCasts_S256x1024_S256x1024
/-- A chunk read back. -/
def dequantV (s : F .f32) (q : Vec F S256x1024 .i8) : FVec F S256x1024 .f32 :=
  shapeCast S256x1024 (mulf (sitofp .f32 q) (broadcast S256x1024 s)) shapeCasts_S256x1024_S256x1024

/-- Where the device's own chunk of a direction lies in `y`. -/
def oO (b : Bool) (d : Dev nD) : Fin 2 → Nat := match b with | true => k0_off49 d | false => k0_off50 d
theorem oO_inb (b : Bool) (d : Dev nD) : ∀ a, oO b d a + S256x1024.size a ≤ S4096x2048.size a :=
  match b with | true => k0_off49_inb d | false => k0_off50_inb d
abbrev rO (b : Bool) (d : Dev nD) : Rect S4096x2048 := Rect.unit (s := S4096x2048) (oO b d) S256x1024.size (oO_inb b d)
def oD (b : Bool) (d : Dev nD) : Fin 2 → Nat := match b with | true => k0_off52 d | false => k0_off54 d
theorem oD_inb (b : Bool) (d : Dev nD) : ∀ a, oD b d a + S256x1024.size a ≤ S4096x2048.size a :=
  match b with | true => k0_off52_inb d | false => k0_off54_inb d
/-- The own chunk, as the copy out names it. -/
abbrev yD (b : Bool) (d : Dev nD) : Memref sig .tc .vmem S256x1024 .f32 :=
  yM.slice (Rect.unit (s := S4096x2048) (oD b d) S256x1024.size (oD_inb b d)) (fun _ => rfl)
def oT (b : Bool) (d : Dev nD) : Fin 2 → Nat := match b with | true => k0_off51 d | false => k0_off53 d
theorem oT_inb (b : Bool) (d : Dev nD) : ∀ a, oT b d a + S1x1.size a ≤ S16x2.size a :=
  match b with | true => k0_off51_inb d | false => k0_off53_inb d
/-- The semaphore of the copy out. -/
abbrev stSem (b : Bool) (d : Dev nD) : DmaSem sig :=
  ((cc0_scratch12.slice (Rect.unit (s := S16x2) (oT b d) S1x1.size (oT_inb b d))).squeeze S_ squeezes_S1x1_S_).sem
/-- The result buffer of a direction. -/
abbrev oM (b : Bool) : Memref sig .tc .hbm S256x1024 .f32 := match b with | true => Memref.whole main_v1_0 | false => Memref.whole main_v1_1
theorem oM_whole (b : Bool) : (oM b).IsWhole := match b with | true => Memref.isWhole_whole _ | false => Memref.isWhole_whole _
/-- The int8 buffer of a direction. -/
abbrev qM (b : Bool) : Memref sig .tc .vmem S256x1024 .i8 := match b with | true => Memref.whole cc0_scratch3 | false => Memref.whole cc0_scratch4
theorem qM_whole (b : Bool) : (qM b).IsWhole := match b with | true => Memref.isWhole_whole _ | false => Memref.isWhole_whole _

abbrev rQ : Rect S256x1024 := Rect.unit (s := S256x1024) ![0, 0] S256x1024.size inb_S256x1024_S256x1024_0_0

def loadOP (b : Bool) (d : Dev nD) (k : Vec F S256x1024 .f32 → PU F) : PU F :=
  .op (.load yM (rO b d).toLoadRect (View.loadsAt_vmem h_S256x1024)) k
def storeOP (b : Bool) (d : Dev nD) (v : FVec F S256x1024 .f32) (k : PU F) : PU F :=
  .op (.store yM (rO b d) v Finset.univ (View.stores_vmem_bits_univ h_S256x1024 rfl) (.inl rfl)) fun _ => k
def loadQP (b : Bool) (k : Vec F S256x1024 .i8 → PU F) : PU F :=
  .op (.load (qM b) rQ.toLoadRect (View.loadsAt_vmem h_S256x1024)) k
def storeQP (b : Bool) (v : IVec S256x1024 8) (k : PU F) : PU F :=
  .op (.store (qM b) rQ v Finset.univ (View.stores_vmem h_S256x1024 ((qM_whole b).storeExact_slice rfl _ packedi8_S256x1024_S256x1024_0_0) (fun _ => rfl))
    (.inl rfl)) fun _ => k
def copyOP (b : Bool) (d : Dev nD) (k : PU F) : PU F :=
  .op (.enqueueDma (yD b d) (.here (oM b)) (.dma (stSem b d)) (View.wordExact_bits rfl) (oM_whole b).wordExact ⟨Or.inl rfl, trivial⟩) fun _ => k
def waitOP (b : Bool) (d : Dev nD) (k : PU F) : PU F :=
  .op (.waitDma2 (stSem b d) (yD b d) (oM b) (View.wordExact_bits rfl) (oM_whole b).wordExact) fun _ => k

/-- The quantiser, the own chunk read back, and the copies out. -/
def quantP (d : Dev nD) : PU F :=
  .op (.load axM (Rect.unit (s := S16x8x128) ![0, 0, 0] S16x8x128.size inb_S16x8x128_S16x8x128_0_0_0).toLoadRect (View.loadsAt_vmem h_S16x8x128)) fun v =>
  loadOP true d fun y₁ => loadQP true fun _ => storeQP true (quantV (invV v) y₁) <|
  loadOP false d fun y₂ => loadQP false fun _ => storeQP false (quantV (invV v) y₂) <|
  loadQP true fun q₁ => loadOP true d fun _ => storeOP true d (dequantV (scaleV v) q₁) <|
  copyOP true d <|
  loadQP false fun q₂ => loadOP false d fun _ => storeOP false d (dequantV (scaleV v) q₂) <|
  copyOP false d <| waitOP true d <| waitOP false d <| .ret ⟨⟩

/-- The device's largest entry put in its own slot. -/
def ownMaxP {α : Type} (d : Dev nD) (v : FVec F S1x8x128 .f32) (k : Prog (TpuEff nD τ sig (Elt F) Λ₀ .tc) α) :
    Prog (TpuEff nD τ sig (Elt F) Λ₀ .tc) α :=
  .op (.load axM (Rect.unit (s := S16x8x128) (k0_off16 d) S1x8x128.size (k0_off16_inb d)).toLoadRect (View.loadsAt_vmem h_S1x8x128)) fun _ =>
  .op (.store axM (Rect.unit (s := S16x8x128) (k0_off16 d) S1x8x128.size (k0_off16_inb d)) v Finset.univ
    (View.stores_vmem_bits_univ h_S1x8x128 rfl) (.inl rfl)) fun _ => k

theorem ownMaxP_bind {α β : Type} (d : Dev nD) (v : FVec F S1x8x128 .f32) (k : Prog (TpuEff nD τ sig (Elt F) Λ₀ .tc) α)
    (K : α → Prog (TpuEff nD τ sig (Elt F) Λ₀ .tc) β) : ownMaxP d v k >>= K = ownMaxP d v (k >>= K) := rfl

/-- From the last hop's receive on. -/
def lastP (d : Dev nD) : PU F :=
  recvP d 14 0 reluV fun a b => recvP d 14 1 reluV fun c e =>
  waitSP true d 13 0 <| waitSP false d 13 0 <| waitSP true d 13 1 <| waitSP false d 13 1 <|
  waitSP true d 14 0 <| waitSP false d 14 0 <| waitSP true d 14 1 <| waitSP false d 14 1 <|
  ownMaxP d (ownMaxV (maxV a) (maxV b) (maxV c) (maxV e)) <|
  (List.finRange 16).foldr (fun p k => axSendP p d k) <| (List.finRange 16).foldr (fun p k => axWaitP p (axCond p d) k) <|
  quantP d

/-- From the first product on. -/
def workP (xM : Memref sig .tc .vmem S4096x256 .f32) (wM : Memref sig .tc .vmem S256x2048 .f32) (d : Dev nD) : PU F :=
  gemmP xM wM true d 0 <| gemmP xM wM false d 0 <|
  sendP true d 0 0 <| sendP false d 0 0 <| sendP true d 0 1 <| sendP false d 0 1 <|
  gemmP xM wM true d 1 <| gemmP xM wM false d 1 <|
  hop0P xM wM d <| (List.finRange 13).foldr (fun h k => hopP xM wM d h k) (lastP d)

/-- The barrier semaphore. -/
abbrev barS : Fin sig.nSem := sig.barrier 0 rfl

/-- The whole body. -/
def bodyP (xM : Memref sig .tc .vmem S4096x256 .f32) (wM : Memref sig .tc .vmem S256x2048 .f32) : PU F :=
  .op .deviceId fun d : Dev nD =>
  semSignalWord (⟨k0_dev1 d, k0_dev1_lt d⟩ : Dev nD) barS 1#32 >>= fun _ =>
  semSignalWord (⟨k0_dev2 d, k0_dev2_lt d⟩ : Dev nD) barS 1#32 >>= fun _ =>
  semWaitWord barS 2#32 >>= fun _ => workP xM wM d

end Cert.Slice
-- ==== Proof.Ring.lean ====
module

public import proofs.«01_k».proof.Proof.Prog
public import Idealize.ShloMosaic.Lib.Decide

@[expose] public section

noncomputable section

namespace Cert.Slice

open Idealize.ShloMosaic Idealize.ShloMosaic.TcCoe Idealize.SL.Sem
open Cert.KernelIdeal Cert.KernelIdeal.Gen

/-! ## Positions on the ring

A device is named by its position `0 … 15` on the ring; `ringDev` is the device at a position. -/

/-- The position of a device. -/
def pos : Dev nD → Fin 16 := ![0, 1, 8, 9, 15, 2, 7, 10, 14, 3, 6, 11, 13, 4, 5, 12]

theorem dev_pos : ∀ c : Dev nD, ringDev (pos c) = c := by decide
theorem pos_dev : ∀ p : Fin 16, pos (ringDev p) = p := by decide

/-- Devices and positions are the same thing twice. -/
def posEquiv : Dev nD ≃ Fin 16 := ⟨pos, ringDev, dev_pos, pos_dev⟩

/-- The position a direction's copies go to. -/
def nxt (b : Bool) (p : Fin 16) : Fin 16 := match b with | true => p + 1 | false => p - 1
/-- The chunk of the rows a direction handles at step `t`. -/
def ch (b : Bool) (p t : Fin 16) : Fin 16 := match b with | true => p - t | false => p + t

theorem nxt_not : ∀ (b : Bool) (p : Fin 16), nxt b (nxt (!b) p) = p := by decide
theorem ch_nxt : ∀ (b : Bool) (p : Fin 16) (h : Fin 15), ch b (nxt b p) h.succ = ch b p h.castSucc := by decide +kernel
theorem ch_inj : ∀ (b : Bool) (p t t' : Fin 16), ch b p t = ch b p t' → t = t' := by decide +kernel

theorem nx_eq : ∀ (b : Bool) (c : Dev nD), nx b c = ringDev (nxt b (pos c)) := by decide +kernel
theorem nx_not (b : Bool) (c : Dev nD) : nx b (nx (!b) c) = c := by
  rw [nx_eq b, nx_eq (!b), pos_dev, nxt_not, dev_pos]
theorem nx_not' (b : Bool) (c : Dev nD) : nx (!b) (nx b c) = c := by
  have := nx_not (!b) c; rwa [Bool.not_not] at this
theorem pos_nx (b : Bool) (c : Dev nD) : pos (nx b c) = nxt b (pos c) := by rw [nx_eq, pos_dev]
theorem dev1_eq : ∀ c : Dev nD, (⟨k0_dev1 c, k0_dev1_lt c⟩ : Dev nD) = nx false c := by decide +kernel
theorem dev2_eq : ∀ c : Dev nD, (⟨k0_dev2 c, k0_dev2_lt c⟩ : Dev nD) = nx true c := by decide +kernel

/-- Going one step round the ring, as a bijection of the devices. -/
def nxEquiv (b : Bool) : Dev nD ≃ Dev nD := ⟨nx b, nx (!b), nx_not' b, nx_not b⟩

/-! ## The pieces of the buffers, by chunk -/

/-- A direction's first column. -/
def col (b : Bool) : ℕ := match b with | true => 0 | false => 1024
/-- Where the half-chunk `(c, j)` of a direction lies. -/
def oP (b : Bool) (c : Fin 16) (j : Fin 2) : Fin 2 → Nat := ![256 * c.val + 128 * j.val, col b]
/-- Where the chunk `c` of a direction lies. -/
def oQ (b : Bool) (c : Fin 16) : Fin 2 → Nat := ![256 * c.val, col b]

theorem oP_inb : ∀ (b : Bool) (c : Fin 16) (j : Fin 2), ∀ a, oP b c j a + S128x1024.size a ≤ S4096x2048.size a := by decide +kernel
theorem oQ_inb : ∀ (b : Bool) (c : Fin 16), ∀ a, oQ b c a + S256x1024.size a ≤ S4096x2048.size a := by decide +kernel
theorem oXc_inb : ∀ c : Fin 16, ∀ a, (![256 * c.val, 0] : Fin 2 → Nat) a + S256x256.size a ≤ S4096x256.size a := by decide +kernel

theorem oS_eq : ∀ (b : Bool) (d : Dev nD) (h : Fin 15) (j : Fin 2), oS b d h j = oP b (ch b (pos d) h.castSucc) j := by decide +kernel
theorem oR_eq : ∀ (b : Bool) (d : Dev nD) (h : Fin 15) (j : Fin 2), oR b d h j = oP b (ch b (pos d) h.succ) j := by decide +kernel
theorem oX_eq : ∀ (b : Bool) (d : Dev nD) (t : Fin 16), oX b d t = ![256 * (ch b (pos d) t).val, 0] := by decide +kernel
theorem oY_eq : ∀ (b : Bool) (d : Dev nD) (t : Fin 16), oY b d t = oQ b (ch b (pos d) t) := by decide +kernel
theorem oO_eq : ∀ (b : Bool) (d : Dev nD), oO b d = oQ b (ch b (pos d) 15) := by decide +kernel
theorem oD_eq : ∀ (b : Bool) (d : Dev nD), oD b d = oQ b (ch b (pos d) 15) := by decide +kernel
theorem oT_eq : ∀ (b : Bool) (d : Dev nD), oT b d = ![(ch b (pos d) 15).val, cond b 0 1] := by decide +kernel
theorem off16_eq : ∀ d : Dev nD, k0_off16 d = ![(pos d).val, 0, 0] := by decide +kernel
theorem off17_eq : ∀ d : Dev nD, k0_off17 d = ![(pos d).val] := by decide +kernel
theorem off18_eq : ∀ d : Dev nD, k0_off18 d = ![(pos d).val, 0, 0] := by decide +kernel
theorem axCond_eq : ∀ (p : Fin 16) (d : Dev nD), axCond p d = if p = pos d then 0#1 else 1#1 := by decide +kernel

/-- A half-chunk of `y`. -/
abbrev yP (b : Bool) (c : Fin 16) (j : Fin 2) : Memref sig .tc .vmem S128x1024 .f32 :=
  yM.slice (Rect.unit (s := S4096x2048) (oP b c j) S128x1024.size (oP_inb b c j)) (fun _ => rfl)
/-- A chunk of `y`. -/
abbrev yQ (b : Bool) (c : Fin 16) : Memref sig .tc .vmem S256x1024 .f32 :=
  yM.slice (Rect.unit (s := S4096x2048) (oQ b c) S256x1024.size (oQ_inb b c)) (fun _ => rfl)

theorem slice_congr {sp : Space} {s : Shape} {e : EltTy} (m : Memref sig .tc sp s e) {o o' sz : Fin s.rank → Nat} (ho : o = o')
    (h : ∀ a, o a + sz a ≤ s.size a) (h' : ∀ a, o' a + sz a ≤ s.size a) :
    m.slice (Rect.unit (s := s) o sz h) (fun _ => rfl) = m.slice (Rect.unit (s := s) o' sz h') (fun _ => rfl) := by
  subst ho; rfl

theorem yS_eq (b : Bool) (d : Dev nD) (h : Fin 15) (j : Fin 2) : yS b d h j = yP b (ch b (pos d) h.castSucc) j :=
  slice_congr yM (oS_eq b d h j) _ _
theorem yD_eq (b : Bool) (d : Dev nD) : yD b d = yQ b (ch b (pos d) 15) := slice_congr yM (oD_eq b d) _ _
theorem yR_eq (b : Bool) (d : Dev nD) (h : Fin 15) (j : Fin 2) :
    yM.slice (rR b d h j) (fun _ => rfl) = yP b (ch b (pos d) h.succ) j := slice_congr yM (oR_eq b d h j) _ _
theorem yY_eq (b : Bool) (d : Dev nD) (t : Fin 16) :
    yM.slice (Rect.unit (s := S4096x2048) (oY b d t) S256x1024.size (oY_inb b d t)) (fun _ => rfl) = yQ b (ch b (pos d) t) :=
  slice_congr yM (oY_eq b d t) _ _
theorem yO_eq (b : Bool) (d : Dev nD) : yM.slice (rO b d) (fun _ => rfl) = yQ b (ch b (pos d) 15) := slice_congr yM (oO_eq b d) _ _

/-- The slot of position `p` in the exchange's buffer, unsqueezed. -/
abbrev axU (p : Fin 16) : Memref sig .tc .vmem S1x8x128 .f32 :=
  axM.slice (Rect.unit (s := S16x8x128) ![p.val, 0, 0] S1x8x128.size (ax_inb p)) (fun _ => rfl)
theorem ax16_eq (d : Dev nD) :
    axM.slice (Rect.unit (s := S16x8x128) (k0_off16 d) S1x8x128.size (k0_off16_inb d)) (fun _ => rfl) = axU (pos d) :=
  slice_congr axM (off16_eq d) _ _
theorem axOwn_eq (d : Dev nD) : axOwn d = axSlot (pos d) := by
  unfold axOwn axSlot; rw [slice_congr axM (off18_eq d) (ax18_inb d) (ax_inb (pos d))]

/-! ## The semaphores' numbers -/

/-- A direction's first number. -/
def bs (b : Bool) : ℕ := match b with | true => 0 | false => 8

theorem sSem_val : ∀ (b : Bool) (i j : Fin 2), (sSem b i j).val = 2 + bs b + 2 * i.val + j.val := by decide +kernel
theorem rSem_val : ∀ (b : Bool) (i j : Fin 2), (rSem b i j).val = 6 + bs b + 2 * i.val + j.val := by decide +kernel
theorem axS_val : ∀ p : Fin 16, (axS p).val = 18 + p.val := by decide +kernel
theorem axR_val : ∀ p : Fin 16, (axR p).val = 34 + p.val := by decide +kernel
theorem axRown_val : ∀ d : Dev nD, (axRown d).val = 34 + (pos d).val := by decide +kernel
theorem stSem_val : ∀ (b : Bool) (d : Dev nD), (stSem b d).val = 50 + 2 * (ch b (pos d) 15).val + cond b 0 1 := by decide +kernel
theorem axRown_eq (d : Dev nD) : axRown d = axR (pos d) := Fin.ext (by rw [axRown_val, axR_val])

end Cert.Slice
-- ==== Proof.Own.lean ====
module

public import proofs.«01_k».proof.Proof.Ring
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the protocol's cells; a duty is named by a truth value. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## Loads and stores by what is owned -/

section Rules

variable (c : Dev nD) {s : Shape} {e : EltTy} (m : Memref sig .tc .vmem s e)

/-- A program of device `c` runs to `Q`. -/
abbrev runs (c : Dev nD) (p : PU F) (Q : PUnit.{1} → sProp 𝕄) : sProp 𝕄 :=
  wp frame (wpE defs₀ 𝒱₀ (c : Thread nD τ) none) Set.univ p Q

/-- Loading a rectangle whose slice is owned. -/
theorem load_owns {r : Rect s} (hr : ∀ a, r.stride a = 1) {hl : m.view.LoadsAt r.toLoadRect} {k : (r.shape.Idx → Elt F e) → PU F} {Q : PUnit.{1} → sProp 𝕄}
    {q : PosShare TreeShare} {X : r.shape.Idx → Elt F e} :
    (owns (c : Thread nD τ) (m.slice r hr) q X : sProp 𝕄)
      ⊢ iprop((owns (c : Thread nD τ) (m.slice r hr) q X -∗ runs c (k X) Q) -∗ runs c (.op (.load m r.toLoadRect hl) k) Q) := by
  unfold owns runs
  iintro ⟨%f, %hf, H⟩ Hk
  iapply (wp_load_rect 𝒱₀ (c : Thread nD τ) none Set.univ (m := m) (r := r) (S := (m.slice r hr).view.set) (Finset.Subset.refl _)) $$ H
  iintro H
  rw [show (m.access r).read (Elt F) f = X from hf]
  iapply Hk
  iexists f; isplitr; · ipureintro; exact hf
  iexact H

/-- Loading a rectangle of a memref owned whole. -/
theorem load_sub {r : Rect s} {hl : m.view.LoadsAt r.toLoadRect} {k : (r.shape.Idx → Elt F e) → PU F} {Q : PUnit.{1} → sProp 𝕄}
    {q : PosShare TreeShare} {X : s.Idx → Elt F e} :
    (owns (c : Thread nD τ) m q X : sProp 𝕄)
      ⊢ iprop((owns (c : Thread nD τ) m q X -∗ runs c (k fun i => X (r.emb i)) Q) -∗ runs c (.op (.load m r.toLoadRect hl) k) Q) := by
  unfold owns runs
  iintro ⟨%f, %hf, H⟩ Hk
  iapply (wp_load_rect 𝒱₀ (c : Thread nD τ) none Set.univ (m := m) (r := r) (View.set_slice_subset _ _)) $$ H
  iintro H
  rw [show (m.access r).read (Elt F) f = fun i => X (r.emb i) from by subst hf; rfl]
  iapply Hk
  iexists f; isplitr; · ipureintro; exact hf
  iexact H

/-- Storing into a rectangle whose slice is owned. -/
theorem store_owns {r : Rect s} (hr : ∀ a, r.stride a = 1) {w : r.shape.Idx → Elt F e} {hx : (m.access r).Stores Finset.univ}
    {hm : (Finset.univ : Finset r.shape.Idx) = Finset.univ ∨ ∀ a, r.stride a = 1} {k : PUnit.{1} → PU F} {Q : PUnit.{1} → sProp 𝕄} {X : r.shape.Idx → Elt F e} :
    (owns (c : Thread nD τ) (m.slice r hr) fullShare X : sProp 𝕄)
      ⊢ iprop((owns (c : Thread nD τ) (m.slice r hr) fullShare w -∗ runs c (k ⟨⟩) Q) -∗ runs c (.op (.store m r w Finset.univ hx hm) k) Q) := by
  unfold owns runs
  iintro ⟨%f, %hf, H⟩ Hk
  iapply (wp_store 𝒱₀ (c : Thread nD τ) none Set.univ (m := m) (r := r) (Mk := Finset.univ)
    (show (m.access r).setOn Finset.univ ⊆ (m.slice r hr).view.set from Finset.Subset.refl _)) $$ H
  iintro H
  iapply Hk
  iexists (m.access r).write (Elt F) f w Finset.univ; isplitr
  · ipureintro; exact View.read_write_univ _ _
  iexact H

end Rules

/-! ## Squeezed memrefs -/

/-- A squeezed memref owned at `X` is the memref owned at `X` read through the reshaping. -/
theorem owns_squeeze {c : Dev nD} {s s' : Shape} {e : EltTy} (m : Memref sig .tc .vmem s e) (h : s.Squeezes s') (hc : s.ShapeCasts s')
    (q : PosShare TreeShare) (Y : s.Idx → Elt F e) :
    (owns (c : Thread nD τ) (m.squeeze s' h) q (shapeCast s' Y hc) : sProp 𝕄) = owns (c : Thread nD τ) m q Y := by
  unfold owns
  have hs : (m.squeeze s' h).view.set = m.view.set := View.set_reshape _ _
  have hr : ∀ f, (m.squeeze s' h).view.read (Elt F) f = shapeCast s' (m.view.read (Elt F) f) hc := fun f => rfl
  have hi : ∀ f, ((m.squeeze s' h).view.read (Elt F) f = shapeCast s' Y hc) = (m.view.read (Elt F) f = Y) := fun f => by
    rw [hr f]
    refine propext ⟨fun h => funext fun i => ?_, fun h => by rw [h]⟩
    have := congrFun h ((Shape.reshapeEquiv hc).symm i)
    simpa only [shapeCast, Equiv.apply_symm_apply] using this
  simp only [hi]
  rw [hs]

end Cert.Slice
-- ==== Proof.Pieces.lean ====
module

public import proofs.«01_k».proof.Proof.Own
public import Idealize.ShloMosaic.Lib.Exec

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

instance elt_nonempty : ∀ e, Nonempty (Elt F e) := by
  intro e; cases e <;> first | exact ⟨(0 : BitVec _)⟩ | exact ⟨Scalar.ofBits _ 0⟩

/-! ## Nested slices -/

/-- A slice of a slice is owned as the one slice it is. -/
theorem owns_nest {c : Dev nD} {sp : Space} {s : Shape} {e : EltTy} (m : Memref sig .tc sp s e) (r₀ : Rect s) (h₀ : ∀ a, r₀.stride a = 1)
    (r' : Rect r₀.shape) (h' : ∀ a, r'.stride a = 1) (q : PosShare TreeShare) (X : r'.shape.Idx → Elt F e) :
    (owns (c : Thread nD τ) ((m.slice r₀ h₀).slice r' h') q X : sProp 𝕄) = owns (c : Thread nD τ) (m.slice (r₀.within r' h₀) h') q X := by
  have he := View.emb_slice_slice m.view r₀ r' h₀
  have hs : ((m.slice r₀ h₀).slice r' h').view.set = (m.slice (r₀.within r' h₀) h').view.set := by
    unfold View.set; exact congrArg (fun e => Finset.map e Finset.univ) he
  have hr : ∀ f, ((m.slice r₀ h₀).slice r' h').view.read (Elt F) f = (m.slice (r₀.within r' h₀) h').view.read (Elt F) f := fun f => by
    show (fun i => m.view.read (Elt F) f (r₀.emb (r'.emb i))) = fun i => m.view.read (Elt F) f ((r₀.within r' h₀).emb i)
    funext i; rw [Rect.emb_within]
  unfold owns
  simp only [hr]; rw [hs]; rfl

/-! ## A chunk is its two halves; `y` is its chunks -/

/-- The rows of half `j` of a chunk. -/
abbrev rH (j : Fin 2) : Rect S256x1024 :=
  Rect.unit (s := S256x1024) ![128 * j.val, 0] S128x1024.size (by revert j; decide)
/-- Half `j` of a chunk's values. -/
def half (X : Vec F S256x1024 .f32) (j : Fin 2) : Vec F S128x1024 .f32 := fun i => X ((rH j).emb i)

theorem rH_disj : ∀ t t' : Fin 2, t ≠ t' → Disjoint (rH t).set (rH t').set := fun t t' h =>
  Finset.disjoint_left.mpr fun i hi hi' => by
    have h1 := Rect.mem_set_unit.mp hi 0; have h2 := Rect.mem_set_unit.mp hi' 0
    simp [S128x1024] at h1 h2
    exact h (Fin.ext (by omega))
theorem rH_cov : (Finset.univ : Finset (Fin 2)).biUnion (fun t => (rH t).set) = Finset.univ := by
  ext i
  simp only [Finset.mem_biUnion, Finset.mem_univ, true_and, iff_true]
  have h0 : (i 0).val < 256 := (i 0).isLt
  have h1 : (i 1).val < 1024 := (i 1).isLt
  refine ⟨⟨(i 0).val / 128, by omega⟩, Rect.mem_set_unit.mpr fun a => ?_⟩
  fin_cases a <;> simp [S128x1024] <;> omega

theorem within_half (b : Bool) (k : Fin 16) (j : Fin 2) :
    (Rect.unit (s := S4096x2048) (oQ b k) S256x1024.size (oQ_inb b k)).within (rH j) (fun _ => rfl)
      = Rect.unit (s := S4096x2048) (oP b k j) S128x1024.size (oP_inb b k j) := by
  have : (fun a => (Rect.unit (s := S4096x2048) (oQ b k) S256x1024.size (oQ_inb b k)).off a + (rH j).off a) = oP b k j := by
    funext a; fin_cases a <;> simp [oQ, oP]
  unfold Rect.within Rect.unit
  congr 1
  simp only [LoadRect.mk.injEq]
  exact ⟨this, rfl, rfl⟩

theorem owns_rect_eq {c : Dev nD} {sp : Space} {s : Shape} {e : EltTy} (m : Memref sig .tc sp s e) {r r' : Rect s} (h : r = r')
    (hr : ∀ a, r.stride a = 1) (hr' : ∀ a, r'.stride a = 1) (q : PosShare TreeShare) {X : r.shape.Idx → Elt F e} {X' : r'.shape.Idx → Elt F e}
    (hX : HEq X X') : (owns (c : Thread nD τ) (m.slice r hr) q X : sProp 𝕄) = owns (c : Thread nD τ) (m.slice r' hr') q X' := by
  subst h; cases hX; rfl

/-- Half `j` of a chunk, owned as a slice of the chunk or of `y`. -/
theorem owns_half (c : Dev nD) (b : Bool) (k : Fin 16) (j : Fin 2) (q : PosShare TreeShare) (X : Vec F S128x1024 .f32) :
    (owns (c : Thread nD τ) ((yQ b k).slice (rH j) fun _ => rfl) q X : sProp 𝕄) = owns (c : Thread nD τ) (yP b k j) q X := by
  rw [owns_nest]
  exact owns_rect_eq yM (within_half b k j) _ _ q HEq.rfl

theorem chunk_split (c : Dev nD) (b : Bool) (k : Fin 16) (q : PosShare TreeShare) (X : Vec F S256x1024 .f32) :
    (owns (c : Thread nD τ) (yQ b k) q X : sProp 𝕄)
      ⊢ iprop(owns (c : Thread nD τ) (yP b k 0) q (half X 0) ∗ owns (c : Thread nD τ) (yP b k 1) q (half X 1)) := by
  refine (owns_rects (c : Thread nD τ) (yQ b k) q rH (fun _ _ => rfl) rH_disj rH_cov X).trans ?_
  rw [bigSep_univ_eq_bigSepL [(0 : Fin 2), 1] (by decide) (by decide), bigSepL_cons_cons, bigSepL_singleton, owns_half, owns_half]; exact .rfl

theorem chunk_join (c : Dev nD) (b : Bool) (k : Fin 16) (q : PosShare TreeShare) (X : Vec F S256x1024 .f32) :
    iprop(owns (c : Thread nD τ) (yP b k 0) q (half X 0) ∗ owns (c : Thread nD τ) (yP b k 1) q (half X 1))
      ⊢ (owns (c : Thread nD τ) (yQ b k) q X : sProp 𝕄) := by
  refine BIBase.Entails.trans ?_ (owns_of_rects (c : Thread nD τ) (yQ b k) q rH (fun _ _ => rfl) rH_disj rH_cov X)
  rw [bigSep_univ_eq_bigSepL [(0 : Fin 2), 1] (by decide) (by decide), bigSepL_cons_cons, bigSepL_singleton, owns_half, owns_half]; exact .rfl

end Cert.Slice
-- ==== Proof.Sched.lean ====
module

public import proofs.«01_k».proof.Proof.Pieces
public import Idealize.ShloMosaic.Lib.SparseCore.ProtocolKit

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

/-! ## The semaphores the proof speaks of -/

/-- The semaphores by their part: the barrier, a hop's send and receive semaphores by direction, slot and half, the
    exchange's by position, the copies out by chunk and direction. -/
inductive CK : Type
  | bar
  | snd (b : Bool) (i j : Fin 2)
  | rcv (b : Bool) (i j : Fin 2)
  | axs (p : Fin 16)
  | axr (p : Fin 16)
  | st (k : Fin 16) (b : Bool)
  deriving DecidableEq

/-- The parts as a sum of products, for counting them. -/
abbrev CKSum := Unit ⊕ ((Bool × Fin 2 × Fin 2) ⊕ ((Bool × Fin 2 × Fin 2) ⊕ (Fin 16 ⊕ (Fin 16 ⊕ (Fin 16 × Bool)))))

def ckEquiv : CKSum ≃ CK where
  toFun x := match x with
    | .inl _ => .bar
    | .inr (.inl (b, i, j)) => .snd b i j
    | .inr (.inr (.inl (b, i, j))) => .rcv b i j
    | .inr (.inr (.inr (.inl p))) => .axs p
    | .inr (.inr (.inr (.inr (.inl p)))) => .axr p
    | .inr (.inr (.inr (.inr (.inr (k, b))))) => .st k b
  invFun x := match x with
    | .bar => .inl ()
    | .snd b i j => .inr (.inl (b, i, j))
    | .rcv b i j => .inr (.inr (.inl (b, i, j)))
    | .axs p => .inr (.inr (.inr (.inl p)))
    | .axr p => .inr (.inr (.inr (.inr (.inl p))))
    | .st k b => .inr (.inr (.inr (.inr (.inr (k, b)))))
  left_inv x := by rcases x with _ | ⟨_, _, _⟩ | ⟨_, _, _⟩ | _ | _ | ⟨_, _⟩ <;> rfl
  right_inv x := by cases x <;> rfl

instance : Fintype CK := Fintype.ofEquiv CKSum ckEquiv

theorem st_lt (k : Fin 16) (b : Bool) : 50 + 2 * k.val + cond b 0 1 < 82 := by cases b <;> simp <;> omega
/-- The semaphore of the copy out of chunk `k`. -/
def stN (k : Fin 16) (b : Bool) : DmaSem sig := (⟨50 + 2 * k.val + cond b 0 1, st_lt k b⟩ : Fin 82)

/-- A part's semaphore. -/
def csem : CK → SemLoc sig
  | .bar => .reg barS
  | .snd b i j => .dma (sSem b i j)
  | .rcv b i j => .dma (rSem b i j)
  | .axs p => .dma (axS p)
  | .axr p => .dma (axR p)
  | .st k b => .dma (stN k b)

theorem stSem_eq (b : Bool) (d : Dev nD) : stSem b d = stN (ch b (pos d) 15) b := Fin.ext (stSem_val b d)

/-- The part a semaphore's number belongs to. -/
def nmN (n : ℕ) : Option CK :=
  if n < 2 then none
  else if n < 18 then
    (let u := n - 2
     let b := decide (u < 8)
     let v := u % 8
     if v < 4 then some (.snd b (Fin.ofNat 2 (v / 2)) (Fin.ofNat 2 v)) else some (.rcv b (Fin.ofNat 2 (v / 2)) (Fin.ofNat 2 v)))
  else if n < 34 then some (.axs (Fin.ofNat 16 (n - 18)))
  else if n < 50 then some (.axr (Fin.ofNat 16 (n - 34)))
  else some (.st (Fin.ofNat 16 ((n - 50) / 2)) (decide (n % 2 = 0)))

/-- The part of a semaphore. -/
def nm : SemLoc sig → Option CK
  | .reg _ => some .bar
  | .dma q => nmN q.val

theorem nm_csem (k : CK) : nm (csem k) = some k := by
  cases k with
  | bar => rfl
  | snd b i j => show nmN (sSem b i j).val = _; rw [sSem_val]; revert b i j; decide +kernel
  | rcv b i j => show nmN (rSem b i j).val = _; rw [rSem_val]; revert b i j; decide +kernel
  | axs p => show nmN (axS p).val = _; rw [axS_val]; revert p; decide +kernel
  | axr p => show nmN (axR p).val = _; rw [axR_val]; revert p; decide +kernel
  | st k b => show nmN (50 + 2 * k.val + cond b 0 1) = _; revert k b; decide +kernel

theorem csem_inj : Function.Injective csem := fun a b h => by
  have := congrArg nm h; rw [nm_csem, nm_csem] at this; exact Option.some.inj this

/-- A part's cell on a device. -/
abbrev cell (c : Dev nD) (k : CK) : GSem nD τ sig := ((c : Thread nD τ), csem k)

theorem cell_inj {c d : Dev nD} {k l : CK} (h : cell c k = cell d l) : c = d ∧ k = l :=
  ⟨congrArg (fun g : GSem nD τ sig => g.1.1) h, csem_inj (congrArg Prod.snd h)⟩

/-! ## Amounts -/

theorem dmaCredit_eq {sp : Space} {s : Shape} {e : EltTy} (v : View sig .tc sp s e) : v.dmaCredit = RefSig.tileCredit s e := rfl

/-- What a half-chunk's copy raises its semaphores by, -/
def N1 : ℕ := RefSig.tileCredit S128x1024 .f32
/-- what a largest entry's does, -/
def N2 : ℕ := RefSig.tileCredit S8x128 .f32
/-- and what a chunk's copy out does. -/
def N3 : ℕ := RefSig.tileCredit S256x1024 .f32

theorem amount_N1 {sp : Space} (v : View sig .tc sp S128x1024 .f32) : v.dmaCredit = N1 := dmaCredit_eq v
theorem amount_N2 {sp : Space} (v : View sig .tc sp S8x128 .f32) : v.dmaCredit = N2 := dmaCredit_eq v
theorem amount_N3 {sp : Space} (v : View sig .tc sp S256x1024 .f32) : v.dmaCredit = N3 := dmaCredit_eq v

/-! ## Values -/

variable (xs : Dev nD → Vec F S4096x256 .f32) (ws : Dev nD → Vec F S256x2048 .f32)

/-- The `t`-th product of a direction on device `d`. -/
def prodA (b : Bool) (d : Dev nD) (t : Fin 16) : Vec F S256x1024 .f32 :=
  prodV (fun i => xs d ((Rect.unit (s := S4096x256) (oX b d t) S256x256.size (oX_inb b d t)).emb i))
    (fun i => ws d ((Rect.unit (s := S256x2048) (oW b) S256x1024.size (oW_inb b)).emb i))

/-- Half `j` of the running sum device `d` holds at step `t`: its own product added to what the device before it held. -/
def acc (b : Bool) : ℕ → Dev nD → Fin 2 → Vec F S128x1024 .f32
  | 0, d, j => half (prodA xs ws b d 0) j
  | t + 1, d, j => addf (half (prodA xs ws b d (Fin.ofNat 16 (t + 1))) j) (acc b t (nx (!b) d) j)

/-- Half `j` of the finished chunk of device `d`. -/
def fin (b : Bool) (d : Dev nD) (j : Fin 2) : Vec F S128x1024 .f32 := reluV (acc xs ws b 15 d j)

/-- A device's largest entry, as it puts it in its slot, -/
def amU (d : Dev nD) : Vec F S1x8x128 .f32 :=
  ownMaxV (maxV (fin xs ws true d 0)) (maxV (fin xs ws false d 0)) (maxV (fin xs ws true d 1)) (maxV (fin xs ws false d 1))
theorem sc_ax : S1x8x128.ShapeCasts S8x128 := shapeCasts_S8x128_S1x8x128.symm
/-- and as the copies carry it. -/
def amS (d : Dev nD) : Vec F S8x128 .f32 := shapeCast S8x128 (amU xs ws d) sc_ax

/-- A chunk from its halves. -/
def glue (a : Fin 2 → Vec F S128x1024 .f32) : Vec F S256x1024 .f32 := fun i =>
  a ⟨(i 0).val / 128, by have : (i 0).val < 256 := (i 0).isLt; omega⟩
    (fun k => match k with
      | ⟨0, _⟩ => ⟨(i 0).val % 128, Nat.mod_lt _ (by decide)⟩
      | ⟨1, _⟩ => i 1)

/-- All the slots of the exchange, once every largest entry is in. -/
def axAll : Vec F S16x8x128 .f32 := fun i =>
  amU xs ws (ringDev (i 0)) (fun k => match k with | ⟨0, _⟩ => (0 : Fin 1) | ⟨1, _⟩ => i 1 | ⟨2, _⟩ => i 2)

/-- What a device hands out for a direction. -/
def outV (b : Bool) (d : Dev nD) : Vec F S256x1024 .f32 :=
  dequantV (scaleV (axAll xs ws)) (quantV (invV (axAll xs ws)) (glue (fin xs ws b d)))

/-! ## What the copies carry -/

/-- The slot of a hop. -/
def sl (n : ℕ) : Fin 2 := ⟨n % 2, Nat.mod_lt _ (by decide)⟩
theorem sl_add (n : ℕ) : sl (n + 2) = sl n := Fin.ext (by simp [sl])

/-- A half-chunk of `y` at some contents; a chunk; a slot of a landing buffer; a slot of the exchange. -/
def yPx (c : Dev nD) (b : Bool) (k : Fin 16) (j : Fin 2) : sProp 𝕄 := iprop(∃ X, owns (c : Thread nD τ) (yP b k j) fullShare X)
def yQx (c : Dev nD) (b : Bool) (k : Fin 16) : sProp 𝕄 := iprop(∃ X, owns (c : Thread nD τ) (yQ b k) fullShare X)
def cSx (c : Dev nD) (b : Bool) (i j : Fin 2) : sProp 𝕄 := iprop(∃ X, owns (c : Thread nD τ) (cS b i j) fullShare X)
def axx (c : Dev nD) (p : Fin 16) : sProp 𝕄 := iprop(∃ X, owns (c : Thread nD τ) (axSlot p) fullShare X)

/-- The slot of hop `n` on device `q`, free to be filled: the device has come to that hop's round. -/
def slotAt (q : Dev nD) (b : Bool) (n : ℕ) (j : Fin 2) : sProp 𝕄 :=
  iprop(cSx q b (sl n) j ∗ reached ER (cell q (.rcv b (sl n) j)) (n / 2))

/-- The slots of the exchange on the device at `o`, of the positions `n` or more after it. -/
def Bag (o : Fin 16) (n : ℕ) : sProp 𝕄 :=
  bigSep (finFrom 16 n) fun k => axx (ringDev o) (o + k)
/-- The bag that travels with a copy: one, clockwise. -/
def bagAt (b : Bool) (j : Fin 2) (q : Fin 16) (n : ℕ) : sProp 𝕄 :=
  if b = true ∧ j = 0 then Bag (q - Fin.ofNat 16 n) (n + 1) else iprop(emp)

/-- What device `q` gives with hop `n`'s copy beside the sums: the other direction's next slot, and the bag. -/
def give (b : Bool) (q : Dev nD) (n : ℕ) (j : Fin 2) : sProp 𝕄 :=
  iprop((if n < 14 then slotAt q (!b) (n + 1) j else emp) ∗ bagAt b j (pos q) n)

/-- What hop `n` brings device `d`. -/
def land (b : Bool) (d : Dev nD) (n : ℕ) (j : Fin 2) : sProp 𝕄 :=
  iprop(owns (d : Thread nD τ) (cS b (sl n) j) fullShare (acc xs ws b n (nx (!b) d) j) ∗ give b (nx (!b) d) n j)

/-- The share of the own slot left after `n` copies have borrowed theirs, -/
def keptS : ℕ → PosShare TreeShare
  | 0 => fullShare
  | n + 1 => (keptS n).left
/-- and the one the copy to position `p` borrows. -/
def lentS (p : ℕ) : PosShare TreeShare := (keptS p).right

/-- The payload of a duty. -/
def pay (d : Dev nD) (r : ℕ) (e : Bool) : CK → sProp 𝕄
  | .bar => iprop(slotAt (nx e d) e 0 0 ∗ slotAt (nx e d) e 0 1)
  | .snd b i j => yPx d b (ch b (pos d) (Fin.ofNat 16 (2 * r + i.val))) j
  | .rcv b i j => land xs ws b d (2 * r + i.val) j
  | .axs p => owns (d : Thread nD τ) (axSlot (pos d)) (lentS p.val) (amS xs ws d)
  | .axr p => owns (d : Thread nD τ) (axSlot p) fullShare (amS xs ws (ringDev p))
  | .st k b => iprop(owns (d : Thread nD τ) (oM b) fullShare (outV xs ws b d) ∗ yQx d b k)

/-- The duties of a part in round `r`. -/
def dut (d : Dev nD) (r : ℕ) : CK → Finset Bool
  | .bar => if r = 0 then Finset.univ else ∅
  | .snd _ i _ => if 2 * r + i.val < 15 then {false} else ∅
  | .rcv _ i _ => if 2 * r + i.val < 15 then {false} else ∅
  | .axs p => if r = 0 ∧ p ≠ pos d then {false} else ∅
  | .axr p => if r = 0 ∧ p ≠ pos d then {false} else ∅
  | .st k b => if r = 0 ∧ k = ch b (pos d) 15 then {false} else ∅

/-- The amount of a part's duties. -/
def amt : CK → ℕ
  | .bar => 1
  | .snd _ _ _ => N1
  | .rcv _ _ _ => N1
  | .axs _ => N2
  | .axr _ => N2
  | .st _ _ => N3

theorem amt_pos (k : CK) : 0 < amt k := by
  cases k <;> first | exact Nat.one_pos | exact RefSig.tileCredit_pos _ _ (Finset.prod_induction _ (0 < ·) (fun _ _ => Nat.mul_pos) Nat.one_pos fun a _ => by fin_cases a <;> decide)

/-- The schedule: what each cell is raised by, round by round, and what that brings. -/
def Rd : Rounds.Schedule (GSem nD τ sig) Bool 𝕄 where
  duties g r := match nm g.2 with | some k => dut g.1.1 r k | none => ∅
  unitless _ := False
  amount g _ _ := match nm g.2 with | some k => amt k | none => 1
  payload g r e := match nm g.2 with | some k => pay xs ws g.1.1 r e k | none => iprop(emp)
  amount_pos g _ _ _ := by
    split
    · exact amt_pos _
    · exact Nat.one_pos

instance storable_cSx (c : Dev nD) (b : Bool) (i j : Fin 2) : BI.Storable (upEmb : UEmb _ 𝕄) (cSx (F := F) c b i j) := by unfold cSx; infer_instance
instance storable_axx (c : Dev nD) (p : Fin 16) : BI.Storable (upEmb : UEmb _ 𝕄) (axx (F := F) c p) := by unfold axx; infer_instance
instance storable_slotAt (q : Dev nD) (b : Bool) (n : ℕ) (j : Fin 2) : BI.Storable (upEmb : UEmb _ 𝕄) (slotAt (F := F) q b n j) := by
  unfold slotAt; infer_instance
instance storable_Bag (o : Fin 16) (n : ℕ) : BI.Storable (upEmb : UEmb _ 𝕄) (Bag (F := F) o n) := by unfold Bag; infer_instance
instance storable_bagAt (b : Bool) (j : Fin 2) (q : Fin 16) (n : ℕ) : BI.Storable (upEmb : UEmb _ 𝕄) (bagAt (F := F) b j q n) := by
  unfold bagAt; split <;> infer_instance
instance storable_give (b : Bool) (q : Dev nD) (n : ℕ) (j : Fin 2) : BI.Storable (upEmb : UEmb _ 𝕄) (give (F := F) b q n j) := by
  unfold give; split <;> infer_instance

instance storable_pay (d : Dev nD) (r : ℕ) (e : Bool) (k : CK) : BI.Storable (upEmb : UEmb _ 𝕄) (pay xs ws d r e k) := by
  cases k <;> unfold pay <;> (try unfold land) <;> (try unfold yPx) <;> (try unfold yQx) <;> infer_instance
instance storable_Rd (g : GSem nD τ sig) (r : ℕ) (e : Bool) : BI.Storable (upEmb : UEmb _ 𝕄) ((Rd xs ws).payload g r e) := by
  show BI.Storable upEmb (match nm g.2 with | some k => pay xs ws g.1.1 r e k | none => iprop(emp))
  split <;> infer_instance

theorem duties_cell (c : Dev nD) (k : CK) (r : ℕ) : (Rd xs ws).duties (cell c k) r = dut c r k := by
  show (match nm (csem k) with | some k => dut c r k | none => ∅) = _
  rw [nm_csem]
theorem amount_cell (c : Dev nD) (k : CK) (r : ℕ) (e : Bool) : (Rd xs ws).amount (cell c k) r e = amt k := by
  show (match nm (csem k) with | some k => amt k | none => 1) = _
  rw [nm_csem]
theorem payload_cell (c : Dev nD) (k : CK) (r : ℕ) (e : Bool) : (Rd xs ws).payload (cell c k) r e = pay xs ws c r e k := by
  show (match nm (csem k) with | some k => pay xs ws c r e k | none => iprop(emp)) = _
  rw [nm_csem]

/-- A round of one duty expects that duty's amount, -/
theorem expect_one {c : Dev nD} {k : CK} {r : ℕ} (h : dut c r k = {false}) : (Rd xs ws).expect (cell c k) r = amt k := by
  unfold Schedule.expect Schedule.amountOf
  rw [duties_cell, h, Finset.sum_singleton, amount_cell]
/-- and brings that duty's payload. -/
theorem rest_one {c : Dev nD} {k : CK} {r : ℕ} (h : dut c r k = {false}) :
    bigSep ((Rd xs ws).duties (cell c k) r \ ∅) (fun e => (Rd xs ws).payload (cell c k) r e) = pay xs ws c r false k := by
  rw [Finset.sdiff_empty, duties_cell, h, bigSep_singleton, payload_cell]
theorem expect_bar (c : Dev nD) : (Rd xs ws).expect (cell c .bar) 0 = 2 := by
  unfold Schedule.expect Schedule.amountOf
  rw [duties_cell, show dut c 0 .bar = Finset.univ from rfl, Finset.sum_congr rfl fun d _ => amount_cell xs ws c .bar 0 d]
  rfl
theorem rest_bar (c : Dev nD) :
    bigSep ((Rd xs ws).duties (cell c .bar) 0 \ ∅) (fun e => (Rd xs ws).payload (cell c .bar) 0 e)
      = iprop(pay xs ws c 0 true .bar ∗ pay xs ws c 0 false .bar) := by
  rw [Finset.sdiff_empty, duties_cell, show dut c 0 .bar = Finset.univ from rfl,
    bigSep_univ_eq_bigSepL [true, false] (by decide) (by decide), bigSepL_cons_cons, bigSepL_singleton, payload_cell, payload_cell]
  rfl

/-! ## What is owed, and the levels -/

/-- What hop `h`'s copy of a half-chunk pays. -/
def T1 (c : Dev nD) (b : Bool) (h : ℕ) (j : Fin 2) : CellTallies nD τ sig ℕ := tallyAt (cell (nx b c) (.rcv b (sl h) j)) h N1
/-- What hop `h` pays, summed so that its copies take it from the right. -/
def OH (c : Dev nD) (h : ℕ) : CellTallies nD τ sig ℕ := ((T1 c false h 1 + T1 c true h 1) + T1 c false h 0) + T1 c true h 0
/-- What the hops from `n` on pay. -/
def OB (c : Dev nD) (n : ℕ) : CellTallies nD τ sig ℕ := ∑ h ∈ finFrom 15 n, OH c h.val
/-- What the exchange pays position `p`. -/
def T2 (c : Dev nD) (p : Fin 16) : CellTallies nD τ sig ℕ := if p = pos c then 0 else tallyAt (cell (ringDev p) (.axr (pos c))) 0 N2
/-- What the exchange pays from position `n` on. -/
def OA (c : Dev nD) (n : ℕ) : CellTallies nD τ sig ℕ := ∑ p ∈ finFrom 16 n, T2 c p
/-- What a device owes from the work on, and from the start. -/
def OW (c : Dev nD) (n : ℕ) : CellTallies nD τ sig ℕ := OA c 0 + OB c n
def O₀ (c : Dev nD) : CellTallies nD τ sig ℕ :=
  (OW c 0 + tallyAt (cell (nx true c) .bar) 0 1) + tallyAt (cell (nx false c) .bar) 0 1

def L (g : GSem nD τ sig) : Finset ℕ := if g.1.2 = .tc then Finset.range 16 else ∅
/-- Barriers first, then the hops in order, the exchange last. -/
def lvK (ι : ℕ) : Option CK → ℕ
  | some .bar => 1
  | some (.rcv _ _ _) => 2 + ι
  | some (.axr _) => 20
  | _ => 0
def lv (g : GSem nD τ sig) (ι : ℕ) : ℕ := lvK ι (nm g.2)

theorem L_of_ne (g : GSem nD τ sig) (h : g.1.2 ≠ .tc) : L g = ∅ := if_neg h
theorem L_tc (c : Dev nD) (sm : SemLoc sig) : L ((c : Thread nD τ), sm) = Finset.range 16 := if_pos rfl
theorem lv_cell (c : Dev nD) (k : CK) (ι : ℕ) : lv (cell c k) ι = lvK ι (some k) := by unfold lv; rw [nm_csem]

/-- Everything owed lies above level `k`. -/
def Above (k : ℕ) (O : CellTallies nD τ sig ℕ) : Prop := ∀ g u, 0 < O g u → u ∈ L g ∧ k < lv g u

theorem Above.zero (k : ℕ) : Above k 0 := fun g u h => absurd h (Nat.lt_irrefl 0)
theorem Above.add {k : ℕ} {A B : CellTallies nD τ sig ℕ} (hA : Above k A) (hB : Above k B) : Above k (A + B) := fun g u h => by
  rw [Pi.add_apply, Finsupp.add_apply] at h
  rcases Nat.eq_zero_or_pos (A g u) with h0 | h0
  · exact hB g u (by omega)
  · exact hA g u h0
theorem Above.tally {k : ℕ} {c : Dev nD} {l : CK} {ι n : ℕ} (hι : ι < 16) (h : k < lvK ι (some l)) : Above k (tallyAt (cell c l) ι n) := fun g u hg => by
  rw [tallyAt_apply] at hg
  split at hg
  · next h' =>
    obtain ⟨rfl, rfl⟩ := h'
    exact ⟨by rw [L_tc]; exact Finset.mem_range.mpr hι, by rw [lv_cell]; exact h⟩
  · exact absurd hg (Nat.lt_irrefl 0)
theorem Above.sum {k : ℕ} {α : Type} (s : Finset α) (f : α → CellTallies nD τ sig ℕ) (h : ∀ a ∈ s, Above k (f a)) : Above k (∑ a ∈ s, f a) := by
  classical
  induction s using Finset.induction_on with
  | empty => rw [Finset.sum_empty]; exact Above.zero k
  | insert a s ha ih =>
    rw [Finset.sum_insert ha]
    exact (h a (Finset.mem_insert_self a s)).add (ih fun b hb => h b (Finset.mem_insert_of_mem hb))
theorem Above.mono {k k' : ℕ} (h : k' ≤ k) {O : CellTallies nD τ sig ℕ} (hO : Above k O) : Above k' O := fun g u hg =>
  ⟨(hO g u hg).1, by have := (hO g u hg).2; omega⟩

theorem above_T1 {k : ℕ} {c : Dev nD} {b : Bool} {h : ℕ} {j : Fin 2} (hh : h < 15) (hk : k < 2 + h) : Above k (T1 c b h j) :=
  Above.tally (by omega) hk
theorem above_OB {k : ℕ} {c : Dev nD} {n : ℕ} (hk : k < 2 + n) : Above k (OB c n) := by
  refine Above.sum _ _ fun h hh => ?_
  have := mem_finFrom.mp hh
  have a (b j) : Above k (T1 c b h.val j) := above_T1 h.isLt (by omega)
  exact (((a false 1).add (a true 1)).add (a false 0)).add (a true 0)
theorem above_OA {k : ℕ} {c : Dev nD} {n : ℕ} (hk : k < 20) : Above k (OA c n) := by
  refine Above.sum _ _ fun p _ => ?_
  unfold T2; split
  · exact Above.zero k
  · exact Above.tally (by omega) hk
theorem above_OW {k : ℕ} {c : Dev nD} {n : ℕ} (hk : k < 2 + n) (hk' : k < 20) : Above k (OW c n) := (above_OA hk').add (above_OB hk)
theorem above_O₀ (c : Dev nD) : Above 0 (O₀ c) :=
  ((above_OW (by omega) (by omega)).add (Above.tally (by omega) Nat.one_pos)).add (Above.tally (by omega) Nat.one_pos)

/-- A wait at or below level `k` is allowed while everything owed lies above. -/
theorem mayWait {k : ℕ} (c : Dev nD) (sm : SemLoc sig) (ι : ℕ) (hι : ι < 16) (hk : lvK ι (nm sm) ≤ k) {O : CellTallies nD τ sig ℕ} (hO : Above k O) :
    (levAts L lv : sProp 𝕄) ⊢ MayWait (c : Thread nD τ) sm ι O :=
  MayOwe.of_cut (L := L) (lev := lv) k (fun p hp => by rw [Finset.mem_singleton.mp hp, L_tc]; exact Finset.mem_range.mpr hι)
    (fun g u hg => (hO g u hg).1) (fun p hp => by rw [Finset.mem_singleton.mp hp]; exact hk) (fun g u hg => (hO g u hg).2)

end Cert.Slice
-- ==== Proof.Steps.lean ====
module

public import proofs.«01_k».proof.Proof.Sched

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

/-! ## What every device knows throughout -/

/-- The cells' invariants under the names `K`, that every cell's round 0 is reached, and the levels. -/
def Env (K : Dev nD × CK → ℕ) : sProp 𝕄 :=
  iprop((bigSep Finset.univ fun x : Dev nD × CK => cellInv ER (Rd xs ws) (K x) (cell x.1 x.2))
    ∗ (bigSep Finset.univ fun x : Dev nD × CK => reached ER (cell x.1 x.2) 0) ∗ levAts L lv)

instance Env_persistent (K : Dev nD × CK → ℕ) : BI.Persistent (Env xs ws K) := by unfold Env; infer_instance

variable (K : Dev nD × CK → ℕ)

theorem env_inv (c : Dev nD) (k : CK) : Env xs ws K ⊢ cellInv ER (Rd xs ws) (K (c, k)) (cell c k) := by
  unfold Env; iintro ⟨H, -, -⟩
  iapply (show (bigSep Finset.univ fun x : Dev nD × CK => cellInv ER (Rd xs ws) (K x) (cell x.1 x.2) : sProp 𝕄) ⊢ cellInv ER (Rd xs ws) (K (c, k)) (cell c k)
    from bigSep_elim (Finset.mem_univ (c, k))); iexact H
theorem env_reached (c : Dev nD) (k : CK) : Env xs ws K ⊢ reached ER (cell c k) 0 := by
  unfold Env; iintro ⟨-, H, -⟩
  iapply (show (bigSep Finset.univ fun x : Dev nD × CK => reached ER (cell x.1 x.2) 0 : sProp 𝕄) ⊢ reached ER (cell c k) 0
    from bigSep_elim (Finset.mem_univ (c, k))); iexact H
theorem env_wait {l : ℕ} (c : Dev nD) (k : CK) (ι : ℕ) (hι : ι < 16) (hk : lvK ι (some k) ≤ l) {O : CellTallies nD τ sig ℕ} (hO : Above l O) :
    Env xs ws K ⊢ MayWait (c : Thread nD τ) (csem k) ι O := by
  unfold Env; iintro ⟨-, -, H⟩
  iapply (mayWait c (csem k) ι hι (by rw [nm_csem]; exact hk) hO); iexact H

/-- What a device owes, its waits forgotten. -/
def owesE (c : Dev nD) (O : CellTallies nD τ sig ℕ) : sProp 𝕄 := iprop(∃ W, owes (c : Thread nD τ) O W)

/-! ## Waiting on a cell of one duty -/

theorem wait_one {c : Dev nD} {k : CK} {r ι l : ℕ} (hd : dut c r k = {false}) (hι : ι < 16) (hk : lvK ι (some k) ≤ l)
    {O : CellTallies nD τ sig ℕ} (hO : Above l O) {w : TpuEff nD τ sig (Elt F) Λ₀ .tc PUnit.{1}}
    (hw : ∀ P : PUnit → sProp 𝕄, wpE defs₀ 𝒱₀ (c : Thread nD τ) none Set.univ w P = waitSpec (c : Thread nD τ) Set.univ (csem k) (amt k) P)
    {p : PUnit.{1} → PU F} {Q : PUnit.{1} → sProp 𝕄} :
    iprop(Env xs ws K ∗ cred (tallyAt (cell c k) ι (amt k)) ∗ owesE c O ∗ atPos ER (cell c k) r ∅ 0)
      ⊢ iprop(((owesE c O ∗ atPos ER (cell c k) (r + 1) ∅ 0 ∗ reached ER (cell c k) (r + 1) ∗ pay xs ws c r false k) -∗ runs c (p ⟨⟩) Q)
          -∗ runs c (.op w p) Q) := by
  unfold owesE runs
  iintro ⟨#HE, Hc, ⟨%W, HO⟩, Ha⟩ Hk
  iapply (Rounds.wp_wait_rest_token 𝒱₀ ER (Rd xs ws) (c : Thread nD τ) none (κ := K (c, k)) (sm := csem k) (k' := amt k) hw (Set.mem_univ _) ι
    (O := O) (W := W) (R := r) (m := 0) (T := ∅) (by rw [Nat.zero_add]; exact (expect_one xs ws hd).symm)) $$ [Hc HO Ha]
  · isplitr; · iapply (env_inv xs ws K c k); iexact HE
    isplitl [Hc]; · iexact Hc
    isplitl [HO]; · iexact HO
    isplitr; · iapply (env_wait xs ws K c k ι hι hk hO); iexact HE
    iexact Ha
  iintro ⟨HO, Ha, Hr, Hp⟩
  iapply Hk
  isplitl [HO]; · iexists _; iexact HO
  isplitl [Ha]; · iexact Ha
  isplitl [Hr]; · iexact Hr
  ihave Hp' := (Entails.of_eq (rest_one xs ws hd)) $$ Hp
  iexact Hp'

/-! ## The hops -/

theorem par_eq (h : Fin 15) : par h = sl h.val := rfl
theorem half_sl (n : ℕ) : 2 * (n / 2) + (sl n).val = n := by show 2 * (n / 2) + n % 2 = n; omega
theorem ofNat_castSucc (h : Fin 15) : (Fin.ofNat 16 h.val : Fin 16) = h.castSucc := Fin.ext (Nat.mod_eq_of_lt (by omega))
theorem dut_snd (c : Dev nD) (b : Bool) {n : ℕ} (hn : n < 15) (j : Fin 2) : dut c (n / 2) (.snd b (sl n) j) = {false} :=
  if_pos (by rw [half_sl]; exact hn)
theorem dut_rcv (c : Dev nD) (b : Bool) {n : ℕ} (hn : n < 15) (j : Fin 2) : dut c (n / 2) (.rcv b (sl n) j) = {false} :=
  if_pos (by rw [half_sl]; exact hn)
theorem pay_snd (c : Dev nD) (b : Bool) (h : Fin 15) (j : Fin 2) :
    pay xs ws c (h.val / 2) false (.snd b (sl h.val) j) = yPx c b (ch b (pos c) h.castSucc) j := by
  show yPx c b (ch b (pos c) (Fin.ofNat 16 (2 * (h.val / 2) + (sl h.val).val))) j = _
  rw [half_sl, ofNat_castSucc]
theorem pay_rcv (c : Dev nD) (b : Bool) (n : ℕ) (j : Fin 2) : pay xs ws c (n / 2) false (.rcv b (sl n) j) = land xs ws b c n j := by
  show land xs ws b c (2 * (n / 2) + (sl n).val) j = _
  rw [half_sl]

/-- The two tokens hop `n`'s copy is paid with. -/
def tok (c : Dev nD) (b : Bool) (j : Fin 2) (n : ℕ) : sProp 𝕄 :=
  iprop(dutyTok ER (cell c (.snd b (sl n) j)) (n / 2) false ∗ dutyTok ER (cell (nx b c) (.rcv b (sl n) j)) (n / 2) false)
/-- The credit for one's own copy's leaving, and for a hop's landing. -/
def crS (c : Dev nD) (b : Bool) (j : Fin 2) (n : ℕ) : sProp 𝕄 := cred (tallyAt (cell c (.snd b (sl n) j)) 0 N1)
def crR (c : Dev nD) (b : Bool) (j : Fin 2) (n : ℕ) : sProp 𝕄 := cred (tallyAt (cell c (.rcv b (sl n) j)) n N1)

/-- A copy to another device, by what is owned: the source's payload goes to the own cell, the filled destination's, with
    what is given beside it, to the other device's. -/
theorem send_gen (c c' : Dev nD) {sp sp' : Space} {s : Shape} {e : EltTy} (src : Memref sig .tc sp s e) (dst : Memref sig .tc sp' s e)
    {sS sem : SemLoc sig} {hsc : dst.view.ref.isScScratch = false} {hsrc : src.view.WordExact} {hdst : dst.view.WordExact}
    {hsem : DmaTarget.Typed sp sem (.remote (c' : Thread nD τ) dst sS hsc)} {k₁ k₂ : CK} (h₁ : sS = csem k₁) (h₂ : sem = csem k₂) {r₁ r₂ : ℕ}
    (hd₁ : dut c r₁ k₁ = {false}) (hd₂ : dut c' r₂ k₂ = {false}) {N : ℕ} (ι : ℕ) (hN : dst.view.amount sem = N) (a₁ : amt k₁ = N) (a₂ : amt k₂ = N)
    {q : PosShare TreeShare} {X : s.Idx → Elt F e} {G : sProp 𝕄}
    (hp₁ : (owns (c : Thread nD τ) src q X : sProp 𝕄) ⊢ pay xs ws c r₁ false k₁)
    (hp₂ : iprop(owns (c' : Thread nD τ) dst fullShare X ∗ G) ⊢ pay xs ws c' r₂ false k₂) (O : CellTallies nD τ sig ℕ)
    {p : PUnit.{1} → PU F} {Q : PUnit.{1} → sProp 𝕄} :
    iprop(Env xs ws K ∗ owns (c : Thread nD τ) src q X ∗ (∃ Y, owns (c' : Thread nD τ) dst fullShare Y) ∗ G
        ∗ dutyTok ER (cell c k₁) r₁ false ∗ reached ER (cell c k₁) r₁ ∗ dutyTok ER (cell c' k₂) r₂ false ∗ reached ER (cell c' k₂) r₂
        ∗ owesE c (O + tallyAt (cell c' k₂) ι N))
      ⊢ iprop(((cred (tallyAt (cell c k₁) 0 N) ∗ owesE c O) -∗ runs c (p ⟨⟩) Q)
          -∗ runs c (.op (.enqueueDma src (.remote (c' : Thread nD τ) dst sS hsc) sem hsrc hdst hsem) p) Q) := by
  subst h₁ h₂
  unfold owesE runs owns
  iintro ⟨#HE, ⟨%f, %hf, Hs⟩, ⟨%Y, %g, -, Hd⟩, Hg, Ht, Hr, Ht', Hr', ⟨%W, HO⟩⟩ Hk
  iapply (Rounds.wp_send_pointsTo_with 𝒱₀ ER (Rd xs ws) (c : Thread nD τ) none (c' := (c' : Thread nD τ))
    (κ₁ := K (c, k₁)) (κ₂ := K (c', k₂)) (F := G) (fs := f) (fd := g) (q := q) (r₁ := r₁) (r₂ := r₂) (d₁ := false) (d₂ := false)
    (by rw [duties_cell, hd₁]; exact Finset.mem_singleton_self _) (by rw [duties_cell, hd₂]; exact Finset.mem_singleton_self _)
    ι 0 N hN ((amount_cell xs ws c k₁ r₁ false).trans a₁) ((amount_cell xs ws c' k₂ r₂ false).trans a₂) O rfl (W := W)
    (by
      rw [payload_cell]; refine BIBase.Entails.trans ?_ hp₁
      unfold owns; iintro H; iexists f; isplitr; · ipureintro; exact hf
      iexact H)
    (by
      rw [payload_cell]; refine BIBase.Entails.trans (sep_mono_left ?_) hp₂
      unfold owns; iintro H; iexists (dst.view.write (Elt F) g (src.view.read (Elt F) f) Finset.univ); isplitr; · ipureintro; exact (View.read_write_univ _ _).trans hf
      iexact H)) $$ [Hs Hd Hg Ht Ht' Hr Hr' HO]
  · isplitr; · iapply (env_inv xs ws K c k₁); iexact HE
    isplitr; · iapply (env_inv xs ws K c' k₂); iexact HE
    isplitl [Hs]; · iexact Hs
    isplitl [Hd Hg]
    · isplitl [Hd]; · iexact Hd
      iexact Hg
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

/-- Starting a hop's copy. -/
theorem send_step (b : Bool) (c : Dev nD) (h : Fin 15) (j : Fin 2) (O : CellTallies nD τ sig ℕ) {p : PU F} {Q : PUnit.{1} → sProp 𝕄} :
    iprop(Env xs ws K ∗ owns (c : Thread nD τ) (yP b (ch b (pos c) h.castSucc) j) fullShare (acc xs ws b h.val c j) ∗ slotAt (nx b c) b h.val j
        ∗ give b c h.val j ∗ tok c b j h.val ∗ reached ER (cell c (.snd b (sl h.val) j)) (h.val / 2) ∗ owesE c (O + T1 c b h.val j))
      ⊢ iprop(((crS c b j h.val ∗ owesE c O) -∗ runs c p Q) -∗ runs c (sendP b c h j p) Q) := by
  have := send_gen xs ws K c (nx b c) (yS b c h j) (cS b (par h) j) (sS := .dma (sSem b (par h) j)) (sem := .dma (rSem b (par h) j))
    (hsc := rfl) (hsrc := View.wordExact_bits rfl) (hdst := (View.wordExact_bits rfl).reshape _ _) (hsem := ⟨⟨rfl, Or.inl rfl⟩, trivial⟩)
    (k₁ := .snd b (sl h.val) j) (k₂ := .rcv b (sl h.val) j) rfl rfl (dut_snd c b h.isLt j) (dut_rcv (nx b c) b h.isLt j) (N := N1) h.val (amount_N1 _) rfl rfl
    (q := fullShare) (X := acc xs ws b h.val c j) (G := give b c h.val j)
    (by rw [pay_snd]; unfold yPx; rw [← yS_eq]; iintro H; iexists _; iexact H)
    (by rw [pay_rcv]; unfold land; rw [nx_not']; exact .rfl) O (p := fun _ => p) (Q := Q)
  rw [← yS_eq]
  unfold slotAt tok crS cSx
  refine BIBase.Entails.trans ?_ this
  iintro ⟨#HE, Hy, ⟨Hs, Hr⟩, Hg, ⟨Ht, Ht'⟩, Hr', HO⟩
  isplitr; · iexact HE
  isplitl [Hy]; · iexact Hy
  isplitl [Hs]; · iexact Hs
  isplitl [Hg]; · iexact Hg
  isplitl [Ht]; · iexact Ht
  isplitl [Hr']; · iexact Hr'
  isplitl [Ht']; · iexact Ht'
  isplitl [Hr]; · iexact Hr
  iexact HO

/-- Waiting for one's own copy to leave. -/
theorem waitS_step (b : Bool) (c : Dev nD) (h : Fin 15) (j : Fin 2) {O : CellTallies nD τ sig ℕ} (hO : Above 0 O) {p : PU F} {Q : PUnit.{1} → sProp 𝕄} :
    iprop(Env xs ws K ∗ crS c b j h.val ∗ owesE c O ∗ atPos ER (cell c (.snd b (sl h.val) j)) (h.val / 2) ∅ 0)
      ⊢ iprop(((owesE c O ∗ atPos ER (cell c (.snd b (sl h.val) j)) (h.val / 2 + 1) ∅ 0 ∗ reached ER (cell c (.snd b (sl h.val) j)) (h.val / 2 + 1)
            ∗ yPx c b (ch b (pos c) h.castSucc) j) -∗ runs c p Q)
          -∗ runs c (waitSP b c h j p) Q) := by
  have := wait_one xs ws K (ι := 0) (l := 0) (dut_snd c b h.isLt j) (by omega) (le_refl 0) hO
    (w := .waitDma2 (sSem b (par h) j) (cS b (par h) j) (yS b c h j) ((View.wordExact_bits rfl).reshape _ _) (View.wordExact_bits rfl))
    (fun P => by rw [wpE_waitDma2_eq, amount_N1]; rfl) (p := fun _ => p) (Q := Q)
  rw [pay_snd] at this
  exact this

/-- Waiting for a hop to land. -/
theorem waitR_step (b : Bool) (c : Dev nD) (h : Fin 15) (j : Fin 2) {O : CellTallies nD τ sig ℕ} (hO : Above (2 + h.val) O) {p : PU F} {Q : PUnit.{1} → sProp 𝕄} :
    iprop(Env xs ws K ∗ crR c b j h.val ∗ owesE c O ∗ atPos ER (cell c (.rcv b (sl h.val) j)) (h.val / 2) ∅ 0)
      ⊢ iprop(((owesE c O ∗ atPos ER (cell c (.rcv b (sl h.val) j)) (h.val / 2 + 1) ∅ 0 ∗ reached ER (cell c (.rcv b (sl h.val) j)) (h.val / 2 + 1)
            ∗ land xs ws b c h.val j) -∗ runs c p Q)
          -∗ runs c (waitRP b c h j p) Q) := by
  have := wait_one xs ws K (ι := h.val) (l := 2 + h.val) (dut_rcv c b h.isLt j) (by omega) (le_refl _) hO
    (w := .waitDma2 (rSem b (par h) j) (yS b c h j) (cS b (par h) j) (View.wordExact_bits rfl) ((View.wordExact_bits rfl).reshape _ _))
    (fun P => by rw [wpE_waitDma2_eq, amount_N1]; rfl) (p := fun _ => p) (Q := Q)
  rw [pay_rcv] at this
  exact this

/-! ## Loads and stores of the hops -/

theorem ofNat_succ (h : Fin 15) : (Fin.ofNat 16 (h.val + 1) : Fin 16) = h.succ := Fin.ext (Nat.mod_eq_of_lt (by omega))
theorem acc_succ (b : Bool) (h : Fin 15) (c : Dev nD) (j : Fin 2) :
    acc xs ws b (h.val + 1) c j = addf (half (prodA xs ws b c h.succ) j) (acc xs ws b h.val (nx (!b) c) j) := by
  show addf (half (prodA xs ws b c (Fin.ofNat 16 (h.val + 1))) j) _ = _; rw [ofNat_succ]

/-- A half-chunk loaded. -/
theorem loadY_step (b : Bool) (c : Dev nD) (h : Fin 15) (j : Fin 2) {X : Vec F S128x1024 .f32} {p : Vec F S128x1024 .f32 → PU F} {Q : PUnit.{1} → sProp 𝕄} :
    (owns (c : Thread nD τ) (yP b (ch b (pos c) h.succ) j) fullShare X : sProp 𝕄)
      ⊢ iprop((owns (c : Thread nD τ) (yP b (ch b (pos c) h.succ) j) fullShare X -∗ runs c (p X) Q) -∗ runs c (loadYP b c h j p) Q) := by
  rw [← yR_eq]; exact load_owns (F := F) c yM _
/-- A half-chunk stored. -/
theorem storeY_step (b : Bool) (c : Dev nD) (h : Fin 15) (j : Fin 2) {X v : Vec F S128x1024 .f32} {p : PU F} {Q : PUnit.{1} → sProp 𝕄} :
    (owns (c : Thread nD τ) (yP b (ch b (pos c) h.succ) j) fullShare X : sProp 𝕄)
      ⊢ iprop((owns (c : Thread nD τ) (yP b (ch b (pos c) h.succ) j) fullShare v -∗ runs c p Q) -∗ runs c (storeYP b c h j v p) Q) := by
  rw [← yR_eq]; exact store_owns (F := F) c yM _ (k := fun _ => p)

theorem sc_c : S1x128x1024.ShapeCasts S128x1024 := shapeCasts_S1x128x1024_S128x1024
/-- Any values are the reshaping of some. -/
theorem shapeCast_surj {s s' : Shape} {e : EltTy} (h : s.ShapeCasts s') (X : s'.Idx → Elt F e) : ∃ Y : s.Idx → Elt F e, shapeCast s' Y h = X :=
  ⟨fun i => X ((Shape.reshapeEquiv h).symm i), funext fun i => congrArg X (Equiv.symm_apply_apply _ i)⟩

/-- A landed half-chunk loaded. -/
theorem loadC_step (b : Bool) (c : Dev nD) (i j : Fin 2) {X : Vec F S128x1024 .f32} {p : Vec F S1x128x1024 .f32 → PU F} {Q : PUnit.{1} → sProp 𝕄} :
    (owns (c : Thread nD τ) (cS b i j) fullShare X : sProp 𝕄)
      ⊢ iprop((∀ Y, ⌜shapeCast S128x1024 Y shapeCasts_S1x128x1024_S128x1024 = X⌝ -∗ owns (c : Thread nD τ) (cS b i j) fullShare X -∗ runs c (p Y) Q)
          -∗ runs c (loadCP b i j p) Q) := by
  obtain ⟨Y, rfl⟩ := shapeCast_surj sc_c X
  rw [owns_squeeze ((cM b).slice (rC i j) (fun _ => rfl)) squeezes_S1x128x1024_S128x1024 sc_c fullShare Y]
  iintro H Hk
  iapply (load_owns c (cM b) (r := rC i j) (fun _ => rfl)) $$ H
  iintro H
  iapply Hk $$ %Y
  · ipureintro; rfl
  iexact H

end Cert.Slice
-- ==== Proof.Hops.lean ====
module

public import proofs.«01_k».proof.Proof.Steps

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

variable (K : Dev nD × CK → ℕ)

/-! ## A hop's receives and sends, both directions -/

/-- The place in a landing cell's rounds before hop `n`, and in a send cell's. -/
def rp (c : Dev nD) (b : Bool) (j : Fin 2) (n : ℕ) : sProp 𝕄 := atPos ER (cell c (.rcv b (sl n) j)) (n / 2) ∅ 0
def sp (c : Dev nD) (b : Bool) (j : Fin 2) (n : ℕ) : sProp 𝕄 := atPos ER (cell c (.snd b (sl n) j)) (n / 2) ∅ 0

theorem two_half (n : ℕ) : (n + 2) / 2 = n / 2 + 1 := by omega
theorem rp_next (c : Dev nD) (b : Bool) (j : Fin 2) (n : ℕ) :
    (atPos ER (cell c (.rcv b (sl n) j)) (n / 2 + 1) ∅ 0 : sProp 𝕄) = rp c b j (n + 2) := by unfold rp; rw [sl_add, two_half]
theorem sp_next (c : Dev nD) (b : Bool) (j : Fin 2) (n : ℕ) :
    (atPos ER (cell c (.snd b (sl n) j)) (n / 2 + 1) ∅ 0 : sProp 𝕄) = sp c b j (n + 2) := by unfold sp; rw [sl_add, two_half]

/-- The half-chunk of step `t`, at given values. -/
def yAt (c : Dev nD) (b : Bool) (t : Fin 16) (j : Fin 2) (X : Vec F S128x1024 .f32) : sProp 𝕄 :=
  owns (c : Thread nD τ) (yP b (ch b (pos c) t) j) fullShare X

theorem castV_eq (a : FVec F S128x1024 .f32) : castV a = a := funext fun i => congrArg a (Shape.reshapeEquiv_self _ i)

/-- Before a receive, a direction holds the landing's credit, its place in the cell's rounds and its own product. -/
def inR (c : Dev nD) (b : Bool) (m : Fin 15) (j : Fin 2) : sProp 𝕄 :=
  iprop(crR c b j m.val ∗ rp c b j m.val ∗ yAt c b m.succ j (half (prodA xs ws b c m.succ) j))
/-- After it, the next place, the slot free again, what the copy brought, and the sum (passed through `g`). -/
def outR (g : FVec F S128x1024 .f32 → FVec F S128x1024 .f32) (c : Dev nD) (b : Bool) (m : Fin 15) (j : Fin 2) : sProp 𝕄 :=
  iprop(rp c b j (m.val + 2) ∗ slotAt c b (m.val + 2) j ∗ give b (nx (!b) c) m.val j ∗ yAt c b m.succ j (g (acc xs ws b (m.val + 1) c j)))

/-- A landed slot with its round reached is a free slot of the hop after next. -/
theorem slot_next (c : Dev nD) (b : Bool) (n : ℕ) (j : Fin 2) (X : Vec F S128x1024 .f32) :
    iprop(owns (c : Thread nD τ) (cS b (sl n) j) fullShare X ∗ reached ER (cell c (.rcv b (sl n) j)) (n / 2 + 1)) ⊢ (slotAt c b (n + 2) j : sProp 𝕄) := by
  unfold slotAt cSx; rw [sl_add, two_half]
  iintro ⟨H, H'⟩
  iframe H'; iexists X; iexact H

/-- One hop received: both directions' half-chunks land, are added and stored. -/
theorem recv_step (c : Dev nD) (m : Fin 15) (j : Fin 2) (g : FVec F S128x1024 .f32 → FVec F S128x1024 .f32) {O : CellTallies nD τ sig ℕ}
    (hO : Above (2 + m.val) O) {p : FVec F S128x1024 .f32 → FVec F S128x1024 .f32 → PU F} {Q : PUnit.{1} → sProp 𝕄} :
    iprop(Env xs ws K ∗ inR xs ws c true m j ∗ inR xs ws c false m j ∗ owesE c O)
      ⊢ iprop(((outR xs ws g c true m j ∗ outR xs ws g c false m j ∗ owesE c O)
            -∗ runs c (p (g (acc xs ws true (m.val + 1) c j)) (g (acc xs ws false (m.val + 1) c j))) Q)
          -∗ runs c (recvP c m j g p) Q) := by
  unfold inR outR recvP yAt
  iintro ⟨#HE, ⟨Hc, Ha, Hy⟩, ⟨Hc', Ha', Hy'⟩, HO⟩ Hk
  iapply (waitR_step xs ws K true c m j hO) $$ [Hc Ha HO]
  · unfold rp; iframe HE Hc HO Ha
  rw [rp_next]
  iintro ⟨HO, Ha, Hr, Hl⟩
  iapply (waitR_step xs ws K false c m j hO) $$ [Hc' Ha' HO]
  · unfold rp; iframe HE Hc' HO Ha'
  rw [rp_next]
  iintro ⟨HO, Ha', Hr', Hl'⟩
  unfold land
  icases Hl with ⟨Hs, Hg⟩
  icases Hl' with ⟨Hs', Hg'⟩
  iapply (loadY_step true c m j) $$ Hy
  iintro Hy
  rw [par_eq]
  iapply (loadC_step true c (sl m.val) j) $$ Hs
  iintro %C %hC Hs
  iapply (loadY_step false c m j) $$ Hy'
  iintro Hy'
  iapply (loadC_step false c (sl m.val) j) $$ Hs'
  iintro %C' %hC' Hs'
  have e : addV (half (prodA xs ws true c m.succ) j) C = acc xs ws true (m.val + 1) c j := by rw [acc_succ, ← hC]; rfl
  have e' : addV (half (prodA xs ws false c m.succ) j) C' = acc xs ws false (m.val + 1) c j := by rw [acc_succ, ← hC']; rfl
  rw [e, e', castV_eq, castV_eq]
  iapply (loadY_step true c m j) $$ Hy
  iintro Hy
  iapply (storeY_step true c m j) $$ Hy
  iintro Hy
  iapply (loadY_step false c m j) $$ Hy'
  iintro Hy'
  iapply (storeY_step false c m j) $$ Hy'
  iintro Hy'
  ihave Hf := (slot_next c true m.val j _) $$ [Hs Hr]
  · iframe Hs Hr
  ihave Hf' := (slot_next c false m.val j _) $$ [Hs' Hr']
  · iframe Hs' Hr'
  iapply Hk
  iframe Ha Hf Hg Hy Ha' Hf' Hg' Hy' HO

/-- Before a send, a direction holds the sum, the slot to fill, what goes with the copy, and the tokens. -/
def inS (c : Dev nD) (b : Bool) (m : Fin 15) (j : Fin 2) : sProp 𝕄 :=
  iprop(yAt c b m.castSucc j (acc xs ws b m.val c j) ∗ (slotAt (nx b c) b m.val j ∗ give b c m.val j) ∗ tok c b j m.val
    ∗ reached ER (cell c (.snd b (sl m.val) j)) (m.val / 2))

/-- One hop sent, both directions. -/
theorem sends_step (c : Dev nD) (m : Fin 15) (j : Fin 2) (O : CellTallies nD τ sig ℕ) {p : PU F} {Q : PUnit.{1} → sProp 𝕄} :
    iprop(Env xs ws K ∗ inS xs ws c true m j ∗ inS xs ws c false m j ∗ owesE c ((O + T1 c false m.val j) + T1 c true m.val j))
      ⊢ iprop(((crS c true j m.val ∗ crS c false j m.val ∗ owesE c O) -∗ runs c p Q) -∗ runs c (sendP true c m j (sendP false c m j p)) Q) := by
  unfold inS yAt
  iintro ⟨#HE, ⟨Hy, ⟨Hs, Hg⟩, Ht, Hr⟩, ⟨Hy', ⟨Hs', Hg'⟩, Ht', Hr'⟩, HO⟩ Hk
  iapply (send_step xs ws K true c m j (O + T1 c false m.val j)) $$ [Hy Hs Hg Ht Hr HO]
  · iframe HE Hy Hs Hg Ht Hr HO
  iintro ⟨Hc, HO⟩
  iapply (send_step xs ws K false c m j O) $$ [Hy' Hs' Hg' Ht' Hr' HO]
  · iframe HE Hy' Hs' Hg' Ht' Hr' HO
  iintro ⟨Hc', HO⟩
  iapply Hk
  iframe Hc Hc' HO

/-- One hop's own copies waited for, both directions. -/
theorem waitSs_step (c : Dev nD) (m : Fin 15) (j : Fin 2) {O : CellTallies nD τ sig ℕ} (hO : Above 0 O) {p : PU F} {Q : PUnit.{1} → sProp 𝕄} :
    iprop(Env xs ws K ∗ (crS c true j m.val ∗ sp c true j m.val) ∗ (crS c false j m.val ∗ sp c false j m.val) ∗ owesE c O)
      ⊢ iprop((((sp c true j (m.val + 2) ∗ reached ER (cell c (.snd true (sl (m.val + 2)) j)) ((m.val + 2) / 2) ∗ yPx c true (ch true (pos c) m.castSucc) j)
            ∗ (sp c false j (m.val + 2) ∗ reached ER (cell c (.snd false (sl (m.val + 2)) j)) ((m.val + 2) / 2) ∗ yPx c false (ch false (pos c) m.castSucc) j)
            ∗ owesE c O) -∗ runs c p Q) -∗ runs c (waitSP true c m j (waitSP false c m j p)) Q) := by
  iintro ⟨#HE, ⟨Hc, Ha⟩, ⟨Hc', Ha'⟩, HO⟩ Hk
  iapply (waitS_step xs ws K true c m j hO) $$ [Hc Ha HO]
  · unfold sp; iframe HE Hc HO Ha
  rw [sp_next, sl_add, two_half]
  iintro ⟨HO, Ha, Hr, Hy⟩
  iapply (waitS_step xs ws K false c m j hO) $$ [Hc' Ha' HO]
  · unfold sp; iframe HE Hc' HO Ha'
  rw [sp_next]
  iintro ⟨HO, Ha', Hr', Hy'⟩
  iapply Hk
  iframe Ha Hr Hy Ha' Hr' Hy' HO

/-! ## What a hop's receives leave for the next hop's sends -/

/-- The piece of the bag that stays, hop by hop. -/
def kb (c : Dev nD) (j : Fin 2) (n : ℕ) : sProp 𝕄 :=
  if j = 0 ∧ n ≠ 0 then axx (ringDev (pos c - Fin.ofNat 16 n)) (pos c) else iprop(emp)

theorem sub_step : ∀ (p : Fin 16) (n : Fin 16), (p - 1) - n = p - (n + 1) ∧ (p - (n + 1)) + (n + 1) = p := by decide +kernel
theorem ofNat_add_one (n : ℕ) : (Fin.ofNat 16 (n + 1) : Fin 16) = Fin.ofNat 16 n + 1 := Fin.ext (by simp [Fin.val_add])

theorem bag_step (c : Dev nD) (b : Bool) (j : Fin 2) {n : ℕ} (hn : n < 15) :
    (bagAt b j (pos (nx (!b) c)) n : sProp 𝕄) = iprop((if b = true then kb c j (n + 1) else emp) ∗ bagAt b j (pos c) (n + 1)) := by
  unfold bagAt kb
  by_cases hb : b = true
  · subst hb
    by_cases hj : j = 0
    · subst hj
      rw [if_pos ⟨rfl, rfl⟩, if_pos rfl, if_pos ⟨rfl, Nat.succ_ne_zero n⟩, if_pos ⟨rfl, rfl⟩]
      have hp : pos (nx (!true) c) = pos c - 1 := pos_nx false c
      have h := sub_step (pos c) (Fin.ofNat 16 n)
      rw [hp, ofNat_add_one, h.1]
      unfold Bag
      have hk : (⟨n + 1, by omega⟩ : Fin 16) = Fin.ofNat 16 n + 1 := by rw [← ofNat_add_one]; exact Fin.ext (Nat.mod_eq_of_lt (by omega)).symm
      rw [bigSep_finFrom_succ (by omega : n + 1 < 16), hk, h.2]
    · rw [if_neg fun h => hj h.2, if_pos rfl, if_neg fun h => hj h.1, if_neg fun h => hj h.2]; exact (equiv_iff.mp BI.emp_sep).symm
  · rw [if_neg fun h => hb h.1, if_neg hb, if_neg fun h => hb h.1]; exact (equiv_iff.mp BI.emp_sep).symm

/-- The slots that are not needed any more. -/
def left (c : Dev nD) (j : Fin 2) (n : ℕ) : sProp 𝕄 := if n < 13 then iprop(emp) else iprop(slotAt c true (n + 2) j ∗ slotAt c false (n + 2) j)

theorem exch (c : Dev nD) (j : Fin 2) {n : ℕ} (hn : n < 14) :
    iprop(slotAt c true (n + 2) j ∗ slotAt c false (n + 2) j ∗ give true (nx (!true) c) n j ∗ give false (nx (!false) c) n j)
      ⊢ (iprop((slotAt (nx true c) true (n + 1) j ∗ give true c (n + 1) j) ∗ (slotAt (nx false c) false (n + 1) j ∗ give false c (n + 1) j)
          ∗ kb c j (n + 1) ∗ left c j n) : sProp 𝕄) := by
  unfold give left
  rw [if_pos hn, if_pos hn, bag_step c true j (by omega), bag_step c false j (by omega), if_pos rfl, if_neg Bool.false_ne_true]
  show iprop(slotAt c true (n + 2) j ∗ slotAt c false (n + 2) j ∗ (slotAt (nx false c) false (n + 1) j ∗ kb c j (n + 1) ∗ bagAt true j (pos c) (n + 1))
    ∗ (slotAt (nx true c) true (n + 1) j ∗ emp ∗ bagAt false j (pos c) (n + 1))) ⊢ _
  by_cases h : n < 13
  · rw [if_pos (by omega), if_pos (by omega), if_pos h]
    show _ ⊢ iprop((_ ∗ slotAt c false (n + 2) j ∗ _) ∗ (_ ∗ slotAt c true (n + 2) j ∗ _) ∗ _)
    iintro ⟨H1, H2, ⟨H3, H4, H5⟩, ⟨H6, -, H7⟩⟩
    iframe H1 H2 H3 H4 H5 H6 H7
  · rw [if_neg (by omega), if_neg (by omega), if_neg h]
    iintro ⟨H1, H2, ⟨H3, H4, H5⟩, ⟨H6, -, H7⟩⟩
    iframe H1 H2 H3 H4 H5 H6 H7

/-! ## The loop over the hops -/

/-- A direction's resources between hops: received up to hop `n`, sent up to hop `n + 1`, own copies waited for below `n`. -/
def Lane (c : Dev nD) (b : Bool) (j : Fin 2) (n : ℕ) : sProp 𝕄 :=
  iprop((rp c b j (n + 1) ∗ rp c b j (n + 2) ∗ sp c b j n ∗ sp c b j (n + 1) ∗ crS c b j n ∗ crS c b j (n + 1))
    ∗ (bigSep (finFrom 15 (n + 2)) fun m => tok c b j m.val) ∗ (bigSep (finFrom 15 (n + 1)) fun m => crR c b j m.val)
    ∗ bigSep (finUpTo 15 n) fun m => yPx c b (ch b (pos c) m.castSucc) j)

/-- Both directions', and what stays with the device. -/
def Pair (c : Dev nD) (j : Fin 2) (n : ℕ) : sProp 𝕄 :=
  iprop(Lane c true j n ∗ Lane c false j n ∗ (bigSep (finUpTo 16 (n + 2)) fun m => kb c j m.val) ∗ left c j n)

theorem pair_step (c : Dev nD) (j : Fin 2) {n : ℕ} (hn : n < 13) (O : CellTallies nD τ sig ℕ)
    (hO : Above (2 + (n + 1)) ((O + T1 c false (n + 2) j) + T1 c true (n + 2) j)) (h0 : Above 0 O)
    {p : PU F} {Q : PUnit.{1} → sProp 𝕄} :
    iprop(Env xs ws K ∗ Pair c j n ∗ (yAt c true ⟨n + 2, by omega⟩ j (half (prodA xs ws true c ⟨n + 2, by omega⟩) j)
        ∗ yAt c false ⟨n + 2, by omega⟩ j (half (prodA xs ws false c ⟨n + 2, by omega⟩) j))
        ∗ owesE c ((O + T1 c false (n + 2) j) + T1 c true (n + 2) j))
      ⊢ iprop(((Pair c j (n + 1) ∗ owesE c O) -∗ runs c p Q)
        -∗ runs c (recvP c ⟨n + 1, by omega⟩ j id fun _ _ => waitSP true c ⟨n, by omega⟩ j <| waitSP false c ⟨n, by omega⟩ j <|
            sendP true c ⟨n + 2, by omega⟩ j <| sendP false c ⟨n + 2, by omega⟩ j p) Q) := by
  unfold Pair Lane
  rw [bigSep_finFrom_succ (by omega : n + 2 < 15), bigSep_finFrom_succ (by omega : n + 2 < 15), bigSep_finFrom_succ (by omega : n + 1 < 15),
    bigSep_finFrom_succ (by omega : n + 1 < 15), bigSep_finUpTo_succ (by omega : n < 15) (fun m => yPx c true (ch true (pos c) m.castSucc) j),
    bigSep_finUpTo_succ (by omega : n < 15) (fun m => yPx c false (ch false (pos c) m.castSucc) j),
    bigSep_finUpTo_succ (by omega : n + 2 < 16) (fun m => kb c j m.val), show (left c j n : sProp 𝕄) = iprop(emp) from if_pos hn]
  have h1 : n + 1 < 15 := by omega
  have h2 : n + 2 < 15 := by omega
  have h3 : n < 15 := by omega
  iintro ⟨#HE, ⟨⟨⟨R1, R2, S1, S2, C1, C2⟩, ⟨T, TT⟩, ⟨C, CC⟩, B⟩, ⟨⟨R1', R2', S1', S2', C1', C2'⟩, ⟨T', TT'⟩, ⟨C', CC'⟩, B'⟩, KB, -⟩, ⟨Y, Y'⟩, HO⟩ Hk
  iapply (recv_step xs ws K c ⟨n + 1, h1⟩ j id hO) $$ [C R1 Y C' R1' Y' HO]
  · unfold inR; iframe HE C R1 C' R1' HO
    isplitl [Y]; · iexact Y
    iexact Y'
  unfold outR
  iintro ⟨⟨R3, F, G, Y⟩, ⟨R3', F', G', Y'⟩, HO⟩
  ihave He := (exch c j (n := n + 1) (by omega)) $$ [F F' G G']
  · iframe F F' G G'
  icases He with ⟨P, P', N, Lf⟩
  iapply (waitSs_step xs ws K c ⟨n, h3⟩ j ((hO.mono (Nat.zero_le _)))) $$ [C1 S1 C1' S1' HO]
  · iframe HE C1 S1 C1' S1' HO
  iintro ⟨⟨S1, Hr, Y0⟩, ⟨S1', Hr', Y0'⟩, HO⟩
  iapply (sends_step xs ws K c ⟨n + 2, h2⟩ j O) $$ [Y P T Hr Y' P' T' Hr' HO]
  · unfold inS
    iframe HE T Hr T' Hr' HO P P'
    isplitl [Y]; · iexact Y
    iexact Y'
  iintro ⟨C3, C3', HO⟩
  iapply Hk
  iframe HO R2 R3 S2 S1 C2 C3 TT CC B Y0 R2' R3' S2' S1' C2' C3' TT' CC' B' Y0' KB N Lf

end Cert.Slice
-- ==== Proof.Loop.lean ====
module

public import proofs.«01_k».proof.Proof.Hops

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

variable (K : Dev nD × CK → ℕ)

/-! ## Loops -/

/-- A loop written out keeps an invariant. -/
theorem foldr_loop (c : Dev nD) {E : sProp 𝕄} [BI.Persistent E] {Q : PUnit.{1} → sProp 𝕄} {N : ℕ} : ∀ (f : Fin N → PU F → PU F) (S : ℕ → sProp 𝕄)
    (step : ∀ (h : Fin N) (p : PU F), iprop(E ∗ S h.val) ⊢ iprop((S (h.val + 1) -∗ runs c p Q) -∗ runs c (f h p) Q)) (p : PU F),
    iprop(E ∗ S 0) ⊢ iprop((S N -∗ runs c p Q) -∗ runs c ((List.finRange N).foldr f p) Q) := by
  induction N with
  | zero => intro f S step p; rw [List.finRange_zero]; iintro ⟨-, H⟩ Hk; iapply Hk; iexact H
  | succ N ih =>
    intro f S step p
    rw [List.finRange_succ, List.foldr_cons, List.foldr_map]
    iintro ⟨#HE, H⟩ Hk
    iapply (step 0 _) $$ [H]
    · iframe HE H
    iintro H
    iapply (ih (fun h k => f h.succ k) (fun n => S (n + 1)) (fun h p => step h.succ p) p) $$ [H]
    · iframe HE H
    iexact Hk

/-! ## The products -/

variable (xM : Memref sig .tc .vmem S4096x256 .f32) (wM : Memref sig .tc .vmem S256x2048 .f32)

/-- The device's parts of the two factors. -/
def XW (c : Dev nD) : sProp 𝕄 := iprop(owns (c : Thread nD τ) xM fullShare (xs c) ∗ owns (c : Thread nD τ) wM fullShare (ws c))
/-- The product of step `n`, both halves, for one direction. -/
def yPr (c : Dev nD) (b : Bool) (n : ℕ) (j : Fin 2) : sProp 𝕄 := yAt c b (Fin.ofNat 16 n) j (half (prodA xs ws b c (Fin.ofNat 16 n)) j)
theorem yPr_eq (c : Dev nD) (b : Bool) {n : ℕ} (hn : n < 16) (j : Fin 2) :
    yPr xs ws c b n j = yAt c b ⟨n, hn⟩ j (half (prodA xs ws b c ⟨n, hn⟩) j) := by
  unfold yPr; rw [show (Fin.ofNat 16 n : Fin 16) = ⟨n, hn⟩ from Fin.ext (Nat.mod_eq_of_lt hn)]

theorem gemm_step (c : Dev nD) (b : Bool) (t : Fin 16) {p : PU F} {Q : PUnit.{1} → sProp 𝕄} :
    iprop(XW xs ws xM wM c ∗ yQx c b (ch b (pos c) t))
      ⊢ iprop(((XW xs ws xM wM c ∗ yPr xs ws c b t.val 0 ∗ yPr xs ws c b t.val 1) -∗ runs c p Q) -∗ runs c (gemmP xM wM b c t p) Q) := by
  unfold XW yQx gemmP
  rw [yPr_eq xs ws c b t.isLt, yPr_eq xs ws c b t.isLt]
  iintro ⟨⟨Hx, Hw⟩, ⟨%X, Hy⟩⟩ Hk
  rw [← yY_eq]
  iapply (load_sub c xM) $$ Hx
  iintro Hx
  iapply (load_sub c wM) $$ Hw
  iintro Hw
  iapply (load_owns c yM (fun _ => rfl)) $$ Hy
  iintro Hy
  iapply (store_owns c yM (fun _ => rfl)) $$ Hy
  rw [yY_eq]
  iintro Hy
  ihave Hy' := (chunk_split c b (ch b (pos c) t) fullShare (prodA xs ws b c t)) $$ [Hy]
  · iexact Hy
  icases Hy' with ⟨H0, H1⟩
  iapply Hk
  unfold yAt
  iframe Hx Hw
  isplitl [H0]; · iexact H0
  iexact H1

/-- Both directions' products of a step. -/
def yPr2 (c : Dev nD) (n : ℕ) : sProp 𝕄 :=
  iprop((yPr xs ws c true n 0 ∗ yPr xs ws c false n 0) ∗ yPr xs ws c true n 1 ∗ yPr xs ws c false n 1)
/-- The chunks not yet written, from step `n` on. -/
def rest2 (c : Dev nD) (n : ℕ) : sProp 𝕄 :=
  iprop((bigSep (finFrom 16 n) fun t => yQx c true (ch true (pos c) t)) ∗ bigSep (finFrom 16 n) fun t => yQx c false (ch false (pos c) t))

theorem gemms_step (c : Dev nD) {n : ℕ} (hn : n < 16) {p : PU F} {Q : PUnit.{1} → sProp 𝕄} :
    iprop(XW xs ws xM wM c ∗ rest2 c n)
      ⊢ iprop(((XW xs ws xM wM c ∗ rest2 c (n + 1) ∗ yPr2 xs ws c n) -∗ runs c p Q)
        -∗ runs c (gemmP xM wM true c ⟨n, hn⟩ (gemmP xM wM false c ⟨n, hn⟩ p)) Q) := by
  unfold rest2 yPr2
  rw [bigSep_finFrom_succ hn, bigSep_finFrom_succ hn]
  iintro ⟨HX, ⟨H, HT⟩, ⟨H', HT'⟩⟩ Hk
  iapply (gemm_step xs ws xM wM c true ⟨n, hn⟩) $$ [HX H]
  · iframe HX H
  iintro ⟨HX, H0, H1⟩
  iapply (gemm_step xs ws xM wM c false ⟨n, hn⟩) $$ [HX H']
  · iframe HX H'
  iintro ⟨HX, H0', H1'⟩
  iapply Hk
  iframe HX HT HT' H0 H1 H0' H1'

/-! ## The middle hops -/

theorem OB_succ (c : Dev nD) {n : ℕ} (hn : n < 15) : OB c n = OB c (n + 1) + OH c n := by
  unfold OB; rw [sum_finFrom_succ hn]
theorem OW_succ (c : Dev nD) {n : ℕ} (hn : n < 15) :
    OW c n = (((OW c (n + 1) + T1 c false n 1) + T1 c true n 1) + T1 c false n 0) + T1 c true n 0 := by
  unfold OW; rw [OB_succ c hn]; unfold OH; simp only [add_assoc]

/-- The state between the hops: hop `n` received and hop `n + 1` sent. -/
def Mid (c : Dev nD) (n : ℕ) : sProp 𝕄 :=
  iprop(XW xs ws xM wM c ∗ (Pair c 0 n ∗ Pair c 1 n) ∗ yPr2 xs ws c (n + 2) ∗ rest2 c (n + 3) ∗ owesE c (OW c (n + 2)))

theorem hop_step (c : Dev nD) (h : Fin 13) {p : PU F} {Q : PUnit.{1} → sProp 𝕄} :
    iprop(Env xs ws K ∗ Mid xs ws xM wM c h.val)
      ⊢ iprop((Mid xs ws xM wM c (h.val + 1) -∗ runs c p Q) -∗ runs c (hopP xM wM c h p) Q) := by
  obtain ⟨n, hn⟩ := h
  show iprop(Env xs ws K ∗ Mid xs ws xM wM c n) ⊢ iprop((Mid xs ws xM wM c (n + 1) -∗ runs c p Q) -∗ runs c (hopP xM wM c ⟨n, hn⟩ p) Q)
  have h2 : n + 2 < 15 := by omega
  have h2' : n + 2 < 16 := by omega
  have h3 : n + 3 < 16 := by omega
  unfold Mid yPr2 hopP
  rw [show OW c (n + 2) = _ from OW_succ c h2]
  rw [yPr_eq xs ws c true h2' 0, yPr_eq xs ws c false h2' 0, yPr_eq xs ws c true h2' 1, yPr_eq xs ws c false h2' 1]
  iintro ⟨#HE, HX, ⟨P0, P1⟩, ⟨Y0, Y1⟩, HR, HO⟩ Hk
  have a0 : Above (2 + (n + 1)) ((OW c (n + 2 + 1) + T1 c false (n + 2) 1) + T1 c true (n + 2) 1) :=
    ((above_OW (by omega) (by omega)).add (above_T1 h2 (by omega))).add (above_T1 h2 (by omega))
  iapply (pair_step xs ws K c 0 hn _ ((a0.add (above_T1 h2 (by omega))).add (above_T1 h2 (by omega))) (a0.mono (Nat.zero_le _))) $$ [P0 Y0 HO]
  · iframe HE P0 Y0 HO
  iintro ⟨P0, HO⟩
  iapply (pair_step xs ws K c 1 hn _ a0 (above_OW (by omega) (by omega))) $$ [P1 Y1 HO]
  · iframe HE P1 Y1 HO
  iintro ⟨P1, HO⟩
  iapply (gemms_step xs ws xM wM c h3) $$ [HX HR]
  · iframe HX HR
  unfold yPr2
  iintro ⟨HX, HR, HY⟩
  iapply Hk
  iframe HX P0 P1 HR HY HO

/-! ## The first hop -/

/-- A direction's resources before the first send, beside the chunks and the bag. -/
def Lane0 (c : Dev nD) (b : Bool) (j : Fin 2) : sProp 𝕄 :=
  iprop((rp c b j 0 ∗ rp c b j 1 ∗ sp c b j 0 ∗ sp c b j 1) ∗ (bigSep (finFrom 15 0) fun m => tok c b j m.val)
    ∗ (bigSep (finFrom 15 0) fun m => crR c b j m.val) ∗ slotAt (nx b c) b 0 j ∗ slotAt c b 1 j)
/-- And after it. -/
def Lane1 (c : Dev nD) (b : Bool) (j : Fin 2) : sProp 𝕄 :=
  iprop((rp c b j 0 ∗ rp c b j 1 ∗ sp c b j 0 ∗ sp c b j 1 ∗ crS c b j 0) ∗ (bigSep (finFrom 15 1) fun m => tok c b j m.val)
    ∗ (bigSep (finFrom 15 0) fun m => crR c b j m.val))

theorem send0_step (c : Dev nD) (j : Fin 2) (O : CellTallies nD τ sig ℕ) {p : PU F} {Q : PUnit.{1} → sProp 𝕄} :
    iprop(Env xs ws K ∗ (Lane0 c true j ∗ Lane0 c false j) ∗ bagAt true j (pos c) 0 ∗ (yPr xs ws c true 0 j ∗ yPr xs ws c false 0 j)
        ∗ owesE c ((O + T1 c false 0 j) + T1 c true 0 j))
      ⊢ iprop((((Lane1 c true j ∗ Lane1 c false j) ∗ owesE c O) -∗ runs c p Q) -∗ runs c (sendP true c 0 j (sendP false c 0 j p)) Q) := by
  have ey (b : Bool) : yPr xs ws c b 0 j = yAt c b (Fin.castSucc (0 : Fin 15)) j (acc xs ws b (0 : Fin 15).val c j) :=
    yPr_eq xs ws c b (by omega) j
  rw [ey true, ey false]
  unfold Lane0 Lane1
  rw [bigSep_finFrom_succ (by omega : 0 < 15) (fun m => tok c true j m.val), bigSep_finFrom_succ (by omega : 0 < 15) (fun m => tok c false j m.val)]
  iintro ⟨#HE, ⟨⟨⟨R0, R1, S0, S1⟩, ⟨T, TT⟩, CC, Ns, F⟩, ⟨⟨R0', R1', S0', S1'⟩, ⟨T', TT'⟩, CC', Ns', F'⟩⟩, B, ⟨Y, Y'⟩, HO⟩ Hk
  have e (b : Bool) : (give b c (0 : Fin 15).val j : sProp 𝕄) = iprop(slotAt c (!b) 1 j ∗ bagAt b j (pos c) 0) := by
    unfold give; rw [if_pos (by decide)]; rfl
  have e' : (bagAt false j (pos c) 0 : sProp 𝕄) = iprop(emp) := if_neg fun h => Bool.false_ne_true h.1
  iapply (sends_step xs ws K c 0 j O) $$ [Y Y' T T' Ns Ns' F F' B HO]
  · unfold inS
    rw [e true, e false, e']
    iframe HE T T' Ns Ns' B HO
    isplitl [Y F']
    · isplitl [Y]; · iexact Y
      isplitl [F']
      · iexact F'
      iapply (env_reached xs ws K c _); iexact HE
    isplitl [Y']; · iexact Y'
    isplitl [F]
    · isplitl [F]; · iexact F
      iempintro
    iapply (env_reached xs ws K c _); iexact HE
  iintro ⟨C, C', HO⟩
  iapply Hk
  iframe HO R0 R1 S0 S1 C TT CC R0' R1' S0' S1' C' TT' CC'

theorem hop0_pair (c : Dev nD) (j : Fin 2) (O : CellTallies nD τ sig ℕ)
    (hO : Above 2 ((O + T1 c false 1 j) + T1 c true 1 j)) {p : PU F} {Q : PUnit.{1} → sProp 𝕄} :
    iprop(Env xs ws K ∗ (Lane1 c true j ∗ Lane1 c false j) ∗ (yPr xs ws c true 1 j ∗ yPr xs ws c false 1 j)
        ∗ owesE c ((O + T1 c false 1 j) + T1 c true 1 j))
      ⊢ iprop(((Pair c j 0 ∗ owesE c O) -∗ runs c p Q)
        -∗ runs c (recvP c 0 j id fun _ _ => sendP true c 1 j <| sendP false c 1 j p) Q) := by
  have ey (b : Bool) : yPr xs ws c b 1 j = yAt c b (Fin.succ (0 : Fin 15)) j (half (prodA xs ws b c (Fin.succ (0 : Fin 15))) j) :=
    yPr_eq xs ws c b (by omega) j
  unfold Pair Lane Lane1
  rw [ey true, ey false, bigSep_finFrom_succ (by omega : 1 < 15) (fun m => tok c true j m.val), bigSep_finFrom_succ (by omega : 1 < 15) (fun m => tok c false j m.val),
    bigSep_finFrom_succ (by omega : 0 < 15) (fun m => crR c true j m.val), bigSep_finFrom_succ (by omega : 0 < 15) (fun m => crR c false j m.val),
    bigSep_finUpTo_succ (by omega : 1 < 16) (fun m => kb c j m.val), bigSep_finUpTo_succ (by omega : 0 < 16) (fun m => kb c j m.val),
    bigSep_finUpTo_zero, bigSep_finUpTo_zero, bigSep_finUpTo_zero, show (kb c j 0 : sProp 𝕄) = iprop(emp) from if_neg fun h => h.2 rfl]
  iintro ⟨#HE, ⟨⟨⟨R1, R2, S1, S2, C1⟩, ⟨T, TT⟩, ⟨C, CC⟩⟩, ⟨⟨R1', R2', S1', S2', C1'⟩, ⟨T', TT'⟩, ⟨C', CC'⟩⟩⟩, ⟨Y, Y'⟩, HO⟩ Hk
  iapply (recv_step xs ws K c 0 j id hO) $$ [C R1 Y C' R1' Y' HO]
  · unfold inR; iframe HE HO
    isplitl [C R1 Y]
    · isplitl [C]; · iexact C
      isplitl [R1]; · iexact R1
      iexact Y
    isplitl [C']; · iexact C'
    isplitl [R1']; · iexact R1'
    iexact Y'
  unfold outR
  iintro ⟨⟨R3, F, G, Y⟩, ⟨R3', F', G', Y'⟩, HO⟩
  ihave He := (exch c j (n := 0) (by omega)) $$ [F F' G G']
  · iframe F F' G G'
  icases He with ⟨P, P', N, Lf⟩
  iapply (sends_step xs ws K c 1 j O) $$ [Y P T Y' P' T' HO]
  · unfold inS
    iframe HE HO T T'
    isplitl [Y P]
    · isplitl [Y]; · iexact Y
      isplitl [P]; · iexact P
      iapply (env_reached xs ws K c _); iexact HE
    isplitl [Y']; · iexact Y'
    isplitl [P']; · iexact P'
    iapply (env_reached xs ws K c _); iexact HE
  iintro ⟨C3, C3', HO⟩
  iapply Hk
  iframe HO R2 R3 S2 S1 C1 C3 TT CC R2' R3' S2' S1' C1' C3' TT' CC' N Lf
  isplitr <;> iempintro

/-- What a device holds from the barrier on. -/
def Begin (c : Dev nD) : sProp 𝕄 :=
  iprop(XW xs ws xM wM c ∗ rest2 c 0 ∗ ((Lane0 c true 0 ∗ Lane0 c false 0) ∗ Lane0 c true 1 ∗ Lane0 c false 1) ∗ Bag (pos c) 1 ∗ owesE c (OW c 0))

theorem work_step (c : Dev nD) {Q : PUnit.{1} → sProp 𝕄} :
    iprop(Env xs ws K ∗ Begin xs ws xM wM c)
      ⊢ iprop((Mid xs ws xM wM c 13 -∗ runs c (lastP c) Q) -∗ runs c (workP xM wM c) Q) := by
  unfold Begin workP hop0P
  iintro ⟨#HE, HX, HR, ⟨L0, L1⟩, HB, HO⟩ Hk
  iapply (gemms_step xs ws xM wM c (n := 0) (by omega)) $$ [HX HR]
  · iframe HX HR
  unfold yPr2
  iintro ⟨HX, HR, Y0, Y1⟩
  rw [OW_succ c (by omega : 0 < 15)]
  have hb : (bagAt true 0 (pos c) 0 : sProp 𝕄) = Bag (pos c) 1 := by
    unfold bagAt; rw [if_pos ⟨rfl, rfl⟩, show pos c - Fin.ofNat 16 0 = pos c from by revert c; decide]
  have hb' : (bagAt true 1 (pos c) 0 : sProp 𝕄) = iprop(emp) := if_neg fun h => absurd h.2 (by decide)
  iapply (send0_step xs ws K c 0 _) $$ [L0 HB Y0 HO]
  · rw [hb]; iframe HE L0 HB Y0 HO
  iintro ⟨L0, HO⟩
  iapply (send0_step xs ws K c 1 _) $$ [L1 Y1 HO]
  · rw [hb']; iframe HE L1 Y1 HO
  iintro ⟨L1, HO⟩
  iapply (gemms_step xs ws xM wM c (n := 1) (by omega)) $$ [HX HR]
  · iframe HX HR
  unfold yPr2
  iintro ⟨HX, HR, Y0, Y1⟩
  rw [show OW c (0 + 1) = _ from OW_succ c (by omega : 1 < 15)]
  have a0 : Above 2 ((OW c (1 + 1) + T1 c false 1 1) + T1 c true 1 1) :=
    ((above_OW (by omega) (by omega)).add (above_T1 (by omega) (by omega))).add (above_T1 (by omega) (by omega))
  iapply (hop0_pair xs ws K c 0 _ ((a0.add (above_T1 (by omega) (by omega))).add (above_T1 (by omega) (by omega)))) $$ [L0 Y0 HO]
  · iframe HE L0 Y0 HO
  iintro ⟨P0, HO⟩
  iapply (hop0_pair xs ws K c 1 _ a0) $$ [L1 Y1 HO]
  · iframe HE L1 Y1 HO
  iintro ⟨P1, HO⟩
  iapply (gemms_step xs ws xM wM c (n := 2) (by omega)) $$ [HX HR]
  · iframe HX HR
  iintro ⟨HX, HR, HY⟩
  iapply (foldr_loop c (E := Env xs ws K) _ (Mid xs ws xM wM c) (fun h p => hop_step xs ws K xM wM c h)) $$ [HX P0 P1 HR HY HO]
  · unfold Mid; iframe HE HX P0 P1 HR HY HO
  iexact Hk

end Cert.Slice
-- ==== Proof.Last.lean ====
module

public import proofs.«01_k».proof.Proof.Loop

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

variable (K : Dev nD × CK → ℕ)

/-! ## The last hop -/

/-- A direction's resources after the last receive, its own copies still to be waited for, -/
def LaneR (c : Dev nD) (b : Bool) (j : Fin 2) : sProp 𝕄 :=
  iprop((rp c b j 15 ∗ rp c b j 16) ∗ (slotAt c b 15 j ∗ slotAt c b 16 j) ∗ yAt c b (Fin.last 15) j (fin xs ws b c j))
def LaneS (c : Dev nD) (b : Bool) (j : Fin 2) (n : ℕ) : sProp 𝕄 :=
  iprop((sp c b j n ∗ sp c b j (n + 1)) ∗ bigSep (finUpTo 15 n) fun m => yPx c b (ch b (pos c) m.castSucc) j)
def crs2 (c : Dev nD) (n : ℕ) (j : Fin 2) : sProp 𝕄 := iprop(crS c true j n ∗ crS c false j n)

theorem last_recv (c : Dev nD) (j : Fin 2) {O : CellTallies nD τ sig ℕ} (hO : Above 16 O)
    {p : FVec F S128x1024 .f32 → FVec F S128x1024 .f32 → PU F} {Q : PUnit.{1} → sProp 𝕄} :
    iprop(Env xs ws K ∗ Pair c j 13 ∗ (yPr xs ws c true 15 j ∗ yPr xs ws c false 15 j) ∗ owesE c O)
      ⊢ iprop((((LaneR xs ws c true j ∗ LaneR xs ws c false j) ∗ (LaneS c true j 13 ∗ LaneS c false j 13) ∗ (crs2 c 13 j ∗ crs2 c 14 j)
            ∗ (bigSep Finset.univ fun m : Fin 16 => kb c j m.val) ∗ owesE c O) -∗ runs c (p (fin xs ws true c j) (fin xs ws false c j)) Q)
        -∗ runs c (recvP c 14 j reluV p) Q) := by
  have ey (b : Bool) : yPr xs ws c b 15 j = yAt c b (Fin.succ (14 : Fin 15)) j (half (prodA xs ws b c (Fin.succ (14 : Fin 15))) j) :=
    yPr_eq xs ws c b (by omega) j
  unfold Pair Lane LaneR LaneS crs2
  rw [ey true, ey false, bigSep_finFrom_self, bigSep_finFrom_self, bigSep_finFrom_succ (by omega : 14 < 15) (fun m => crR c true j m.val),
    bigSep_finFrom_succ (by omega : 14 < 15) (fun m => crR c false j m.val), ← bigSep_finUpTo_self, bigSep_finUpTo_succ (by omega : 15 < 16) (fun m => kb c j m.val),
    show (left c j 13 : sProp 𝕄) = iprop(slotAt c true 15 j ∗ slotAt c false 15 j) from if_neg (by omega)]
  iintro ⟨#HE, ⟨⟨⟨R1, R2, S1, S2, C1, C2⟩, -, ⟨C, -⟩, B⟩, ⟨⟨R1', R2', S1', S2', C1', C2'⟩, -, ⟨C', -⟩, B'⟩, KB, ⟨F0, F0'⟩⟩, ⟨Y, Y'⟩, HO⟩ Hk
  iapply (recv_step xs ws K c 14 j reluV hO) $$ [C R1 Y C' R1' Y' HO]
  · unfold inR; iframe HE HO
    isplitl [C R1 Y]
    · isplitl [C]; · iexact C
      isplitl [R1]; · iexact R1
      iexact Y
    isplitl [C']; · iexact C'
    isplitl [R1']; · iexact R1'
    iexact Y'
  unfold outR
  have eg (b : Bool) : (give b (nx (!b) c) (14 : Fin 15).val j : sProp 𝕄)
      = iprop(emp ∗ ((if b = true then kb c j 15 else emp) ∗ bagAt b j (pos c) 15)) := by
    unfold give; rw [if_neg (by decide)]; exact congrArg (fun P => iprop(emp ∗ P)) (bag_step c b j (n := 14) (by omega))
  rw [eg true, eg false, if_pos rfl, if_neg Bool.false_ne_true]
  iintro ⟨⟨R3, F, ⟨-, N, -⟩, Y⟩, ⟨R3', F', ⟨-, -, -⟩, Y'⟩, HO⟩
  iapply Hk
  iframe HO R2 R2' S1 S2 S1' S2' C1 C2 C1' C2' B B' KB F0 F0'
  isplitl [R3 F Y R3' F' Y']
  · isplitl [R3 F Y]
    · isplitl [R3]; · iexact R3
      isplitl [F]; · iexact F
      iexact Y
    isplitl [R3']; · iexact R3'
    isplitl [F']; · iexact F'
    iexact Y'
  iexact N

theorem last_wait (c : Dev nD) (m : Fin 15) (j : Fin 2) {O : CellTallies nD τ sig ℕ} (hO : Above 0 O) {p : PU F} {Q : PUnit.{1} → sProp 𝕄} :
    iprop(Env xs ws K ∗ (LaneS c true j m.val ∗ LaneS c false j m.val) ∗ crs2 c m.val j ∗ owesE c O)
      ⊢ iprop((((LaneS c true j (m.val + 1) ∗ LaneS c false j (m.val + 1)) ∗ owesE c O) -∗ runs c p Q)
        -∗ runs c (waitSP true c m j (waitSP false c m j p)) Q) := by
  unfold LaneS crs2
  rw [bigSep_finUpTo_succ m.isLt, bigSep_finUpTo_succ m.isLt]
  iintro ⟨#HE, ⟨⟨⟨S1, S2⟩, B⟩, ⟨⟨S1', S2'⟩, B'⟩⟩, ⟨C, C'⟩, HO⟩ Hk
  iapply (waitSs_step xs ws K c m j hO) $$ [S1 S1' C C' HO]
  · iframe HE S1 S1' C C' HO
  iintro ⟨⟨S1, -, Y⟩, ⟨S1', -, Y'⟩, HO⟩
  iapply Hk
  iframe S1 S2 S1' S2' B B' Y Y' HO

/-! ## The exchange of the largest entries -/

/-- What the exchange needs for position `p`: the tokens, -/
def exTok (c : Dev nD) (p : Fin 16) : sProp 𝕄 :=
  if p = pos c then iprop(emp) else iprop(dutyTok ER (cell c (.axs p)) 0 false ∗ dutyTok ER (cell (ringDev p) (.axr (pos c))) 0 false)
/-- the credit of the arrival, -/
def exCr (c : Dev nD) (p : Fin 16) : sProp 𝕄 := if p = pos c then iprop(emp) else cred (tallyAt (cell c (.axr p)) 0 N2)
/-- the places in the two cells' rounds, -/
def exAt (c : Dev nD) (p : Fin 16) (r : ℕ) : sProp 𝕄 := iprop(atPos ER (cell c (.axs p)) r ∅ 0 ∗ atPos ER (cell c (.axr p)) r ∅ 0)
/-- and the slot to fill. -/
def exDst (c : Dev nD) (p : Fin 16) : sProp 𝕄 := if p = pos c then iprop(emp) else axx (ringDev p) (pos c)

/-- The own slot at the largest entry, by share. -/
def own (c : Dev nD) (q : PosShare TreeShare) : sProp 𝕄 := owns (c : Thread nD τ) (axSlot (pos c)) q (amS xs ws c)
/-- A copy on its way: its credit; where there is none, the share it would have borrowed. -/
def exW (c : Dev nD) (p : Fin 16) : sProp 𝕄 := if p = pos c then own xs ws c (lentS p.val) else cred (tallyAt (cell c (.axs p)) 0 N2)

def axS0 (c : Dev nD) (n : ℕ) : sProp 𝕄 :=
  iprop(own xs ws c (keptS n) ∗ (bigSep (finFrom 16 n) fun p => iprop(exDst c p ∗ exTok c p)) ∗ (bigSep (finUpTo 16 n) fun p => exW xs ws c p)
    ∗ owesE c (OA c n))

theorem OA_succ (c : Dev nD) (p : Fin 16) : OA c p.val = OA c (p.val + 1) + T2 c p := by unfold OA; rw [sum_finFrom_succ p.isLt]

theorem axSend_step (c : Dev nD) (p : Fin 16) {k : PU F} {Q : PUnit.{1} → sProp 𝕄} :
    iprop(Env xs ws K ∗ axS0 xs ws c p.val) ⊢ iprop((axS0 xs ws c (p.val + 1) -∗ runs c k Q) -∗ runs c (axSendP p c k) Q) := by
  unfold axS0
  rw [bigSep_finFrom_succ p.isLt, bigSep_finUpTo_succ p.isLt, OA_succ]
  have ho : own xs ws c (keptS p.val) ⊢ iprop(own xs ws c (keptS (p.val + 1)) ∗ own xs ws c (lentS p.val)) := (owns_halves _ _ _ _).1
  by_cases hp : p = pos c
  · have e : axSendP p c k = k := dif_neg (by rw [axCond_eq, if_pos hp]; decide)
    rw [e, show T2 c p = 0 from if_pos hp, add_zero, show exW xs ws c ⟨p.val, p.isLt⟩ = own xs ws c (lentS p.val) from if_pos hp]
    iintro ⟨#HE, Ho, ⟨-, Hf⟩, Hu, HO⟩ Hk
    ihave Ho' := ho $$ Ho
    icases Ho' with ⟨Ho, Hl⟩
    iapply Hk
    iframe Ho Hl Hf Hu HO
  · have e : axSendP p c k = .op (.enqueueDma (axOwn c) (.remote (Dev.tc (ringDev p)) (axOwn c) (.dma (axS p))) (.dma (axRown c))
      ((View.wordExact_bits rfl).reshape _ _) ((View.wordExact_bits rfl).reshape _ _) ⟨⟨rfl, Or.inl rfl⟩, trivial⟩) fun _ => k :=
      dif_pos (by rw [axCond_eq, if_neg hp])
    have hq : pos c ≠ pos (ringDev p) := by rw [pos_dev]; exact fun h => hp h.symm
    rw [e, show T2 c p = _ from if_neg hp, show exW xs ws c ⟨p.val, p.isLt⟩ = cred (tallyAt (cell c (.axs p)) 0 N2) from if_neg hp,
      show (exDst c ⟨p.val, p.isLt⟩ : sProp 𝕄) = axx (ringDev p) (pos c) from if_neg hp,
      show (exTok c ⟨p.val, p.isLt⟩ : sProp 𝕄) = iprop(dutyTok ER (cell c (.axs p)) 0 false ∗ dutyTok ER (cell (ringDev p) (.axr (pos c))) 0 false) from if_neg hp]
    have := send_gen xs ws K c (ringDev p) (axOwn c) (axOwn c) (sS := .dma (axS p)) (sem := .dma (axRown c))
      (hsc := rfl) (hsrc := (View.wordExact_bits rfl).reshape _ _) (hdst := (View.wordExact_bits rfl).reshape _ _) (hsem := ⟨⟨rfl, Or.inl rfl⟩, trivial⟩)
      (k₁ := .axs p) (k₂ := .axr (pos c)) (r₁ := 0) (r₂ := 0) rfl (by rw [axRown_eq]; rfl) (if_pos ⟨rfl, hp⟩) (if_pos ⟨rfl, hq⟩) (N := N2) 0
      (amount_N2 _) rfl rfl (q := lentS p.val) (X := amS xs ws c) (G := iprop(emp))
      (by rw [axOwn_eq]; exact .rfl)
      (by
        rw [axOwn_eq]
        show _ ⊢ owns (ringDev p : Thread nD τ) (axSlot (pos c)) fullShare (amS xs ws (ringDev (pos c)))
        rw [dev_pos]
        iintro ⟨H, -⟩; iexact H) (OA c (p.val + 1)) (p := fun _ => k) (Q := Q)
    iintro ⟨#HE, Ho, ⟨⟨Hd, Ht, Ht'⟩, Hf⟩, Hu, HO⟩ Hk
    ihave Ho' := ho $$ Ho
    icases Ho' with ⟨Ho, Hl⟩
    iapply this $$ [Hl Hd Ht Ht' HO]
    · rw [axOwn_eq]; unfold own axx
      iframe HE HO
      isplitl [Hl]; · iexact Hl
      isplitl [Hd]; · iexact Hd
      isplitl [Ht]; · iexact Ht
      isplitr; · iapply (env_reached xs ws K c _); iexact HE
      isplitl [Ht']; · iexact Ht'
      iapply (env_reached xs ws K (ringDev p) _); iexact HE
    iintro ⟨Hc, HO⟩
    iapply Hk
    iframe Ho Hc Hf Hu HO

/-- Before the waits on position `p`, -/
def exIn (c : Dev nD) (p : Fin 16) : sProp 𝕄 := iprop(exW xs ws c p ∗ exCr c p ∗ exAt c p 0)
/-- and after: the borrowed share back, the other device's entry in its slot. -/
def exOut (c : Dev nD) (p : Fin 16) : sProp 𝕄 :=
  iprop(own xs ws c (lentS p.val) ∗ (if p = pos c then emp else owns (c : Thread nD τ) (axSlot p) fullShare (amS xs ws (ringDev p)))
    ∗ exAt c p (if p = pos c then 0 else 1))
def axS1 (c : Dev nD) (n : ℕ) : sProp 𝕄 :=
  iprop((bigSep (finFrom 16 n) fun p => exIn xs ws c p) ∗ (bigSep (finUpTo 16 n) fun p => exOut xs ws c p) ∗ owesE c 0)

theorem axWait_step (c : Dev nD) (p : Fin 16) {k : PU F} {Q : PUnit.{1} → sProp 𝕄} :
    iprop(Env xs ws K ∗ axS1 xs ws c p.val) ⊢ iprop((axS1 xs ws c (p.val + 1) -∗ runs c k Q) -∗ runs c (axWaitP p (axCond p c) k) Q) := by
  unfold axS1
  rw [bigSep_finFrom_succ p.isLt, bigSep_finUpTo_succ p.isLt]
  show iprop(_ ∗ (exIn xs ws c p ∗ _) ∗ _) ⊢ iprop(((_ ∗ (exOut xs ws c p ∗ _) ∗ _) -∗ _) -∗ _)
  unfold exIn exOut exW exCr exAt
  by_cases hp : p = pos c
  · have e : axWaitP p (axCond p c) k = k := dif_neg (by rw [axCond_eq, if_pos hp]; decide)
    rw [e, if_pos hp, if_pos hp, if_pos hp, if_pos hp]
    iintro ⟨-, ⟨⟨Hl, -, Ha⟩, Hf⟩, Hu, HO⟩ Hk
    iapply Hk
    iframe Hl Ha Hf Hu HO
  · have e : axWaitP p (axCond p c) k =
      .op (.waitDma2 (axS p) (axSlot p) (axSlot p) ((View.wordExact_bits rfl).reshape _ _) ((View.wordExact_bits rfl).reshape _ _)) fun _ =>
      .op (.waitDma2 (axR p) (axSlot p) (axSlot p) ((View.wordExact_bits rfl).reshape _ _) ((View.wordExact_bits rfl).reshape _ _)) fun _ => k :=
      dif_pos (by rw [axCond_eq, if_neg hp])
    rw [e, if_neg hp, if_neg hp, if_neg hp, if_neg hp]
    iintro ⟨#HE, ⟨⟨Hc, Hc', Ha, Ha'⟩, Hf⟩, Hu, HO⟩ Hk
    iapply (wait_one xs ws K (c := c) (k := .axs p) (r := 0) (ι := 0) (l := 0) (if_pos ⟨rfl, hp⟩) (by omega) (le_refl 0) (Above.zero 0)
      (fun P => by rw [wpE_waitDma2_eq, amount_N2]; rfl)) $$ [Hc HO Ha]
    · iframe HE HO Ha
      iexact Hc
    rw [show pay xs ws c 0 false (.axs p) = own xs ws c (lentS p.val) from rfl]
    iintro ⟨HO, Ha, -, Hl⟩
    iapply (wait_one xs ws K (c := c) (k := .axr p) (r := 0) (ι := 0) (l := 20) (if_pos ⟨rfl, hp⟩) (by omega) (le_refl 20) (Above.zero 20)
      (fun P => by rw [wpE_waitDma2_eq, amount_N2]; rfl)) $$ [Hc' HO Ha']
    · iframe HE HO Ha'
      iexact Hc'
    rw [show pay xs ws c 0 false (.axr p) = owns (c : Thread nD τ) (axSlot p) fullShare (amS xs ws (ringDev p)) from rfl]
    iintro ⟨HO, Ha', -, Hs⟩
    iapply Hk
    iframe HO Hf Hu Ha Ha'
    isplitl [Hl]; · iexact Hl
    iexact Hs

/-- The shares of the own slot, put together again. -/
theorem own_join (c : Dev nD) : ∀ n : ℕ, n ≤ 16 → iprop(own xs ws c (keptS n) ∗ bigSep (finUpTo 16 n) fun p => own xs ws c (lentS p.val)) ⊢ own xs ws c fullShare
  | 0, _ => by iintro ⟨H, -⟩; iexact H
  | n + 1, hn => by
    rw [bigSep_finUpTo_succ (by omega : n < 16)]
    iintro ⟨Hk, Hl, Hr⟩
    iapply (own_join c n (by omega))
    iframe Hr
    iapply (show iprop(own xs ws c (keptS (n + 1)) ∗ own xs ws c (lentS n)) ⊢ own xs ws c (keptS n) from (owns_halves _ _ _ _).2)
    isplitl [Hk]; · iexact Hk
    iexact Hl

/-! ## The exchange's buffer and its slots -/

abbrev rU (p : Fin 16) : Rect S16x8x128 := Rect.unit (s := S16x8x128) ![p.val, 0, 0] S1x8x128.size (ax_inb p)
theorem rU_disj : ∀ t t' : Fin 16, t ≠ t' → Disjoint (rU t).set (rU t').set := fun t t' h =>
  Finset.disjoint_left.mpr fun i hi hi' => by
    have h1 := Rect.mem_set_unit.mp hi 0; have h2 := Rect.mem_set_unit.mp hi' 0
    simp [S1x8x128] at h1 h2
    exact h (Fin.ext (by omega))
theorem rU_cov : (Finset.univ : Finset (Fin 16)).biUnion (fun t => (rU t).set) = Finset.univ := by
  ext i
  simp only [Finset.mem_biUnion, Finset.mem_univ, true_and, iff_true]
  have h0 : (i 0).val < 16 := (i 0).isLt
  have h1 : (i 1).val < 8 := (i 1).isLt
  have h2 : (i 2).val < 128 := (i 2).isLt
  refine ⟨⟨(i 0).val, h0⟩, Rect.mem_set_unit.mpr fun a => ?_⟩
  fin_cases a <;> simp [S1x8x128] <;> omega

theorem axAll_slot (p : Fin 16) : (fun i => axAll xs ws ((rU p).emb i)) = amU xs ws (ringDev p) := by
  funext i
  have h0 : ((rU p).emb i 0) = p := Fin.ext (by
    have : (i 0).val < 1 := (i 0).isLt
    show p.val + 1 * (i 0).val = p.val; omega)
  unfold axAll
  rw [h0]
  congr 1
  funext a
  match a with
  | ⟨0, _⟩ => exact Fin.ext (by have : (i 0).val < 1 := (i 0).isLt; show 0 = (i 0).val; omega)
  | ⟨1, _⟩ => exact Fin.ext (by show 0 + 1 * (i 1).val = (i 1).val; omega)
  | ⟨2, _⟩ => exact Fin.ext (by show 0 + 1 * (i 2).val = (i 2).val; omega)

theorem ax_join (c : Dev nD) : (bigSep Finset.univ fun p : Fin 16 => owns (c : Thread nD τ) (axSlot p) fullShare (amS xs ws (ringDev p)) : sProp 𝕄)
    ⊢ owns (c : Thread nD τ) axM fullShare (axAll xs ws) := by
  have e (p : Fin 16) : (owns (c : Thread nD τ) (axSlot p) fullShare (amS xs ws (ringDev p)) : sProp 𝕄)
      = owns (c : Thread nD τ) (axM.slice (rU p) fun _ => rfl) fullShare (fun i => axAll xs ws ((rU p).emb i)) := by
    rw [axAll_slot]; exact owns_squeeze (axU p) squeezes_S1x8x128_S8x128 sc_ax fullShare (amU xs ws (ringDev p))
  rw [bigSep_congr fun p _ => e p]
  exact owns_of_rects (c : Thread nD τ) axM fullShare rU (fun _ _ => rfl) rU_disj rU_cov (axAll xs ws)

end Cert.Slice
-- ==== Proof.Quant.lean ====
module

public import proofs.«01_k».proof.Proof.Last

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

variable (K : Dev nD × CK → ℕ)

/-! ## Whole buffers as their full slices -/

theorem rQ_emb (j : S256x1024.Idx) : rQ.emb j = j := funext fun a => Fin.ext (by
  show (![0, 0] : Fin 2 → Nat) a + 1 * (j a).val = (j a).val
  fin_cases a <;> simp)
theorem rQ_cov : (Finset.univ : Finset Unit).biUnion (fun _ => rQ.set) = Finset.univ := by
  ext i
  simp only [Finset.mem_biUnion, Finset.mem_univ, true_and, iff_true]
  have h0 : (i 0).val < 256 := (i 0).isLt
  have h1 : (i 1).val < 1024 := (i 1).isLt
  refine ⟨(), Rect.mem_set_unit.mpr fun a => ?_⟩
  fin_cases a <;> simp [S256x1024] <;> omega
theorem owns_rQ {sp : Space} {e : EltTy} (c : Dev nD) (m : Memref sig .tc sp S256x1024 e) (q : PosShare TreeShare) (X : Vec F S256x1024 e) :
    (owns (c : Thread nD τ) m q X : sProp 𝕄) = owns (c : Thread nD τ) (m.slice rQ fun _ => rfl) q X := by
  have e : (fun j => X (rQ.emb j)) = X := funext fun j => congrArg X (rQ_emb j)
  have h : (owns (c : Thread nD τ) m q X : sProp 𝕄) ⊢ bigSep Finset.univ fun _ : Unit => owns (c : Thread nD τ) (m.slice rQ fun _ => rfl) q (fun j => X (rQ.emb j)) :=
    owns_rects (c : Thread nD τ) m q (fun _ : Unit => rQ) (fun _ _ => rfl) (fun t t' h => absurd rfl h) rQ_cov X
  have h' : (bigSep Finset.univ fun _ : Unit => owns (c : Thread nD τ) (m.slice rQ fun _ => rfl) q (fun j => X (rQ.emb j)) : sProp 𝕄) ⊢ owns (c : Thread nD τ) m q X :=
    owns_of_rects (c : Thread nD τ) m q (fun _ : Unit => rQ) (fun _ _ => rfl) (fun t t' h => absurd rfl h) rQ_cov X
  rw [bigSep_univ_eq_bigSepL [()] (by decide) (by decide), bigSepL_singleton] at h h'
  rw [e] at h h'
  exact equiv_iff.mp ⟨h, h'⟩

/-- A chunk put together from its halves. -/
theorem half_glue (a : Fin 2 → Vec F S128x1024 .f32) (j : Fin 2) : half (glue a) j = a j := by
  funext i
  have h0 : (i 0).val < 128 := (i 0).isLt
  have e0 : ((rH j).emb i 0).val = 128 * j.val + (i 0).val := by show 128 * j.val + 1 * (i 0).val = _; omega
  have e1 : ((rH j).emb i 1).val = (i 1).val := by show 0 + 1 * (i 1).val = _; omega
  unfold half glue
  have hj : (⟨((rH j).emb i 0).val / 128, by rw [e0]; have := j.isLt; omega⟩ : Fin 2) = j := Fin.ext (by show _ / 128 = _; rw [e0]; omega)
  rw [hj]
  congr 1
  funext k
  match k with
  | ⟨0, _⟩ => exact Fin.ext (by show ((rH j).emb i 0).val % 128 = _; rw [e0]; show _ = (i 0).val; omega)
  | ⟨1, _⟩ => exact Fin.ext e1

/-! ## The quantiser and the copies out -/

/-- What one direction needs for the copy out. -/
def outIn (c : Dev nD) (b : Bool) : sProp 𝕄 :=
  iprop((∃ X, owns (c : Thread nD τ) (oM b) fullShare X) ∗ dutyTok ER (cell c (.st (ch b (pos c) 15) b)) 0 false ∗ atPos ER (cell c (.st (ch b (pos c) 15) b)) 0 ∅ 0)

theorem dut_st (c : Dev nD) (b : Bool) : dut c 0 (.st (ch b (pos c) 15) b) = {false} := if_pos ⟨rfl, rfl⟩

/-- A copy on the device, by what is owned: the filled destination and the source come back together. -/
theorem copy_gen (c : Dev nD) {sp sp' : Space} {s : Shape} {e : EltTy} (src : Memref sig .tc sp s e) (dst : Memref sig .tc sp' s e)
    {sem : SemLoc sig} {hsrc : src.view.WordExact} {hdst : dst.view.WordExact}
    {hsem : DmaTarget.Typed sp sem (.here dst : DmaTarget nD τ sig .tc sp' s e)} {k : CK} (h : sem = csem k) {r : ℕ}
    (hd : dut c r k = {false}) {N : ℕ} (hN : dst.view.amount sem = N) (a : amt k = N) {q : PosShare TreeShare} {X : s.Idx → Elt F e}
    (hp : iprop(owns (c : Thread nD τ) dst fullShare X ∗ owns (c : Thread nD τ) src q X) ⊢ pay xs ws c r false k)
    {p : PUnit.{1} → PU F} {Q : PUnit.{1} → sProp 𝕄} :
    iprop(Env xs ws K ∗ owns (c : Thread nD τ) src q X ∗ (∃ Y, owns (c : Thread nD τ) dst fullShare Y)
        ∗ dutyTok ER (cell c k) r false ∗ reached ER (cell c k) r)
      ⊢ iprop((cred (tallyAt (cell c k) 0 N) -∗ runs c (p ⟨⟩) Q)
          -∗ runs c (.op (.enqueueDma src (.here dst) sem hsrc hdst hsem) p) Q) := by
  subst h
  unfold runs owns
  iintro ⟨#HE, ⟨%f, %hf, Hs⟩, ⟨%Y, %g, -, Hd⟩, Ht, Hr⟩ Hk
  iapply (Rounds.wp_copy_pointsTo 𝒱₀ ER (Rd xs ws) (c : Thread nD τ) none (κ := K (c, k)) (fs := f) (fd := g) (q := q) (r := r) (d := false)
    (by rw [duties_cell, hd]; exact Finset.mem_singleton_self _) 0 N hN ((amount_cell xs ws c k r false).trans a)
    (by
      rw [payload_cell]; refine BIBase.Entails.trans ?_ hp
      unfold owns; iintro ⟨H, H'⟩
      isplitl [H]
      · iexists (dst.view.write (Elt F) g (src.view.read (Elt F) f) Finset.univ); isplitr; · ipureintro; exact (View.read_write_univ _ _).trans hf
        iexact H
      iexists f; isplitr; · ipureintro; exact hf
      iexact H')) $$ [Hs Hd Ht Hr]
  · isplitr; · iapply (env_inv xs ws K c k); iexact HE
    isplitl [Hs]; · iexact Hs
    isplitl [Hd]; · iexact Hd
    isplitl [Ht]; · iexact Ht
    iexact Hr
  iexact Hk

theorem copy_step (c : Dev nD) (b : Bool) {p : PU F} {Q : PUnit.{1} → sProp 𝕄} :
    iprop(Env xs ws K ∗ owns (c : Thread nD τ) (yQ b (ch b (pos c) 15)) fullShare (outV xs ws b c) ∗ (∃ X, owns (c : Thread nD τ) (oM b) fullShare X)
        ∗ dutyTok ER (cell c (.st (ch b (pos c) 15) b)) 0 false)
      ⊢ iprop((cred (tallyAt (cell c (.st (ch b (pos c) 15) b)) 0 N3) -∗ runs c p Q) -∗ runs c (copyOP b c p) Q) := by
  have := copy_gen xs ws K c (yD b c) (oM b) (sem := .dma (stSem b c)) (hsrc := View.wordExact_bits rfl) (hdst := (oM_whole b).wordExact)
    (hsem := ⟨Or.inl rfl, trivial⟩) (k := .st (ch b (pos c) 15) b) (by rw [stSem_eq]; rfl) (r := 0) (dut_st c b) (N := N3) (amount_N3 _) rfl
    (q := fullShare) (X := outV xs ws b c)
    (by
      rw [yD_eq]
      show _ ⊢ iprop(owns (c : Thread nD τ) (oM b) fullShare (outV xs ws b c) ∗ yQx c b (ch b (pos c) 15))
      unfold yQx
      iintro ⟨H, H'⟩
      iframe H; iexists _; iexact H') (p := fun _ => p) (Q := Q)
  rw [← yD_eq]
  refine BIBase.Entails.trans ?_ this
  iintro ⟨#HE, Hy, Ho, Ht⟩
  iframe HE Hy Ho Ht
  iapply (env_reached xs ws K c _); iexact HE

theorem waitO_step (c : Dev nD) (b : Bool) {p : PU F} {Q : PUnit.{1} → sProp 𝕄} :
    iprop(Env xs ws K ∗ cred (tallyAt (cell c (.st (ch b (pos c) 15) b)) 0 N3) ∗ owesE c 0 ∗ atPos ER (cell c (.st (ch b (pos c) 15) b)) 0 ∅ 0)
      ⊢ iprop(((owesE c 0 ∗ atPos ER (cell c (.st (ch b (pos c) 15) b)) 1 ∅ 0 ∗ reached ER (cell c (.st (ch b (pos c) 15) b)) 1
            ∗ owns (c : Thread nD τ) (oM b) fullShare (outV xs ws b c) ∗ yQx c b (ch b (pos c) 15)) -∗ runs c p Q)
          -∗ runs c (waitOP b c p) Q) :=
  wait_one xs ws K (ι := 0) (l := 0) (dut_st c b) (by omega) (le_refl 0) (Above.zero 0)
    (w := .waitDma2 (stSem b c) (yD b c) (oM b) (View.wordExact_bits rfl) (oM_whole b).wordExact)
    (fun P => by rw [wpE_waitDma2_eq, amount_N3, stSem_eq]; rfl) (p := fun _ => p) (Q := Q)

/-- The own chunk of a direction, at given values. -/
def yO (c : Dev nD) (b : Bool) (X : Vec F S256x1024 .f32) : sProp 𝕄 := owns (c : Thread nD τ) (yQ b (ch b (pos c) 15)) fullShare X
/-- The int8 buffer of a direction. -/
def qO (c : Dev nD) (b : Bool) (X : Vec F S256x1024 .i8) : sProp 𝕄 := owns (c : Thread nD τ) ((qM b).slice rQ fun _ => rfl) fullShare X

theorem loadO_step (c : Dev nD) (b : Bool) {X : Vec F S256x1024 .f32} {p : Vec F S256x1024 .f32 → PU F} {Q : PUnit.{1} → sProp 𝕄} :
    (yO c b X : sProp 𝕄) ⊢ iprop((yO c b X -∗ runs c (p X) Q) -∗ runs c (loadOP b c p) Q) := by
  unfold yO; rw [← yO_eq]; exact load_owns (F := F) c yM _
theorem storeO_step (c : Dev nD) (b : Bool) {X v : Vec F S256x1024 .f32} {p : PU F} {Q : PUnit.{1} → sProp 𝕄} :
    (yO c b X : sProp 𝕄) ⊢ iprop((yO c b v -∗ runs c p Q) -∗ runs c (storeOP b c v p) Q) := by
  unfold yO; rw [← yO_eq]; exact store_owns (F := F) c yM _ (k := fun _ => p)
theorem loadQ_step (c : Dev nD) (b : Bool) {X : Vec F S256x1024 .i8} {p : Vec F S256x1024 .i8 → PU F} {Q : PUnit.{1} → sProp 𝕄} :
    (qO c b X : sProp 𝕄) ⊢ iprop((qO c b X -∗ runs c (p X) Q) -∗ runs c (loadQP b p) Q) := by
  unfold qO; exact load_owns (F := F) c (qM b) _
theorem storeQ_step (c : Dev nD) (b : Bool) {X v : Vec F S256x1024 .i8} {p : PU F} {Q : PUnit.{1} → sProp 𝕄} :
    (qO c b X : sProp 𝕄) ⊢ iprop((qO c b v -∗ runs c p Q) -∗ runs c (storeQP b v p) Q) := by
  unfold qO; exact store_owns (F := F) c (qM b) _ (k := fun _ => p)

/-- What the tail of the body leaves for a direction. -/
def outOut (c : Dev nD) (b : Bool) : sProp 𝕄 :=
  iprop(owns (c : Thread nD τ) (oM b) fullShare (outV xs ws b c) ∗ yQx c b (ch b (pos c) 15) ∗ (∃ X, qO c b X)
    ∗ atPos ER (cell c (.st (ch b (pos c) 15) b)) 1 ∅ 0)

theorem axM_emb (i : S16x8x128.Idx) : (Rect.unit (s := S16x8x128) ![0, 0, 0] S16x8x128.size inb_S16x8x128_S16x8x128_0_0_0).emb i = i :=
  funext fun a => Fin.ext (by
    show (![0, 0, 0] : Fin 3 → Nat) a + 1 * (i a).val = (i a).val
    fin_cases a <;> simp)

theorem quant_step (c : Dev nD) {Q : PUnit.{1} → sProp 𝕄} :
    iprop(Env xs ws K ∗ owns (c : Thread nD τ) axM fullShare (axAll xs ws) ∗ (yO c true (glue (fin xs ws true c)) ∗ yO c false (glue (fin xs ws false c)))
        ∗ ((∃ X, qO c true X) ∗ (∃ X, qO c false X)) ∗ (outIn c true ∗ outIn c false) ∗ owesE c 0)
      ⊢ iprop(((owns (c : Thread nD τ) axM fullShare (axAll xs ws) ∗ (outOut xs ws c true ∗ outOut xs ws c false) ∗ owesE c 0) -∗ runs c (.ret ⟨⟩) Q)
        -∗ runs c (quantP c) Q) := by
  unfold quantP outIn outOut
  iintro ⟨#HE, HA, ⟨Hy, Hy'⟩, ⟨⟨%Z, Hq⟩, ⟨%Z', Hq'⟩⟩, ⟨⟨Ho, Ht, Ha⟩, ⟨Ho', Ht', Ha'⟩⟩, HO⟩ Hk
  iapply (load_sub c axM) $$ HA
  rw [show (fun i => axAll xs ws ((Rect.unit (s := S16x8x128) ![0, 0, 0] S16x8x128.size inb_S16x8x128_S16x8x128_0_0_0).emb i)) = axAll xs ws from
    funext fun i => congrArg (axAll xs ws) (axM_emb i)]
  iintro HA
  iapply (loadO_step c true) $$ Hy
  iintro Hy
  iapply (loadQ_step c true) $$ Hq
  iintro Hq
  iapply (storeQ_step c true) $$ Hq
  iintro Hq
  iapply (loadO_step c false) $$ Hy'
  iintro Hy'
  iapply (loadQ_step c false) $$ Hq'
  iintro Hq'
  iapply (storeQ_step c false) $$ Hq'
  iintro Hq'
  iapply (loadQ_step c true) $$ Hq
  iintro Hq
  iapply (loadO_step c true) $$ Hy
  iintro Hy
  iapply (storeO_step c true) $$ Hy
  rw [show yO c true (dequantV (scaleV (axAll xs ws)) (quantV (invV (axAll xs ws)) (glue (fin xs ws true c))))
    = owns (c : Thread nD τ) (yQ true (ch true (pos c) 15)) fullShare (outV xs ws true c) from rfl]
  iintro Hy
  iapply (copy_step xs ws K c true) $$ [Hy Ho Ht]
  · iframe HE Ho Ht; iexact Hy
  iintro Hc
  iapply (loadQ_step c false) $$ Hq'
  iintro Hq'
  iapply (loadO_step c false) $$ Hy'
  iintro Hy'
  iapply (storeO_step c false) $$ Hy'
  rw [show yO c false (dequantV (scaleV (axAll xs ws)) (quantV (invV (axAll xs ws)) (glue (fin xs ws false c))))
    = owns (c : Thread nD τ) (yQ false (ch false (pos c) 15)) fullShare (outV xs ws false c) from rfl]
  iintro Hy'
  iapply (copy_step xs ws K c false) $$ [Hy' Ho' Ht']
  · iframe HE Ho' Ht'; iexact Hy'
  iintro Hc'
  iapply (waitO_step xs ws K c true) $$ [Hc HO Ha]
  · iframe HE Hc HO Ha
  iintro ⟨HO, Ha, -, Ho, Hy⟩
  iapply (waitO_step xs ws K c false) $$ [Hc' HO Ha']
  · iframe HE Hc' HO Ha'
  iintro ⟨HO, Ha', -, Ho', Hy'⟩
  iapply Hk
  iframe HA Ho Hy Ha Ho' Hy' Ha' HO
  isplitl [Hq]; · iexists _; iexact Hq
  iexists _; iexact Hq'

end Cert.Slice
-- ==== Proof.Tail.lean ====
module

public import proofs.«01_k».proof.Proof.Quant

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

variable (K : Dev nD × CK → ℕ)

/-! ## The chunks of `y`, back together -/

/-- A direction's chunks, in the order of its steps. -/
def ys (c : Dev nD) (b : Bool) : sProp 𝕄 := bigSep Finset.univ fun t : Fin 16 => yQx c b (ch b (pos c) t)

/-- Two halves at any contents are a chunk at some. -/
theorem halves_chunk (c : Dev nD) (b : Bool) (k : Fin 16) : iprop(yPx c b k 0 ∗ yPx c b k 1) ⊢ (yQx c b k : sProp 𝕄) := by
  unfold yPx yQx
  iintro ⟨⟨%X, H⟩, ⟨%X', H'⟩⟩
  iexists (glue (fun j => if j = 0 then X else X'))
  iapply (chunk_join c b k fullShare _)
  rw [half_glue, half_glue, if_pos rfl, if_neg (by decide)]
  iframe H H'

theorem ys_join (c : Dev nD) (b : Bool) :
    iprop((bigSep (finUpTo 15 15) fun m => yPx c b (ch b (pos c) m.castSucc) 0) ∗ (bigSep (finUpTo 15 15) fun m => yPx c b (ch b (pos c) m.castSucc) 1)
        ∗ yQx c b (ch b (pos c) 15)) ⊢ (ys c b : sProp 𝕄) := by
  unfold ys
  have hu : (Finset.univ : Finset (Fin 16)) = insert (Fin.last 15) (Finset.univ.map Fin.castSuccEmb) := by
    rw [Fin.univ_castSuccEmb 15, Finset.cons_eq_insert]
  have e : (bigSep Finset.univ fun t : Fin 16 => yQx c b (ch b (pos c) t) : sProp 𝕄)
      = iprop(yQx c b (ch b (pos c) 15) ∗ bigSep Finset.univ fun m : Fin 15 => yQx c b (ch b (pos c) m.castSucc)) := by
    rw [hu, bigSep_insert (by simp only [Finset.mem_map, Finset.mem_univ, true_and, not_exists]; exact fun m h => absurd (congrArg Fin.val h) (by show m.val ≠ 15; omega)), bigSep_map]; rfl
  rw [bigSep_finUpTo_self, bigSep_finUpTo_self, e]
  iintro ⟨H, H', Hq⟩
  isplitl [Hq]; · iexact Hq
  iapply (show (bigSep Finset.univ fun m : Fin 15 => iprop(yPx c b (ch b (pos c) m.castSucc) 0 ∗ yPx c b (ch b (pos c) m.castSucc) 1) : sProp 𝕄)
    ⊢ bigSep Finset.univ fun m : Fin 15 => yQx c b (ch b (pos c) m.castSucc) from bigSep_mono fun m _ => halves_chunk c b _)
  rw [bigSep_sep']
  iframe H H'

/-! ## The exchange -/

/-- The place in the rounds of the exchange's cells when it is over. -/
def exR (c : Dev nD) (p : Fin 16) : ℕ := if p = pos c then 0 else 1

theorem ax_all (c : Dev nD) :
    iprop(own xs ws c (keptS 16) ∗ bigSep (finUpTo 16 16) fun p => exOut xs ws c p)
      ⊢ iprop(owns (c : Thread nD τ) axM fullShare (axAll xs ws) ∗ bigSep Finset.univ fun p => exAt (F := F) c p (exR c p)) := by
  have hs : iprop(own xs ws c fullShare ∗ bigSep Finset.univ fun p : Fin 16 => (if p = pos c then iprop(emp) else owns (c : Thread nD τ) (axSlot p) fullShare (amS xs ws (ringDev p)) : sProp 𝕄))
      ⊢ owns (c : Thread nD τ) axM fullShare (axAll xs ws) := by
    refine BIBase.Entails.trans ?_ (ax_join xs ws c)
    rw [bigSep_erase (Finset.mem_univ (pos c)), bigSep_erase (Finset.mem_univ (pos c)) (Φ := fun p => owns (c : Thread nD τ) (axSlot p) fullShare (amS xs ws (ringDev p))),
      bigSep_congr (s := Finset.univ.erase (pos c)) fun p hp => if_neg (Finset.ne_of_mem_erase hp), dev_pos]
    show iprop(own xs ws c fullShare ∗ _ ∗ _) ⊢ iprop(_ ∗ _)
    unfold own
    iintro ⟨Ho, -, Hs⟩
    iframe Ho Hs
  unfold exOut
  rw [bigSep_sep', bigSep_sep']
  show iprop(_ ∗ _ ∗ _ ∗ bigSep (finUpTo 16 16) fun p => exAt c p (exR c p)) ⊢ _
  rw [bigSep_finUpTo_self (Φ := fun p => exAt (F := F) c p (exR c p)), bigSep_finUpTo_self (Φ := fun p : Fin 16 => (if p = pos c then iprop(emp) else owns (c : Thread nD τ) (axSlot p) fullShare (amS xs ws (ringDev p)) : sProp 𝕄))]
  iintro ⟨Hk, Hl, Hs, Ha⟩
  ihave Ho := (own_join xs ws c 16 (le_refl 16)) $$ [Hk Hl]
  · iframe Hk Hl
  isplitl [Hs Ho]
  · iapply hs
    isplitl [Ho]; · iexact Ho
    iexact Hs
  iexact Ha

@[irreducible] def sendF (c : Dev nD) (p : Fin 16) (k : PU F) : PU F := axSendP p c k
@[irreducible] def waitF (c : Dev nD) (p : Fin 16) (k : PU F) : PU F := axWaitP p (axCond p c) k

theorem sends_all (c : Dev nD) {p : PU F} {Q : PUnit.{1} → sProp 𝕄} :
    iprop(Env xs ws K ∗ axS0 xs ws c 0) ⊢ iprop((axS0 xs ws c 16 -∗ runs c p Q) -∗ runs c ((List.finRange 16).foldr (sendF c) p) Q) :=
  foldr_loop c (E := Env xs ws K) (Q := Q) (N := 16) (sendF c) (axS0 xs ws c) (fun p k => by unfold sendF; exact axSend_step xs ws K c p) p

theorem waits_all (c : Dev nD) {p : PU F} {Q : PUnit.{1} → sProp 𝕄} :
    iprop(Env xs ws K ∗ axS1 xs ws c 0) ⊢ iprop((axS1 xs ws c 16 -∗ runs c p Q) -∗ runs c ((List.finRange 16).foldr (waitF c) p) Q) :=
  foldr_loop c (E := Env xs ws K) (Q := Q) (N := 16) (waitF c) (axS1 xs ws c) (fun p k => by unfold waitF; exact axWait_step xs ws K c p) p

theorem exchange_step (c : Dev nD) {p : PU F} {Q : PUnit.{1} → sProp 𝕄} :
    iprop(Env xs ws K ∗ own xs ws c fullShare ∗ (bigSep Finset.univ fun p => exDst (F := F) c p) ∗ (bigSep Finset.univ fun p => exTok (F := F) c p)
        ∗ (bigSep Finset.univ fun p => exCr (F := F) c p) ∗ (bigSep Finset.univ fun p => exAt (F := F) c p 0) ∗ owesE c (OA c 0))
      ⊢ iprop(((owns (c : Thread nD τ) axM fullShare (axAll xs ws) ∗ (bigSep Finset.univ fun p => exAt (F := F) c p (exR c p)) ∗ owesE c 0) -∗ runs c p Q)
        -∗ runs c ((List.finRange 16).foldr (sendF c) <| (List.finRange 16).foldr (waitF c) p) Q) := by
  iintro ⟨#HE, Ho, Hd, Ht, Hc, Ha, HO⟩ Hk
  iapply (sends_all xs ws K c) $$ [Ho Hd Ht HO]
  · unfold axS0
    rw [bigSep_sep', bigSep_finFrom_zero, bigSep_finFrom_zero, bigSep_finUpTo_zero]
    iframe HE Hd Ht HO
    iexact Ho
  unfold axS0
  rw [show OA c 16 = 0 from by unfold OA; exact sum_finFrom_self _]
  iintro ⟨Ho, -, Hw, HO⟩
  iapply (waits_all xs ws K c) $$ [Hw Hc Ha HO]
  · unfold axS1 exIn
    rw [bigSep_sep', bigSep_sep', bigSep_finFrom_zero, bigSep_finFrom_zero, bigSep_finFrom_zero, bigSep_finUpTo_zero]
    iframe HE Hw Hc Ha HO
  unfold axS1
  iintro ⟨-, Hu, HO⟩
  ihave Hx := (ax_all xs ws c) $$ [Ho Hu]
  · iframe Ho Hu
  icases Hx with ⟨Hx, Ha⟩
  iapply Hk
  iframe Hx Ha HO

theorem sub_ofNat : ∀ (p m : Fin 16), p - Fin.ofNat 16 m.val = p - m ∧ (p - m = p ↔ m.val = 0) := by decide +kernel

theorem sub_sub : ∀ p m : Fin 16, p - (p - m) = m := by decide +kernel
/-- A position and how far it lies behind `p`. -/
def behind (p : Fin 16) : Fin 16 ≃ Fin 16 := ⟨fun m => p - m, fun m => p - m, sub_sub p, sub_sub p⟩

/-- The slots the bag left, hop by hop, are the slots to fill. -/
theorem kb_exDst (c : Dev nD) : (bigSep Finset.univ fun m : Fin 16 => kb c 0 m.val : sProp 𝕄) = bigSep Finset.univ fun p => exDst (F := F) c p := by
  rw [bigSep_univ_equiv (behind (pos c)) fun p => exDst (F := F) c p]
  refine bigSep_congr fun m _ => ?_
  obtain ⟨h, h'⟩ := sub_ofNat (pos c) m
  show _ = exDst c (pos c - m)
  unfold kb exDst
  by_cases hm : m.val = 0
  · rw [if_neg (fun h => h.2 hm), if_pos (h'.mpr hm)]
  · rw [if_pos ⟨rfl, hm⟩, if_neg (fun e => hm (h'.mp e)), h]

/-- The largest entry is put in the own slot. -/
theorem ownMax_step (c : Dev nD) {p : PU F} {Q : PUnit.{1} → sProp 𝕄} :
    (axx c (pos c) : sProp 𝕄) ⊢ iprop((own xs ws c fullShare -∗ runs c p Q) -∗ runs c (ownMaxP c (amU xs ws c) p) Q) := by
  unfold axx ownMaxP
  iintro ⟨%X, H⟩ Hk
  obtain ⟨Y, rfl⟩ := shapeCast_surj sc_ax X
  ihave H' := (Entails.of_eq (owns_squeeze (axU (pos c)) squeezes_S1x8x128_S8x128 sc_ax fullShare Y)) $$ H
  rw [← ax16_eq]
  iapply (load_owns c axM (fun _ => rfl)) $$ H'
  iintro H'
  iapply (store_owns c axM (fun _ => rfl) (k := fun _ => p)) $$ H'
  rw [ax16_eq]
  iintro H'
  ihave H' := (Entails.of_eq (owns_squeeze (c := c) (axU (pos c)) squeezes_S1x8x128_S8x128 sc_ax fullShare (amU xs ws c)).symm) $$ H'
  iapply Hk
  unfold own
  iexact H'

/-! ## From the last hop on -/

variable (xM : Memref sig .tc .vmem S4096x256 .f32) (wM : Memref sig .tc .vmem S256x2048 .f32)

/-- The places and the slots of a direction's half when the hops are over. -/
def LaneE (c : Dev nD) (b : Bool) (j : Fin 2) : sProp 𝕄 :=
  iprop((rp c b j 15 ∗ rp c b j 16) ∗ (slotAt c b 15 j ∗ slotAt c b 16 j) ∗ sp c b j 15 ∗ sp c b j 16)
/-- A direction's result and copy-out cell at the end. -/
def outE (c : Dev nD) (b : Bool) : sProp 𝕄 :=
  iprop(owns (c : Thread nD τ) (oM b) fullShare (outV xs ws b c) ∗ (∃ X, qO c b X) ∗ atPos ER (cell c (.st (ch b (pos c) 15) b)) 1 ∅ 0)

/-- What the exchange and the copies out need. -/
def Extra (c : Dev nD) : sProp 𝕄 :=
  iprop(axx c (pos c) ∗ (bigSep Finset.univ fun p => exTok (F := F) c p) ∗ (bigSep Finset.univ fun p => exCr (F := F) c p)
    ∗ (bigSep Finset.univ fun p => exAt (F := F) c p 0) ∗ ((∃ X, qO c true X) ∗ (∃ X, qO c false X)) ∗ outIn c true ∗ outIn c false)

/-- What is left at the end. -/
def End (c : Dev nD) : sProp 𝕄 :=
  iprop(XW xs ws xM wM c ∗ ((LaneE c true 0 ∗ LaneE c false 0) ∗ LaneE c true 1 ∗ LaneE c false 1) ∗ (ys c true ∗ ys c false)
    ∗ owns (c : Thread nD τ) axM fullShare (axAll xs ws) ∗ (bigSep Finset.univ fun p => exAt (F := F) c p (exR c p))
    ∗ (outE xs ws c true ∗ outE xs ws c false) ∗ owesE c 0)

theorem yO_glue (c : Dev nD) (b : Bool) :
    iprop(yAt c b (Fin.last 15) 0 (fin xs ws b c 0) ∗ yAt c b (Fin.last 15) 1 (fin xs ws b c 1)) ⊢ yO c b (glue (fin xs ws b c)) := by
  unfold yAt yO
  have h := chunk_join c b (ch b (pos c) 15) fullShare (glue (fin xs ws b c))
  rw [half_glue, half_glue] at h
  exact h

theorem last_step (c : Dev nD) {Q : PUnit.{1} → sProp 𝕄} :
    iprop(Env xs ws K ∗ Mid xs ws xM wM c 13 ∗ Extra c)
      ⊢ iprop((End xs ws xM wM c -∗ runs c (.ret ⟨⟩) Q) -∗ runs c (lastP c) Q) := by
  unfold Mid Extra lastP End
  rw [show OW c (13 + 2) = OA c 0 from by
    unfold OW; rw [show OB c (13 + 2) = 0 from by unfold OB; exact sum_finFrom_self _, add_zero]]
  have a16 : Above 16 (OA c 0) := above_OA (by omega)
  have a0 : Above 0 (OA c 0) := above_OA (by omega)
  rw [show (fun (p : Fin 16) (k : PU F) => axSendP p c k) = sendF c from by unfold sendF; rfl, show (fun (p : Fin 16) (k : PU F) => axWaitP p (axCond p c) k) = waitF c from by unfold waitF; rfl]
  unfold yPr2
  iintro ⟨#HE, ⟨HX, ⟨P0, P1⟩, ⟨Y0, Y1⟩, -, HO⟩, Hx, Ht, Hc, Ha, Hq, Hout⟩ Hk
  iapply (last_recv xs ws K c 0 a16) $$ [P0 Y0 HO]
  · iframe HE P0 Y0 HO
  iintro ⟨⟨R, R'⟩, S0, ⟨C, D⟩, KB, HO⟩
  iapply (last_recv xs ws K c 1 a16) $$ [P1 Y1 HO]
  · iframe HE P1 Y1 HO
  iintro ⟨⟨R1, R1'⟩, S1, ⟨C1, D1⟩, -, HO⟩
  iapply (last_wait xs ws K c 13 0 a0) $$ [S0 C HO]
  · iframe HE HO
    isplitl [S0]; · iexact S0
    iexact C
  iintro ⟨S0, HO⟩
  iapply (last_wait xs ws K c 13 1 a0) $$ [S1 C1 HO]
  · iframe HE HO
    isplitl [S1]; · iexact S1
    iexact C1
  iintro ⟨S1, HO⟩
  iapply (last_wait xs ws K c 14 0 a0) $$ [S0 D HO]
  · iframe HE HO
    isplitl [S0]; · iexact S0
    iexact D
  iintro ⟨S0, HO⟩
  iapply (last_wait xs ws K c 14 1 a0) $$ [S1 D1 HO]
  · iframe HE HO
    isplitl [S1]; · iexact S1
    iexact D1
  iintro ⟨S1, HO⟩
  iapply (ownMax_step xs ws c) $$ Hx
  iintro Ho
  iapply (exchange_step xs ws K c) $$ [Ho KB Ht Hc Ha HO]
  · rw [← kb_exDst]
    iframe HE Ho KB Ht Hc Ha HO
  iintro ⟨HA, Ha, HO⟩
  unfold LaneR
  icases R with ⟨R, F0, Y⟩
  icases R' with ⟨R', F0', Y'⟩
  icases R1 with ⟨R1, F1, Y1⟩
  icases R1' with ⟨R1', F1', Y1'⟩
  ihave Y := (yO_glue xs ws c true) $$ [Y Y1]
  · iframe Y Y1
  ihave Y' := (yO_glue xs ws c false) $$ [Y' Y1']
  · iframe Y' Y1'
  iapply (quant_step xs ws K c) $$ [HA Y Y' Hq Hout HO]
  · iframe HE HA Y Y' Hq Hout HO
  unfold outOut
  iintro ⟨HA, ⟨⟨Ho, Hy, Hq, Hs⟩, ⟨Ho', Hy', Hq', Hs'⟩⟩, HO⟩
  unfold LaneS
  icases S0 with ⟨⟨S0, B0⟩, ⟨S0', B0'⟩⟩
  icases S1 with ⟨⟨S1, B1⟩, ⟨S1', B1'⟩⟩
  ihave Hy := (ys_join c true) $$ [B0 B1 Hy]
  · isplitl [B0]; · iexact B0
    isplitl [B1]; · iexact B1
    iexact Hy
  ihave Hy' := (ys_join c false) $$ [B0' B1' Hy']
  · isplitl [B0']; · iexact B0'
    isplitl [B1']; · iexact B1'
    iexact Hy'
  iapply Hk
  unfold LaneE outE
  iframe HX Hy Hy' HA Ha Ho Hq Hs Ho' Hq' Hs' HO R R' R1 R1' F0 F0' F1 F1'
  isplitl [S0 S0']
  · isplitl [S0]; · iexact S0
    iexact S0'
  isplitl [S1]; · iexact S1
  iexact S1'

end Cert.Slice
-- ==== Proof.Bufs.lean ====
module

public import proofs.«01_k».proof.Proof.Tail

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

/-! ## Whole buffers and their pieces, at any contents -/

/-- A memref at some contents is the slices of a disjoint covering family, each at some contents, -/
theorem ex_split {sp : Space} {s : Shape} {e : EltTy} (c : Dev nD) (m : Memref sig .tc sp s e) {T : Type} [Fintype T] (r : T → Rect s)
    (hr : ∀ t a, (r t).stride a = 1) (hd : ∀ t t', t ≠ t' → Disjoint (r t).set (r t').set)
    (hcov : (Finset.univ : Finset T).biUnion (fun t => (r t).set) = Finset.univ) :
    iprop(∃ X, owns (c : Thread nD τ) m fullShare X) ⊢ (bigSep Finset.univ fun t => iprop(∃ X, owns (c : Thread nD τ) (m.slice (r t) (hr t)) fullShare X) : sProp 𝕄) := by
  iintro ⟨%X, H⟩
  iapply (show (owns (c : Thread nD τ) m fullShare X : sProp 𝕄) ⊢ bigSep Finset.univ fun t => iprop(∃ X, owns (c : Thread nD τ) (m.slice (r t) (hr t)) fullShare X) from
    (owns_rects (c : Thread nD τ) m fullShare r hr hd hcov X).trans (bigSep_mono fun t _ => show owns _ _ _ _ ⊢ iprop(∃ X, owns (c : Thread nD τ) (m.slice (r t) (hr t)) fullShare X) from by iintro H; iexists _; iexact H))
  iexact H
/-- and back. -/
theorem ex_join {sp : Space} {s : Shape} {e : EltTy} (c : Dev nD) (m : Memref sig .tc sp s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ X, owns (c : Thread nD τ) (m.slice (r t) (hr t)) fullShare X) : sProp 𝕄) ⊢ iprop(∃ X, owns (c : Thread nD τ) m fullShare X) := by
  have h : (bigSep Finset.univ fun t => ownsSat (c : Thread nD τ) (m.slice (r t) (hr t)) fullShare fun _ => True : sProp 𝕄)
      ⊢ ownsSat (c : Thread nD τ) m fullShare fun X => ∀ t : T, True :=
    ownsSat_of_rects (c : Thread nD τ) m fullShare r hr hd hcov fun _ _ => True
  refine BIBase.Entails.trans (bigSep_mono fun t _ => ?_) (h.trans (ownsSat_any (c : Thread nD τ) m fullShare))
  exact (ownsSat_true (c : Thread nD τ) (m.slice (r t) (hr t)) fullShare).2

/-! ### The exchange's buffer -/

theorem add_inj16 : ∀ p k k' : Fin 16, p + k = p + k' → k = k' := by decide +kernel
/-- The ring's positions counted from a given one. -/
def addE (p : Fin 16) : Fin 16 ≃ Fin 16 := Equiv.ofBijective (fun k => p + k)
  (Finite.injective_iff_bijective.mp fun k k' h => add_inj16 p k k' h)
theorem add_zero16 : ∀ p : Fin 16, p + 0 = p := by decide

theorem slot_ex (c : Dev nD) (p : Fin 16) : iprop(∃ X, owns (c : Thread nD τ) (axU p) fullShare X) ⊢ (axx c p : sProp 𝕄) := by
  unfold axx
  iintro ⟨%X, H⟩
  iexists (shapeCast S8x128 X sc_ax)
  iapply (Entails.of_eq (owns_squeeze (c := c) (axU p) squeezes_S1x8x128_S8x128 sc_ax fullShare X).symm)
  iexact H

theorem ax_split (c : Dev nD) : iprop(∃ X, owns (c : Thread nD τ) axM fullShare X) ⊢ (iprop(axx c (pos c) ∗ Bag (pos c) 1) : sProp 𝕄) := by
  refine ((ex_split c axM rU (fun _ _ => rfl) rU_disj rU_cov).trans (show _ ⊢ (bigSep Finset.univ fun p => axx (F := F) c p : sProp 𝕄) from bigSep_mono fun p _ => slot_ex c p)).trans ?_
  rw [bigSep_univ_equiv (addE (pos c)) fun p => axx (F := F) c p, ← bigSep_finFrom_zero, bigSep_finFrom_succ (by omega : 0 < 16)]
  unfold Bag
  rw [dev_pos]
  show iprop(axx c (pos c + (0 : Fin 16)) ∗ _) ⊢ _
  rw [add_zero16]
  exact .rfl

/-! ### The landing buffers -/

theorem rC_disj : ∀ t t' : Fin 2 × Fin 2, t ≠ t' → Disjoint (rC t.1 t.2).set (rC t'.1 t'.2).set := fun t t' h =>
  Finset.disjoint_left.mpr fun i hi hi' => by
    have h1 := Rect.mem_set_unit.mp hi; have h2 := Rect.mem_set_unit.mp hi'
    have a0 := h1 0; have b0 := h2 0; have a1 := h1 1; have b1 := h2 1
    simp [S1x128x1024] at a0 b0 a1 b1
    exact h (Prod.ext (Fin.ext (by omega)) (Fin.ext (by omega)))
theorem rC_cov : (Finset.univ : Finset (Fin 2 × Fin 2)).biUnion (fun t => (rC t.1 t.2).set) = Finset.univ := by
  ext i
  simp only [Finset.mem_biUnion, Finset.mem_univ, true_and, iff_true]
  have h0 : (i 0).val < 2 := (i 0).isLt
  have h1 : (i 1).val < 256 := (i 1).isLt
  have h2 : (i 2).val < 1024 := (i 2).isLt
  refine ⟨(⟨(i 0).val, h0⟩, ⟨(i 1).val / 128, by omega⟩), Rect.mem_set_unit.mpr fun a => ?_⟩
  fin_cases a <;> simp [S1x128x1024] <;> omega

theorem cS_ex (c : Dev nD) (b : Bool) (i j : Fin 2) :
    (cSx c b i j : sProp 𝕄) = iprop(∃ X, owns (c : Thread nD τ) ((cM b).slice (rC i j) fun _ => rfl) fullShare X) := by
  unfold cSx
  refine equiv_iff.mp ⟨?_, ?_⟩
  · show iprop(∃ X, owns (c : Thread nD τ) (cS b i j) fullShare X) ⊢ iprop(∃ X, owns (c : Thread nD τ) ((cM b).slice (rC i j) fun _ => rfl) fullShare X)
    iintro ⟨%X, H⟩
    obtain ⟨Y, rfl⟩ := shapeCast_surj sc_c X
    iexists Y
    iapply (Entails.of_eq (owns_squeeze (c := c) ((cM b).slice (rC i j) fun _ => rfl) squeezes_S1x128x1024_S128x1024 sc_c fullShare Y))
    iexact H
  · show iprop(∃ X, owns (c : Thread nD τ) ((cM b).slice (rC i j) fun _ => rfl) fullShare X) ⊢ iprop(∃ X, owns (c : Thread nD τ) (cS b i j) fullShare X)
    iintro ⟨%Y, H⟩
    iexists (shapeCast S128x1024 Y sc_c)
    iapply (Entails.of_eq (owns_squeeze (c := c) ((cM b).slice (rC i j) fun _ => rfl) squeezes_S1x128x1024_S128x1024 sc_c fullShare Y).symm)
    iexact H

/-- The four pieces of a landing buffer. -/
def cs4 (c : Dev nD) (b : Bool) : sProp 𝕄 := iprop((cSx c b 0 0 ∗ cSx c b 1 0) ∗ cSx c b 0 1 ∗ cSx c b 1 1)
theorem cs4_eq (c : Dev nD) (b : Bool) : (bigSep Finset.univ fun t : Fin 2 × Fin 2 => iprop(∃ X, owns (c : Thread nD τ) ((cM b).slice (rC t.1 t.2) fun _ => rfl) fullShare X) : sProp 𝕄)
    = cs4 c b := by
  unfold cs4
  rw [bigSep_congr fun t _ => (cS_ex c b t.1 t.2).symm,
    bigSep_univ_eq_bigSepL [((0 : Fin 2), (0 : Fin 2)), (1, 0), (0, 1), (1, 1)] (by decide) (by decide),
    bigSepL_cons_cons, bigSepL_cons_cons, bigSepL_cons_cons, bigSepL_singleton]
  refine equiv_iff.mp ⟨?_, ?_⟩
  · show iprop(cSx c b 0 0 ∗ cSx c b 1 0 ∗ cSx c b 0 1 ∗ cSx c b 1 1) ⊢ iprop((cSx c b 0 0 ∗ cSx c b 1 0) ∗ cSx c b 0 1 ∗ cSx c b 1 1)
    iintro ⟨H0, H1, H2, H3⟩; iframe H0 H1 H2 H3
  · show iprop((cSx c b 0 0 ∗ cSx c b 1 0) ∗ cSx c b 0 1 ∗ cSx c b 1 1) ⊢ iprop(cSx c b 0 0 ∗ cSx c b 1 0 ∗ cSx c b 0 1 ∗ cSx c b 1 1)
    iintro ⟨⟨H0, H1⟩, H2, H3⟩; iframe H0 H1 H2 H3
theorem c_split (c : Dev nD) (b : Bool) : iprop(∃ X, owns (c : Thread nD τ) (cM b) fullShare X) ⊢ (cs4 c b : sProp 𝕄) := by
  rw [← cs4_eq]; exact ex_split c (cM b) (fun t : Fin 2 × Fin 2 => rC t.1 t.2) (fun _ _ => rfl) rC_disj rC_cov
theorem c_join (c : Dev nD) (b : Bool) : (cs4 c b : sProp 𝕄) ⊢ iprop(∃ X, owns (c : Thread nD τ) (cM b) fullShare X) := by
  rw [← cs4_eq]; exact ex_join c (cM b) (fun t : Fin 2 × Fin 2 => rC t.1 t.2) (fun _ _ => rfl) rC_disj rC_cov

/-! ### The product's buffer -/

abbrev rY (t : Bool × Fin 16) : Rect S4096x2048 := Rect.unit (s := S4096x2048) (oQ t.1 t.2) S256x1024.size (oQ_inb t.1 t.2)
theorem rY_disj : ∀ t t' : Bool × Fin 16, t ≠ t' → Disjoint (rY t).set (rY t').set := fun t t' h =>
  Finset.disjoint_left.mpr fun i hi hi' => by
    have h1 := Rect.mem_set_unit.mp hi; have h2 := Rect.mem_set_unit.mp hi'
    have a0 := h1 0; have b0 := h2 0; have a1 := h1 1; have b1 := h2 1
    obtain ⟨b, k⟩ := t; obtain ⟨b', k'⟩ := t'
    simp [S256x1024, oQ] at a0 b0 a1 b1
    refine h (Prod.ext ?_ (Fin.ext (by show k.val = k'.val; omega)))
    cases b <;> cases b' <;> first | rfl | (simp only [col] at a1 b1; omega)
theorem rY_cov : (Finset.univ : Finset (Bool × Fin 16)).biUnion (fun t => (rY t).set) = Finset.univ := by
  ext i
  simp only [Finset.mem_biUnion, Finset.mem_univ, true_and, iff_true]
  have h0 : (i 0).val < 4096 := (i 0).isLt
  have h1 : (i 1).val < 2048 := (i 1).isLt
  refine ⟨(decide ((i 1).val < 1024), ⟨(i 0).val / 256, by omega⟩), Rect.mem_set_unit.mpr fun a => ?_⟩
  by_cases h : (i 1).val < 1024
  · rw [decide_eq_true h]; fin_cases a <;> simp [S256x1024, oQ, col] <;> omega
  · rw [decide_eq_false h]; fin_cases a <;> simp [S256x1024, oQ, col] <;> omega

/-- A direction's chunks by step. -/
def chE (b : Bool) (p : Fin 16) : Fin 16 ≃ Fin 16 := Equiv.ofBijective (ch b p)
  (Finite.injective_iff_bijective.mp fun t t' h => ch_inj b p t t' h)
theorem ys_eq (c : Dev nD) (b : Bool) : (ys c b : sProp 𝕄) = bigSep Finset.univ fun k => yQx (F := F) c b k := by
  rw [bigSep_univ_equiv (chE b (pos c)) fun k => yQx (F := F) c b k]; rfl
theorem ys2_eq (c : Dev nD) : (bigSep Finset.univ fun t : Bool × Fin 16 => iprop(∃ X, owns (c : Thread nD τ) (yM.slice (rY t) fun _ => rfl) fullShare X) : sProp 𝕄)
    = iprop(ys c true ∗ ys c false) := by
  rw [bigSep_univ_prod, bigSep_univ_eq_bigSepL [true, false] (by decide) (by decide), bigSepL_cons_cons, bigSepL_singleton, ys_eq, ys_eq]; rfl
theorem y_split (c : Dev nD) : iprop(∃ X, owns (c : Thread nD τ) yM fullShare X) ⊢ (iprop(ys c true ∗ ys c false) : sProp 𝕄) := by
  rw [← ys2_eq]; exact ex_split c yM rY (fun _ _ => rfl) rY_disj rY_cov
theorem y_join (c : Dev nD) : (iprop(ys c true ∗ ys c false) : sProp 𝕄) ⊢ iprop(∃ X, owns (c : Thread nD τ) yM fullShare X) := by
  rw [← ys2_eq]; exact ex_join c yM rY (fun _ _ => rfl) rY_disj rY_cov

theorem rest2_zero (c : Dev nD) : (rest2 c 0 : sProp 𝕄) = iprop(ys c true ∗ ys c false) := by
  unfold rest2 ys; rw [bigSep_finFrom_zero, bigSep_finFrom_zero]

end Cert.Slice
-- ==== Proof.Body.lean ====
module

public import proofs.«01_k».proof.Proof.Bufs

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

variable (K : Dev nD × CK → ℕ)

/-! ## All of a device's cells, listed -/

/-- Two resources each of which gives the other are the same. -/
theorem sp_ext {A B : sProp 𝕄} (h : A ⊢ B) (h' : B ⊢ A) : A = B := equiv_iff.mp ⟨h, h'⟩

/-- The four lanes: a direction and a half. -/
def L4 (Φ : Bool → Fin 2 → sProp 𝕄) : sProp 𝕄 := iprop((Φ true 0 ∗ Φ false 0) ∗ Φ true 1 ∗ Φ false 1)
theorem L4_mono {Φ Ψ : Bool → Fin 2 → sProp 𝕄} (h : ∀ b j, Φ b j ⊢ Ψ b j) : L4 Φ ⊢ L4 Ψ :=
  Laws.sep_mono (Laws.sep_mono (h true 0) (h false 0)) (Laws.sep_mono (h true 1) (h false 1))
theorem L4_sep (Φ Ψ : Bool → Fin 2 → sProp 𝕄) : iprop(L4 Φ ∗ L4 Ψ) = L4 fun b j => iprop(Φ b j ∗ Ψ b j) := by
  unfold L4
  refine sp_ext ?_ ?_
  · iintro ⟨⟨⟨A, B⟩, C, D⟩, ⟨A', B'⟩, C', D'⟩; iframe A B C D A' B' C' D'
  · iintro ⟨⟨⟨A, A'⟩, B, B'⟩, ⟨C, C'⟩, D, D'⟩; iframe A B C D A' B' C' D'

/-- A family over direction, slot and half, lane by lane. -/
theorem lanes_eq (Φ : Bool → Fin 2 → Fin 2 → sProp 𝕄) :
    (bigSep Finset.univ fun x : Bool × Fin 2 × Fin 2 => Φ x.1 x.2.1 x.2.2 : sProp 𝕄) = L4 fun b j => iprop(Φ b 0 j ∗ Φ b 1 j) := by
  rw [bigSep_univ_eq_bigSepL [(true, 0, 0), (true, 1, 0), (false, 0, 0), (false, 1, 0), (true, 0, 1), (true, 1, 1), (false, 0, 1), (false, 1, 1)] (by decide) (by decide)]
  simp only [bigSepL_cons_cons, bigSepL_singleton]
  unfold L4
  refine sp_ext ?_ ?_
  · show iprop(Φ true 0 0 ∗ Φ true 1 0 ∗ Φ false 0 0 ∗ Φ false 1 0 ∗ Φ true 0 1 ∗ Φ true 1 1 ∗ Φ false 0 1 ∗ Φ false 1 1) ⊢ _
    iintro ⟨A, A', B, B', C, C', D, D'⟩; iframe A B C D A' B' C' D'
  · show _ ⊢ iprop(Φ true 0 0 ∗ Φ true 1 0 ∗ Φ false 0 0 ∗ Φ false 1 0 ∗ Φ true 0 1 ∗ Φ true 1 1 ∗ Φ false 0 1 ∗ Φ false 1 1)
    iintro ⟨⟨⟨A, A'⟩, B, B'⟩, ⟨C, C'⟩, D, D'⟩; iframe A B C D A' B' C' D'

/-- The copies' cells a device does not use, of one direction. -/
def stRest (c : Dev nD) (Φ : Fin 16 → Bool → sProp 𝕄) (b : Bool) : sProp 𝕄 := bigSep (Finset.univ.erase (ch b (pos c) 15)) fun k => Φ k b
theorem st_eq (c : Dev nD) (Φ : Fin 16 → Bool → sProp 𝕄) :
    (bigSep Finset.univ fun x : Fin 16 × Bool => Φ x.1 x.2 : sProp 𝕄)
      = iprop((Φ (ch true (pos c) 15) true ∗ stRest c Φ true) ∗ Φ (ch false (pos c) 15) false ∗ stRest c Φ false) := by
  have h (b : Bool) : (bigSep Finset.univ fun k : Fin 16 => Φ k b : sProp 𝕄) = iprop(Φ (ch b (pos c) 15) b ∗ stRest c Φ b) :=
    bigSep_erase (Finset.mem_univ (ch b (pos c) 15))
  rw [bigSep_univ_prod, bigSep_congr (s := Finset.univ) (fun (k : Fin 16) _ =>
    show (bigSep Finset.univ fun b : Bool => Φ k b : sProp 𝕄) = iprop(Φ k true ∗ Φ k false) by
      rw [bigSep_univ_eq_bigSepL [true, false] (by decide) (by decide), bigSepL_cons_cons, bigSepL_singleton]; rfl), bigSep_sep', h, h]

/-- A family over a device's cells, part by part. -/
theorem ck_eq (c : Dev nD) (Φ : CK → sProp 𝕄) :
    (bigSep Finset.univ Φ : sProp 𝕄) = iprop(Φ .bar ∗ (L4 fun b j => iprop(Φ (.snd b 0 j) ∗ Φ (.snd b 1 j))) ∗ (L4 fun b j => iprop(Φ (.rcv b 0 j) ∗ Φ (.rcv b 1 j)))
      ∗ (bigSep Finset.univ fun p => iprop(Φ (.axs p) ∗ Φ (.axr p)))
      ∗ (Φ (.st (ch true (pos c) 15) true) ∗ stRest c (fun k b => Φ (.st k b)) true)
      ∗ Φ (.st (ch false (pos c) 15) false) ∗ stRest c (fun k b => Φ (.st k b)) false) := by
  rw [bigSep_univ_equiv ckEquiv Φ, bigSep_univ_sum, bigSep_univ_sum, bigSep_univ_sum, bigSep_univ_sum, bigSep_univ_sum,
    show (bigSep Finset.univ fun a : Unit => Φ (ckEquiv (Sum.inl a)) : sProp 𝕄) = Φ .bar from
      (bigSep_univ_eq_bigSepL [()] (by decide) (by decide) _).trans (bigSepL_singleton _ _),
    show (bigSep Finset.univ fun a : Bool × Fin 2 × Fin 2 => Φ (ckEquiv (Sum.inr (Sum.inl a))) : sProp 𝕄) = L4 fun b j => iprop(Φ (.snd b 0 j) ∗ Φ (.snd b 1 j)) from
      lanes_eq fun b i j => Φ (.snd b i j),
    show (bigSep Finset.univ fun a : Bool × Fin 2 × Fin 2 => Φ (ckEquiv (Sum.inr (Sum.inr (Sum.inl a)))) : sProp 𝕄) = L4 fun b j => iprop(Φ (.rcv b 0 j) ∗ Φ (.rcv b 1 j)) from
      lanes_eq fun b i j => Φ (.rcv b i j),
    show (bigSep Finset.univ fun a : Fin 16 × Bool => Φ (ckEquiv (Sum.inr (Sum.inr (Sum.inr (Sum.inr (Sum.inr a)))))) : sProp 𝕄) = _ from
      st_eq c fun k b => Φ (.st k b), bigSep_sep']
  show iprop(Φ .bar ∗ (L4 fun b j => iprop(Φ (.snd b 0 j) ∗ Φ (.snd b 1 j))) ∗ (L4 fun b j => iprop(Φ (.rcv b 0 j) ∗ Φ (.rcv b 1 j)))
      ∗ (bigSep Finset.univ fun p => Φ (.axs p)) ∗ (bigSep Finset.univ fun p => Φ (.axr p))
      ∗ (Φ (.st (ch true (pos c) 15) true) ∗ stRest c (fun k b => Φ (.st k b)) true)
      ∗ Φ (.st (ch false (pos c) 15) false) ∗ stRest c (fun k b => Φ (.st k b)) false)
    = iprop(Φ .bar ∗ (L4 fun b j => iprop(Φ (.snd b 0 j) ∗ Φ (.snd b 1 j))) ∗ (L4 fun b j => iprop(Φ (.rcv b 0 j) ∗ Φ (.rcv b 1 j)))
      ∗ ((bigSep Finset.univ fun p => Φ (.axs p)) ∗ bigSep Finset.univ fun p => Φ (.axr p))
      ∗ (Φ (.st (ch true (pos c) 15) true) ∗ stRest c (fun k b => Φ (.st k b)) true)
      ∗ Φ (.st (ch false (pos c) 15) false) ∗ stRest c (fun k b => Φ (.st k b)) false)
  refine sp_ext ?_ ?_
  · iintro ⟨A, B, C, D, E, F⟩; iframe A B C F
    isplitl [D]
    · iexact D
    iexact E
  · iintro ⟨A, B, C, ⟨D, E⟩, F⟩; iframe A B C F
    isplitl [D]
    · iexact D
    iexact E

/-! ## The places in the cells' rounds -/

/-- A device's places in its cells' rounds. -/
def atAll (c : Dev nD) (f : CK → ℕ) : sProp 𝕄 := bigSep Finset.univ fun k => atPos ER (cell c k) (f k) ∅ 0
/-- The round each cell ends at. -/
def endR (c : Dev nD) : CK → ℕ
  | .bar => 1
  | .snd _ i _ => 8 - i.val
  | .rcv _ i _ => 8 - i.val
  | .axs p => exR c p
  | .axr p => exR c p
  | .st k b => if k = ch b (pos c) 15 then 1 else 0

theorem endR_last (c : Dev nD) (k : CK) (r : ℕ) (h : endR c k ≤ r) : dut c r k = ∅ := by
  cases k with
  | bar => exact if_neg (by have : 1 ≤ r := h; omega)
  | snd b i j => have h' : 8 - i.val ≤ r := h; exact if_neg (by omega)
  | rcv b i j => have h' : 8 - i.val ≤ r := h; exact if_neg (by omega)
  | axs p =>
      refine if_neg ?_
      rintro ⟨h0, hp⟩
      have h' : exR c p ≤ r := h
      unfold exR at h'; rw [if_neg hp] at h'; omega
  | axr p =>
      refine if_neg ?_
      rintro ⟨h0, hp⟩
      have h' : exR c p ≤ r := h
      unfold exR at h'; rw [if_neg hp] at h'; omega
  | st k b =>
      refine if_neg ?_
      rintro ⟨h0, hp⟩
      have h' : (if k = ch b (pos c) 15 then 1 else 0) ≤ r := h
      rw [if_pos hp] at h'; omega

/-- At their last rounds the cells close, and their counters come back at zero. -/
theorem close_all (c : Dev nD) : iprop(Env xs ws K ∗ atAll c (endR c)) ⊢ (|={Set.univ}=> bigSep Finset.univ fun k => semVal (cell c k) 0 : sProp 𝕄) := by
  unfold atAll
  refine BIBase.Entails.trans ((sep_mono_left (BI.bigSep_of_persistent (Finset.univ : Finset CK) (Env xs ws K))).trans ?_)
    (bigSep_fupd (Finset.univ : Finset CK) fun k => (semVal (cell c k) 0 : sProp 𝕄))
  rw [← bigSep_sep']
  refine bigSep_mono fun k _ => ?_
  show iprop(Env xs ws K ∗ atPos ER (cell c k) (endR c k) ∅ 0) ⊢ (|={Set.univ}=> semVal (cell c k) 0 : sProp 𝕄)
  iintro ⟨#HE, H⟩
  imod (Rounds.cell_close ER (Rd xs ws) (Set.mem_univ (K (c, k))) (fun h => h) (R := endR c k)
    (fun r hr => by rw [duties_cell]; exact endR_last c k r hr)) $$ [H] with Hz
  · isplitr; · iapply (env_inv xs ws K c k); iexact HE
    iexact H
  imodintro
  iexact Hz

/-! ## The body -/

variable (xM : Memref sig .tc .vmem S4096x256 .f32) (wM : Memref sig .tc .vmem S256x2048 .f32)

/-- The buffers of a device at some contents but for the results. -/
def bufs (c : Dev nD) : sProp 𝕄 :=
  iprop((∃ X, owns (c : Thread nD τ) yM fullShare X) ∗ (∃ X, owns (c : Thread nD τ) (cM true) fullShare X) ∗ (∃ X, owns (c : Thread nD τ) (cM false) fullShare X)
    ∗ (∃ X, owns (c : Thread nD τ) (qM true) fullShare X) ∗ (∃ X, owns (c : Thread nD τ) (qM false) fullShare X) ∗ (∃ X, owns (c : Thread nD τ) axM fullShare X))

/-- The tokens of the duties a device pays. -/
def toks (c : Dev nD) : sProp 𝕄 :=
  iprop((dutyTok ER (cell (nx false c) .bar) 0 true ∗ dutyTok ER (cell (nx true c) .bar) 0 false)
    ∗ (L4 fun b j => bigSep Finset.univ fun m : Fin 15 => tok c b j m.val) ∗ (bigSep Finset.univ fun p => exTok (F := F) c p)
    ∗ dutyTok ER (cell c (.st (ch true (pos c) 15) true)) 0 false ∗ dutyTok ER (cell c (.st (ch false (pos c) 15) false)) 0 false)
/-- The credits a device starts with. -/
def crs (c : Dev nD) : sProp 𝕄 :=
  iprop(cred (tallyAt (cell c .bar) 0 2) ∗ (L4 fun b j => bigSep Finset.univ fun m : Fin 15 => crR c b j m.val) ∗ (bigSep Finset.univ fun p => exCr (F := F) c p))

/-- What a device's body starts from, -/
def Start (c : Dev nD) : sProp 𝕄 :=
  iprop(XW xs ws xM wM c ∗ bufs c ∗ ((∃ X, owns (c : Thread nD τ) (oM true) fullShare X) ∗ (∃ X, owns (c : Thread nD τ) (oM false) fullShare X))
    ∗ toks c ∗ crs c ∗ atAll c (fun _ => 0) ∗ owesE c (O₀ c))
/-- and what it ends with. -/
def Stop (c : Dev nD) : sProp 𝕄 :=
  iprop(XW xs ws xM wM c ∗ bufs c ∗ (owns (c : Thread nD τ) (oM true) fullShare (outV xs ws true c) ∗ owns (c : Thread nD τ) (oM false) fullShare (outV xs ws false c))
    ∗ (bigSep Finset.univ fun k => semVal (cell c k) 0) ∗ owesE c 0)

/-- The barrier: each neighbour is told that this device's slots are free, and tells the same. -/
theorem barrier_step (c : Dev nD) {Q : PUnit.{1} → sProp 𝕄} :
    iprop(Env xs ws K ∗ (dutyTok ER (cell (nx false c) .bar) 0 true ∗ dutyTok ER (cell (nx true c) .bar) 0 false) ∗ cred (tallyAt (cell c .bar) 0 2)
        ∗ atPos ER (cell c .bar) 0 ∅ 0 ∗ (L4 fun b j => slotAt c b 0 j) ∗ owesE c (O₀ c))
      ⊢ iprop((((L4 fun b j => slotAt (nx b c) b 0 j) ∗ atPos ER (cell c .bar) 1 ∅ 0 ∗ owesE c (OW c 0)) -∗ runs c (workP xM wM c) Q)
          -∗ runs c (bodyP xM wM) Q) := by
  unfold owesE runs bodyP L4 O₀
  simp only [semSignalWord, semWaitWord, Prog.lift, Prog.bind_op, Prog.bind_ret, Prog.pure_eq_ret, wp_deviceId]
  rw [show (⟨k0_dev1 c, k0_dev1_lt c⟩ : Dev nD) = nx false c from dev1_eq c, show (⟨k0_dev2 c, k0_dev2_lt c⟩ : Dev nD) = nx true c from dev2_eq c]
  iintro ⟨#HE, ⟨HtF, HtT⟩, Hcr, Hat, ⟨⟨S0, S0'⟩, S1, S1'⟩, ⟨%W, HO⟩⟩ Hk
  iapply (Rounds.wp_signal 𝒱₀ ER (Rd xs ws) (c : Thread nD τ) none (dst := (nx false c : Thread nD τ)) (κ := K (nx false c, .bar)) (r := 0)
      (d := true) (by rw [show ((nx false c : Thread nD τ), SemLoc.reg barS) = cell (nx false c) .bar from rfl, duties_cell]; exact Finset.mem_univ _)
      ((amount_cell xs ws (nx false c) .bar 0 true).trans (by decide)) 0 (OW c 0 + tallyAt (cell (nx true c) .bar) 0 1) rfl)
    $$ [HO HtF S0 S1]
  · isplitr; · iapply (env_inv xs ws K (nx false c) .bar); iexact HE
    isplitl [HO]; · iexact HO
    isplitl [HtF]; · iexact HtF
    isplitl [S0 S1]
    · rw [show (Rd xs ws).payload ((nx false c : Thread nD τ), SemLoc.reg barS) 0 true = pay xs ws (nx false c) 0 true .bar from payload_cell xs ws (nx false c) .bar 0 true]
      iapply (Entails.of_eq (show iprop(slotAt c true 0 0 ∗ slotAt c true 0 1) = pay xs ws (nx false c) 0 true .bar from by
        show _ = iprop(slotAt (nx true (nx false c)) true 0 0 ∗ slotAt (nx true (nx false c)) true 0 1)
        rw [show nx true (nx false c) = c from nx_not' false c]))
      iframe S0 S1
    iapply (env_reached xs ws K (nx false c) .bar); iexact HE
  iintro HO
  iapply (Rounds.wp_signal 𝒱₀ ER (Rd xs ws) (c : Thread nD τ) none (dst := (nx true c : Thread nD τ)) (κ := K (nx true c, .bar)) (r := 0)
      (d := false) (by rw [show ((nx true c : Thread nD τ), SemLoc.reg barS) = cell (nx true c) .bar from rfl, duties_cell]; exact Finset.mem_univ _)
      ((amount_cell xs ws (nx true c) .bar 0 false).trans (by decide)) 0 (OW c 0) rfl)
    $$ [HO HtT S0' S1']
  · isplitr; · iapply (env_inv xs ws K (nx true c) .bar); iexact HE
    isplitl [HO]; · iexact HO
    isplitl [HtT]; · iexact HtT
    isplitl [S0' S1']
    · rw [show (Rd xs ws).payload ((nx true c : Thread nD τ), SemLoc.reg barS) 0 false = pay xs ws (nx true c) 0 false .bar from payload_cell xs ws (nx true c) .bar 0 false]
      iapply (Entails.of_eq (show iprop(slotAt c false 0 0 ∗ slotAt c false 0 1) = pay xs ws (nx true c) 0 false .bar from by
        show _ = iprop(slotAt (nx false (nx true c)) false 0 0 ∗ slotAt (nx false (nx true c)) false 0 1)
        rw [show nx false (nx true c) = c from nx_not' true c]))
      iframe S0' S1'
    iapply (env_reached xs ws K (nx true c) .bar); iexact HE
  iintro HO
  iapply (Rounds.wp_wait_rest_token 𝒱₀ ER (Rd xs ws) (c : Thread nD τ) none (κ := K (c, .bar)) (sm := csem .bar)
      (wpE_semWait_eq 𝒱₀ (c : Thread nD τ) none Set.univ) (Set.mem_univ _) 0 (O := OW c 0) (W := W) (R := 0) (m := 0) (T := ∅)
      (by rw [show ((c : Thread nD τ), csem .bar) = cell c .bar from rfl, expect_bar]; decide)) $$ [Hcr HO Hat]
  · isplitr; · iapply (env_inv xs ws K c .bar); iexact HE
    isplitl [Hcr]; · iexact Hcr
    isplitl [HO]; · iexact HO
    isplitr
    · iapply (env_wait xs ws K (l := 1) c .bar 0 (by omega) (le_refl 1) (above_OW (by omega) (by omega))); iexact HE
    iexact Hat
  iintro ⟨HO, Hat, -, Hpay⟩
  ihave Hp := (Entails.of_eq (rest_bar xs ws c)) $$ Hpay
  iapply Hk
  unfold pay
  icases Hp with ⟨⟨A, B⟩, C, D⟩
  isplitl [A B C D]; · iframe A B C D
  isplitl [Hat]; · iexact Hat
  iexists _; iexact HO

/-- The free slots of a device's landing buffers. -/
theorem slots_init (c : Dev nD) : iprop(Env xs ws K ∗ cs4 c true ∗ cs4 c false) ⊢ (iprop((L4 fun b j => slotAt c b 0 j) ∗ (L4 fun b j => slotAt c b 1 j)) : sProp 𝕄) := by
  have h (b : Bool) (n : ℕ) (hn : n / 2 = 0) (j : Fin 2) : iprop(Env xs ws K ∗ cSx c b (sl n) j) ⊢ (slotAt c b n j : sProp 𝕄) := by
    unfold slotAt
    rw [hn]
    iintro ⟨#HE, H⟩
    isplitl [H]; · iexact H
    iapply (env_reached xs ws K c (.rcv b (sl n) j)); iexact HE
  unfold cs4 L4
  iintro ⟨#HE, ⟨⟨A, B⟩, C, D⟩, ⟨A', B'⟩, C', D'⟩
  isplitl [A C A' C']
  · isplitl [A A']
    · isplitl [A]
      · iapply (h true 0 rfl 0); isplitr; · iexact HE
        iexact A
      · iapply (h false 0 rfl 0); isplitr; · iexact HE
        iexact A'
    · isplitl [C]
      · iapply (h true 0 rfl 1); isplitr; · iexact HE
        iexact C
      · iapply (h false 0 rfl 1); isplitr; · iexact HE
        iexact C'
  · isplitl [B B']
    · isplitl [B]
      · iapply (h true 1 rfl 0); isplitr; · iexact HE
        iexact B
      · iapply (h false 1 rfl 0); isplitr; · iexact HE
        iexact B'
    · isplitl [D]
      · iapply (h true 1 rfl 1); isplitr; · iexact HE
        iexact D
      · iapply (h false 1 rfl 1); isplitr; · iexact HE
        iexact D'

/-- The landing buffers back from their slots. -/
theorem slots_fin (c : Dev nD) : (L4 fun b j => iprop(slotAt c b 15 j ∗ slotAt c b 16 j)) ⊢ (iprop(cs4 c true ∗ cs4 c false) : sProp 𝕄) := by
  have h (b : Bool) (n : ℕ) (j : Fin 2) : slotAt c b n j ⊢ (cSx c b (sl n) j : sProp 𝕄) := by
    unfold slotAt; iintro ⟨H, -⟩; iexact H
  refine (L4_mono fun b j => Laws.sep_mono (h b 15 j) (h b 16 j)).trans ?_
  rw [show sl 15 = 1 from rfl, show sl 16 = 0 from rfl]
  unfold cs4 L4
  iintro ⟨⟨⟨A, A'⟩, B, B'⟩, ⟨C, C'⟩, D, D'⟩
  iframe A A' B B' C C' D D'

/-- A lane before its first copy. -/
theorem lane0_eq (c : Dev nD) (b : Bool) (j : Fin 2) : (Lane0 c b j : sProp 𝕄)
    = iprop(((rp c b j 0 ∗ rp c b j 1) ∗ sp c b j 0 ∗ sp c b j 1) ∗ (bigSep Finset.univ fun m : Fin 15 => tok c b j m.val)
      ∗ (bigSep Finset.univ fun m : Fin 15 => crR c b j m.val) ∗ slotAt (nx b c) b 0 j ∗ slotAt c b 1 j) := by
  unfold Lane0
  rw [bigSep_finFrom_zero, bigSep_finFrom_zero]
  refine sp_ext ?_ ?_
  · iintro ⟨⟨A, B, C, D⟩, E⟩; iframe A B C D E
  · iintro ⟨⟨⟨A, B⟩, C, D⟩, E⟩; iframe A B C D E

theorem lanes_begin (c : Dev nD) :
    iprop((L4 fun b j => iprop(rp c b j 0 ∗ rp c b j 1)) ∗ (L4 fun b j => iprop(sp c b j 0 ∗ sp c b j 1))
        ∗ (L4 fun b j => bigSep Finset.univ fun m : Fin 15 => tok c b j m.val) ∗ (L4 fun b j => bigSep Finset.univ fun m : Fin 15 => crR c b j m.val)
        ∗ (L4 fun b j => slotAt (nx b c) b 0 j) ∗ (L4 fun b j => slotAt c b 1 j))
      ⊢ (iprop((Lane0 c true 0 ∗ Lane0 c false 0) ∗ Lane0 c true 1 ∗ Lane0 c false 1) : sProp 𝕄) := by
  rw [L4_sep, L4_sep, L4_sep, L4_sep, L4_sep]
  refine L4_mono (Ψ := fun b j => Lane0 c b j) fun b j => ?_
  rw [lane0_eq]
  iintro ⟨A, B, C⟩; iframe A B C

theorem stRest_end (c : Dev nD) (b : Bool) :
    (stRest c (fun k b => atPos ER (cell c (.st k b)) 0 ∅ 0) b : sProp 𝕄) = stRest c (fun k b => atPos ER (cell c (.st k b)) (endR c (.st k b)) ∅ 0) b := by
  unfold stRest
  refine bigSep_congr fun k hk => ?_
  show atPos ER (cell c (.st k b)) 0 ∅ 0 = atPos ER (cell c (.st k b)) (endR c (.st k b)) ∅ 0
  rw [show endR c (.st k b) = 0 from if_neg (Finset.ne_of_mem_erase hk)]

theorem end_st (c : Dev nD) (b : Bool) : endR c (.st (ch b (pos c) 15) b) = 1 := if_pos rfl

/-- The whole body of a device. -/
theorem body_step (c : Dev nD) {Q : PUnit.{1} → sProp 𝕄} :
    iprop(Env xs ws K ∗ Start xs ws xM wM c) ⊢ iprop((Stop xs ws xM wM c -∗ Q ⟨⟩) -∗ runs c (bodyP xM wM) Q) := by
  unfold Start bufs toks crs
  iintro ⟨#HE, HX, ⟨Hy, Hc, Hc', Hq, Hq', Hax⟩, ⟨Ho, Ho'⟩, ⟨HtB, HtL, HtX, HtS, HtS'⟩, ⟨HcB, HcL, HcX⟩, HA, HO⟩ Hk
  ihave HA' := (Entails.of_eq ((show (atAll c (fun _ => 0) : sProp 𝕄) = _ from ck_eq c fun k => atPos ER (cell c k) 0 ∅ 0))) $$ HA
  icases HA' with ⟨HaB, HaS, HaR, HaX, ⟨HaO, HaOr⟩, HaO', HaOr'⟩
  ihave Hc1 := (c_split c true) $$ Hc
  ihave Hc2 := (c_split c false) $$ Hc'
  ihave Hsl := (slots_init xs ws K c) $$ [Hc1 Hc2]
  · iframe HE Hc1 Hc2
  icases Hsl with ⟨Hs0, Hs1⟩
  ihave Hy' := (y_split c) $$ Hy
  ihave Hax' := (ax_split c) $$ Hax
  icases Hax' with ⟨Hown, Hbag⟩
  iapply (barrier_step xs ws K xM wM c) $$ [HtB HcB HaB Hs0 HO]
  · iframe HE HtB HcB HaB Hs0 HO
  iintro ⟨Hs0, HaB, HO⟩
  iapply (work_step xs ws K xM wM c) $$ [HX Hy' HaS HaR HtL HcL Hs0 Hs1 Hbag HO]
  · isplitr; · iexact HE
    unfold Begin
    isplitl [HX]; · iexact HX
    isplitl [Hy']; · rw [rest2_zero]; iexact Hy'
    isplitl [HaS HaR HtL HcL Hs0 Hs1]
    · iapply (lanes_begin c)
      iframe HaS HaR HtL HcL Hs0 Hs1
    isplitl [Hbag]; · iexact Hbag
    iexact HO
  iintro HM
  ihave Hq1 := (show iprop(∃ X, owns (c : Thread nD τ) (qM true) fullShare X) ⊢ (iprop(∃ X, qO c true X) : sProp 𝕄) from by
    unfold qO; iintro ⟨%X, H⟩; iexists X; iapply (Entails.of_eq (owns_rQ c (qM true) fullShare X)); iexact H) $$ Hq
  ihave Hq2 := (show iprop(∃ X, owns (c : Thread nD τ) (qM false) fullShare X) ⊢ (iprop(∃ X, qO c false X) : sProp 𝕄) from by
    unfold qO; iintro ⟨%X, H⟩; iexists X; iapply (Entails.of_eq (owns_rQ c (qM false) fullShare X)); iexact H) $$ Hq'
  iapply (last_step xs ws K xM wM c) $$ [HM Hown HtX HcX HaX Hq1 Hq2 Ho Ho' HtS HtS' HaO HaO']
  · isplitr; · iexact HE
    isplitl [HM]; · iexact HM
    unfold Extra outIn exAt
    iframe Hown HtX HcX HaX Hq1 Hq2 Ho Ho' HtS HtS' HaO HaO'
  unfold End LaneE outE
  iintro ⟨HX, HL, Hy, Hax, HaX, ⟨⟨Ho, ⟨%Z, Hq⟩, HaO⟩, Ho', ⟨%Z', Hq'⟩, HaO'⟩, HO⟩
  ihave HL' := (show iprop((((rp c true 0 15 ∗ rp c true 0 16) ∗ (slotAt c true 15 0 ∗ slotAt c true 16 0) ∗ sp c true 0 15 ∗ sp c true 0 16)
        ∗ (rp c false 0 15 ∗ rp c false 0 16) ∗ (slotAt c false 15 0 ∗ slotAt c false 16 0) ∗ sp c false 0 15 ∗ sp c false 0 16)
        ∗ ((rp c true 1 15 ∗ rp c true 1 16) ∗ (slotAt c true 15 1 ∗ slotAt c true 16 1) ∗ sp c true 1 15 ∗ sp c true 1 16)
        ∗ (rp c false 1 15 ∗ rp c false 1 16) ∗ (slotAt c false 15 1 ∗ slotAt c false 16 1) ∗ sp c false 1 15 ∗ sp c false 1 16)
      ⊢ (iprop((L4 fun b j => iprop(rp c b j 16 ∗ rp c b j 15)) ∗ (L4 fun b j => iprop(slotAt c b 15 j ∗ slotAt c b 16 j)) ∗ (L4 fun b j => iprop(sp c b j 16 ∗ sp c b j 15))) : sProp 𝕄) from by
    rw [L4_sep, L4_sep]
    unfold L4
    iintro ⟨⟨⟨⟨A, A'⟩, B, C, C'⟩, ⟨D, D'⟩, E, F, F'⟩, ⟨⟨G, G'⟩, H, I, I'⟩, ⟨J, J'⟩, M, N, N'⟩
    iframe A A' B C C' D D' E F F' G G' H I I' J J' M N N') $$ HL
  icases HL' with ⟨HaR, Hsl, HaS⟩
  ihave Hcc := (slots_fin c) $$ Hsl
  icases Hcc with ⟨Hc1, Hc2⟩
  ihave Hc := (c_join c true) $$ Hc1
  ihave Hc' := (c_join c false) $$ Hc2
  ihave Hy' := (y_join c) $$ Hy
  unfold runs
  rw [wp_ret]
  imod (close_all xs ws K c) $$ [HaB HaS HaR HaX HaO HaOr HaO' HaOr'] with Hz
  · isplitr; · iexact HE
    iapply (Entails.of_eq ((show (atAll c (endR c) : sProp 𝕄) = _ from ck_eq c fun k => atPos ER (cell c k) (endR c k) ∅ 0)).symm)
    isplitl [HaB]; · iexact HaB
    isplitl [HaS]; · iexact HaS
    isplitl [HaR]; · iexact HaR
    isplitl [HaX]; · iexact HaX
    rw [end_st, end_st, ← stRest_end, ← stRest_end]
    iframe HaO HaOr HaO' HaOr'
  imodintro
  iapply Hk
  unfold Stop bufs
  isplitl [HX]; · iexact HX
  isplitl [Hy' Hc Hc' Hq Hq' Hax]
  · isplitl [Hy']; · iexact Hy'
    isplitl [Hc]; · iexact Hc
    isplitl [Hc']; · iexact Hc'
    isplitl [Hq]
    · iexists Z; unfold qO; iapply (Entails.of_eq (owns_rQ c (qM true) fullShare Z).symm); iexact Hq
    isplitl [Hq']
    · iexists Z'; unfold qO; iapply (Entails.of_eq (owns_rQ c (qM false) fullShare Z').symm); iexact Hq'
    iexists _; iexact Hax
  isplitl [Ho Ho']; · iframe Ho Ho'
  iframe Hz HO

end Cert.Slice
-- ==== Proof.Deal.lean ====
module

public import proofs.«01_k».proof.Proof.Body

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (xs : Dev nD → Vec F S4096x256 .f32) (ws : Dev nD → Vec F S256x2048 .f32)

variable (K : Dev nD × CK → ℕ)

/-! ## The tokens a device pays with -/

/-- The duties a device pays: its two barrier signals, its hops' two ends, the exchange's two ends, its copies out. -/
abbrev TI := Bool ⊕ ((Bool × Fin 2 × Fin 15) ⊕ ((Bool × Fin 2 × Fin 15) ⊕ (Fin 16 ⊕ (Fin 16 ⊕ Bool))))

/-- The part, the device and the round of a duty. -/
def tokD (c : Dev nD) : TI → Dev nD × CK × ℕ × Bool
  | .inl b => (nx (!b) c, .bar, 0, b)
  | .inr (.inl (b, j, n)) => (c, .snd b (sl n.val) j, n.val / 2, false)
  | .inr (.inr (.inl (b, j, n))) => (nx b c, .rcv b (sl n.val) j, n.val / 2, false)
  | .inr (.inr (.inr (.inl p))) => (c, .axs p, 0, false)
  | .inr (.inr (.inr (.inr (.inl p)))) => (ringDev p, .axr (pos c), 0, false)
  | .inr (.inr (.inr (.inr (.inr b)))) => (c, .st (ch b (pos c) 15) b, 0, false)
/-- The token of a duty, as the launch mints it. -/
def tokOf (x : Dev nD × TI) : GSem nD τ sig × ℕ × Bool :=
  (cell (tokD x.1 x.2).1 (tokD x.1 x.2).2.1, (tokD x.1 x.2).2.2.1, (tokD x.1 x.2).2.2.2)

theorem sl_half_inj {n n' : Fin 15} (h : sl n.val = sl n'.val) (h' : n.val / 2 = n'.val / 2) : n = n' := by
  have := congrArg Fin.val h
  have e : n.val % 2 = n'.val % 2 := this
  exact Fin.ext (by omega)

theorem tokD_inj (c c' : Dev nD) (t t' : TI) (h : tokD c t = tokD c' t') : (c, t) = (c', t') := by
  rcases t with b | ⟨b, j, n⟩ | ⟨b, j, n⟩ | p | p | b <;> rcases t' with b' | ⟨b', j', n'⟩ | ⟨b', j', n'⟩ | p' | p' | b' <;>
    simp only [tokD, Prod.mk.injEq, CK.snd.injEq, CK.rcv.injEq, CK.axs.injEq, CK.axr.injEq, CK.st.injEq, reduceCtorEq, false_and, and_false, true_and, and_true] at h
  · obtain ⟨h, rfl⟩ := h
    rw [(nxEquiv (!b)).injective h]
  · obtain ⟨rfl, ⟨rfl, h1, rfl⟩, h2⟩ := h
    rw [sl_half_inj h1 h2]
  · obtain ⟨h, ⟨rfl, h1, rfl⟩, h2⟩ := h
    rw [sl_half_inj h1 h2, (nxEquiv b).injective h]
  · obtain ⟨rfl, rfl⟩ := h; rfl
  · obtain ⟨h, h'⟩ := h
    rw [posEquiv.injective h', posEquiv.symm.injective h]
  · obtain ⟨rfl, -, rfl⟩ := h; rfl

theorem tokOf_inj : Function.Injective tokOf := fun x y h => by
  obtain ⟨h1, h2⟩ := Prod.mk.inj h
  obtain ⟨h2, h3⟩ := Prod.mk.inj h2
  obtain ⟨h1, h4⟩ := cell_inj h1
  exact tokD_inj x.1 y.1 x.2 y.2 (Prod.ext h1 (Prod.ext h4 (Prod.ext h2 h3)))

theorem cellOn_inj : Function.Injective fun x : Dev nD × CK => cell x.1 x.2 := fun x y h => Prod.ext (cell_inj h).1 (cell_inj h).2

/-- The cells and the tokens of the launch. -/
def allCells : Finset (GSem nD τ sig) := Finset.univ.map ⟨fun x : Dev nD × CK => cell x.1 x.2, cellOn_inj⟩
def allToks : Finset (GSem nD τ sig × ℕ × Bool) := Finset.univ.map ⟨tokOf, tokOf_inj⟩
/-- The launch element: the pipeline's copy and this protocol's. -/
def u₀ : UU := (initOf (Pipeline.cells cfgs cellOf_inj) (Pipeline.launchToks cfgs cellOf_inj), initOf allCells allToks)

/-- A device's tokens as minted. -/
def toks0 (c : Dev nD) : sProp 𝕄 := bigSep Finset.univ fun t : TI => dutyTok ER (tokOf (c, t)).1 (tokOf (c, t)).2.1 (tokOf (c, t)).2.2

theorem lane15_eq (Φ : Bool → Fin 2 → Fin 15 → sProp 𝕄) :
    (bigSep Finset.univ fun x : Bool × Fin 2 × Fin 15 => Φ x.1 x.2.1 x.2.2 : sProp 𝕄) = L4 fun b j => bigSep Finset.univ fun n => Φ b j n := by
  rw [bigSep_univ_prod, bigSep_univ_eq_bigSepL [true, false] (by decide) (by decide), bigSepL_cons_cons, bigSepL_singleton,
    bigSep_univ_prod, bigSep_univ_prod, bigSep_univ_eq_bigSepL [(0 : Fin 2), 1] (by decide) (by decide), bigSep_univ_eq_bigSepL [(0 : Fin 2), 1] (by decide) (by decide),
    bigSepL_cons_cons, bigSepL_singleton, bigSepL_cons_cons, bigSepL_singleton]
  unfold L4
  show iprop(((bigSep Finset.univ fun n => Φ true 0 n) ∗ bigSep Finset.univ fun n => Φ true 1 n) ∗ (bigSep Finset.univ fun n => Φ false 0 n) ∗ bigSep Finset.univ fun n => Φ false 1 n) = _
  refine sp_ext ?_ ?_
  · iintro ⟨⟨A, B⟩, C, D⟩; iframe A B C D
  · iintro ⟨⟨A, C⟩, B, D⟩; iframe A B C D

/-- The minted tokens are the ones the device pays with. -/
theorem toks0_elim (c : Dev nD) : (toks0 c : sProp 𝕄) ⊢ toks c := by
  unfold toks0 toks
  rw [bigSep_univ_sum, bigSep_univ_sum, bigSep_univ_sum, bigSep_univ_sum, bigSep_univ_sum]
  show iprop((bigSep Finset.univ fun b : Bool => dutyTok ER (cell (nx (!b) c) .bar) 0 b)
      ∗ (bigSep Finset.univ fun x : Bool × Fin 2 × Fin 15 => dutyTok ER (cell c (.snd x.1 (sl x.2.2.val) x.2.1)) (x.2.2.val / 2) false)
      ∗ (bigSep Finset.univ fun x : Bool × Fin 2 × Fin 15 => dutyTok ER (cell (nx x.1 c) (.rcv x.1 (sl x.2.2.val) x.2.1)) (x.2.2.val / 2) false)
      ∗ (bigSep Finset.univ fun p : Fin 16 => dutyTok ER (cell c (.axs p)) 0 false)
      ∗ (bigSep Finset.univ fun p : Fin 16 => dutyTok ER (cell (ringDev p) (.axr (pos c))) 0 false)
      ∗ bigSep Finset.univ fun b : Bool => dutyTok ER (cell c (.st (ch b (pos c) 15) b)) 0 false) ⊢ _
  rw [lane15_eq fun b j n => dutyTok ER (cell c (.snd b (sl n.val) j)) (n.val / 2) false,
    lane15_eq fun b j n => dutyTok ER (cell (nx b c) (.rcv b (sl n.val) j)) (n.val / 2) false,
    bigSep_univ_eq_bigSepL [true, false] (by decide) (by decide), bigSepL_cons_cons, bigSepL_singleton,
    bigSep_univ_eq_bigSepL [true, false] (by decide) (by decide), bigSepL_cons_cons, bigSepL_singleton]
  show iprop((dutyTok ER (cell (nx false c) .bar) 0 true ∗ dutyTok ER (cell (nx true c) .bar) 0 false)
      ∗ (L4 fun b j => bigSep Finset.univ fun n : Fin 15 => dutyTok ER (cell c (.snd b (sl n.val) j)) (n.val / 2) false)
      ∗ (L4 fun b j => bigSep Finset.univ fun n : Fin 15 => dutyTok ER (cell (nx b c) (.rcv b (sl n.val) j)) (n.val / 2) false)
      ∗ (bigSep Finset.univ fun p : Fin 16 => dutyTok ER (cell c (.axs p)) 0 false)
      ∗ (bigSep Finset.univ fun p : Fin 16 => dutyTok ER (cell (ringDev p) (.axr (pos c))) 0 false)
      ∗ dutyTok ER (cell c (.st (ch true (pos c) 15) true)) 0 false ∗ dutyTok ER (cell c (.st (ch false (pos c) 15) false)) 0 false) ⊢ _
  have hl : iprop((L4 fun b j => bigSep Finset.univ fun n : Fin 15 => dutyTok ER (cell c (.snd b (sl n.val) j)) (n.val / 2) false)
      ∗ (L4 fun b j => bigSep Finset.univ fun n : Fin 15 => dutyTok ER (cell (nx b c) (.rcv b (sl n.val) j)) (n.val / 2) false))
      = (L4 fun b j => bigSep Finset.univ fun n : Fin 15 => tok c b j n.val : sProp 𝕄) := by
    rw [L4_sep]; exact congrArg L4 (funext fun b => funext fun j => (bigSep_sep' _ _ _).symm)
  have hx : iprop((bigSep Finset.univ fun p : Fin 16 => dutyTok ER (cell c (.axs p)) 0 false)
      ∗ (bigSep Finset.univ fun p : Fin 16 => dutyTok ER (cell (ringDev p) (.axr (pos c))) 0 false))
      ⊢ (bigSep Finset.univ fun p => exTok (F := F) c p : sProp 𝕄) := by
    rw [← bigSep_sep']
    refine bigSep_mono fun p _ => ?_
    unfold exTok
    split
    · show iprop(dutyTok ER (cell c (.axs p)) 0 false ∗ dutyTok ER (cell (ringDev p) (.axr (pos c))) 0 false) ⊢ (iprop(emp) : sProp 𝕄)
      iintro ⟨-, -⟩; iempintro
    · exact BI.Entails.refl _
  iintro ⟨HB, HS, HR, HA, HA', HO⟩
  isplitl [HB]; · iexact HB
  isplitl [HS HR]
  · iapply (Entails.of_eq hl); iframe HS HR
  isplitl [HA HA']
  · iapply hx; iframe HA HA'
  iexact HO

/-! ## The launch's cells, and the deal -/

/-- The kernel's own semaphores: all but the barrier. -/
abbrev OI := (Bool × Fin 2 × Fin 2) ⊕ ((Bool × Fin 2 × Fin 2) ⊕ (Fin 16 ⊕ (Fin 16 ⊕ (Fin 16 × Bool))))
def osem (o : OI) : SemLoc sig := csem (ckEquiv (.inr o))

theorem osem_inj : Function.Injective osem := fun a b h => Sum.inr.inj (ckEquiv.injective (csem_inj h))
theorem nm_stage : ∀ (w : Fin 2) (s : Fin (spec0 w).nbuf), nm (.dma ((spec0 w).sem s)) = none := by decide
theorem osem_scoped : ∀ o : OI, (osem o).isScoped .tc = true := by
  intro o
  have hd : ∀ s : DmaSem sig, (SemLoc.dma s : SemLoc sig).isScoped .tc = true := by decide
  rcases o with ⟨b, i, j⟩ | ⟨b, i, j⟩ | p | p | ⟨k, b⟩ <;> exact hd _
theorem ownSemFacts : Pipeline.OwnSemFacts cfg0.spec osem where
  isScoped := osem_scoped
  inj := osem_inj
  disj o w s h := by
    have h' : nm (osem o) = nm (.dma ((spec0 w).sem s)) := congrArg nm h
    rw [nm_stage w s] at h'
    unfold osem at h'; rw [nm_csem] at h'
    exact absurd h' (by simp)

theorem unscopedSems0_eq (c : Dev nD) : (unscopedSems0 c : sProp 𝕄) = semVal (cell c .bar) 0 := by
  unfold unscopedSems0; rw [bigSep_eq_bigSepL_of_eq [SemLoc.reg barS] (by decide) (by decide)]; rfl
/-- All of a device's counters at zero. -/
theorem sems_eq (c : Dev nD) : (bigSep Finset.univ fun k => semVal (cell c k) 0 : sProp 𝕄)
    = iprop(unscopedSems0 c ∗ Pipeline.ownSems0 (Ix := ℕ) (Name := ℕ) (U := UU) (Lvl := ℕ) (Val := Elt F) (τ := τ) osem c) := by
  rw [unscopedSems0_eq, bigSep_univ_equiv ckEquiv fun k => (semVal (cell c k) 0 : sProp 𝕄), bigSep_univ_sum,
    show (bigSep Finset.univ fun a : Unit => semVal (cell c (ckEquiv (Sum.inl a))) 0 : sProp 𝕄) = semVal (cell c .bar) 0 from
      (bigSep_univ_eq_bigSepL [()] (by decide) (by decide) _).trans (bigSepL_singleton _ _)]
  rfl

/-- What the launch element deals device `c`, -/
def G (c : Dev nD) : sProp 𝕄 :=
  iprop((bigSep Finset.univ fun k => roundState ER (Rd xs ws) (cell c k) 0)
    ∗ ((bigSep Finset.univ fun k => atPos ER (cell c k) 0 ∅ 0) ∗ bigSep Finset.univ fun k => reached ER (cell c k) 0) ∗ toks0 c)
/-- what every device knows but the levels, -/
def Recs (K : Dev nD × CK → ℕ) : sProp 𝕄 :=
  iprop((bigSep Finset.univ fun x : Dev nD × CK => cellInv ER (Rd xs ws) (K x) (cell x.1 x.2))
    ∗ (bigSep Finset.univ fun x : Dev nD × CK => reached ER (cell x.1 x.2) 0))
instance Recs_persistent (K : Dev nD × CK → ℕ) : BI.Persistent (Recs xs ws K) := by unfold Recs; infer_instance
/-- and what the global step makes of it. -/
def G' (c : Dev nD) : sProp 𝕄 := iprop(∃ K, Recs xs ws K ∗ atAll c (fun _ => 0) ∗ toks c)

theorem fund_all : BI.own (ER (initOf allCells allToks)) ⊢ (|==> bigSep Finset.univ (G xs ws) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks0 c := by
    unfold allToks; rw [bigSep_map, bigSep_univ_prod]; rfl
  iintro HX
  imod (Rounds.fund ER (Rd xs ws) allCells allToks) $$ HX with ⟨Hst, Hr, Hat, Htok⟩
  imodintro
  ihave Hst' := (Entails.of_eq (hX fun g => roundState ER (Rd xs ws) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k => iprop(∃ κ : ℕ, cellInv ER (Rd xs ws) κ (cell c k)))
          ∗ (bigSep Finset.univ fun k => reached ER (cell c k) 0) ∗ atAll c (fun _ => 0) ∗ toks c) := by
  unfold G atAll
  iintro ⟨Hos, Hus, Hst, ⟨Hat, Hr⟩, Htok⟩
  ihave Hv := (Entails.of_eq (sems_eq (F := F) c).symm) $$ [Hos Hus]
  · iframe Hus Hos
  ihave Htk := (toks0_elim c) $$ Htok
  imod (show iprop((bigSep Finset.univ fun k : CK => semVal (cell c k) 0) ∗ bigSep Finset.univ fun k : CK => roundState ER (Rd xs ws) (cell c k) 0)
      ⊢ (|={Set.univ}=> bigSep Finset.univ fun k => iprop(∃ κ : ℕ, cellInv ER (Rd xs ws) κ (cell c k)) : sProp 𝕄) from by
        rw [← bigSep_sep']
        exact (bigSep_mono fun k _ => (Rounds.body_intro ER (Rd xs ws) (cell c k)).trans inv_alloc).trans (bigSep_fupd _ _)) $$ [Hv Hst] with Hinv
  · iframe Hv Hst
  imodintro
  iframe Hinv Hr Hat Htk

theorem regroup :
    (bigSep Finset.univ fun c : Dev nD => iprop((bigSep Finset.univ fun k => iprop(∃ κ : ℕ, cellInv ER (Rd xs ws) κ (cell c k)))
          ∗ (bigSep Finset.univ fun k => reached ER (cell c k) 0) ∗ atAll c (fun _ => 0) ∗ toks c) : sProp 𝕄)
      ⊢ bigSep Finset.univ (G' xs ws) := by
  rw [bigSep_sep', bigSep_sep', ← bigSep_univ_prod (fun x : Dev nD × CK => iprop(∃ κ : ℕ, cellInv ER (Rd xs ws) κ (cell x.1 x.2))),
    ← bigSep_univ_prod (fun x : Dev nD × CK => (reached ER (cell x.1 x.2) 0 : sProp 𝕄))]
  iintro ⟨HI, HR, H⟩
  ihave HK := (BI.bigSep_exists_pi Finset.univ (fun (x : Dev nD × CK) (κ : ℕ) => (cellInv ER (Rd xs ws) κ (cell x.1 x.2) : sProp 𝕄))) $$ HI
  icases HK with ⟨%K, HI⟩
  iapply (show iprop(Recs xs ws K ∗ bigSep Finset.univ fun c : Dev nD => iprop(atAll c (fun _ => 0) ∗ toks c)) ⊢ (bigSep Finset.univ (G' xs ws) : sProp 𝕄) from
    (sep_mono_left (BI.bigSep_of_persistent (Finset.univ : Finset (Dev nD)) (Recs xs ws K))).trans (by
      rw [← bigSep_sep']
      refine bigSep_mono fun c _ => ?_
      show iprop(Recs xs ws K ∗ atAll c (fun _ => 0) ∗ toks c) ⊢ G' xs ws c
      unfold G'
      iintro H; iexists K; iexact H))
  unfold Recs
  iframe HI HR H

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

/-! ## The credits -/

theorem cred_hop (c : Dev nD) (b : Bool) (j : Fin 2) (h : ℕ) : (Pipeline.launchCred (fun d => T1 d b h j) c : sProp 𝕄) ⊢ crR c b j h :=
  Pipeline.launchCred_tallyAt (csem (.rcv b (sl h) j)) (nx b) (nx (!b)) (nx_not b) (nx_not' b) h N1 c

theorem cred_hops (c : Dev nD) : (Pipeline.launchCred (fun d => OB d 0) c : sProp 𝕄) ⊢ L4 fun b j => bigSep Finset.univ fun m : Fin 15 => crR c b j m.val := by
  unfold OB
  rw [Pipeline.launchCred_sum, bigSep_finFrom_zero]
  have h (m : Fin 15) : (Pipeline.launchCred (fun d => OH d m.val) c : sProp 𝕄)
      ⊢ iprop(((crR c false 1 m.val ∗ crR c true 1 m.val) ∗ crR c false 0 m.val) ∗ crR c true 0 m.val) := by
    unfold OH
    rw [Pipeline.launchCred_add, Pipeline.launchCred_add, Pipeline.launchCred_add]
    exact Laws.sep_mono (Laws.sep_mono (Laws.sep_mono (cred_hop c false 1 m.val) (cred_hop c true 1 m.val)) (cred_hop c false 0 m.val)) (cred_hop c true 0 m.val)
  refine (bigSep_mono fun m _ => h m).trans ?_
  rw [bigSep_sep', bigSep_sep', bigSep_sep']
  unfold L4
  show _ ⊢ iprop(((bigSep Finset.univ fun m : Fin 15 => crR c true 0 m.val) ∗ bigSep Finset.univ fun m : Fin 15 => crR c false 0 m.val)
    ∗ (bigSep Finset.univ fun m : Fin 15 => crR c true 1 m.val) ∗ bigSep Finset.univ fun m : Fin 15 => crR c false 1 m.val)
  iintro ⟨⟨⟨A, B⟩, C⟩, D⟩; iframe A B C D

/-- What the exchange brings a device. -/
def TX (c : Dev nD) : CellTallies nD τ sig ℕ := ∑ p : Fin 16, if p = pos c then 0 else tallyAt (cell c (.axr p)) 0 N2
theorem sum_TX : (∑ d : Dev nD, OA d 0) = ∑ d : Dev nD, TX d := by
  have h1 (d : Dev nD) : OA d 0 = ∑ e : Dev nD, if pos e = pos d then 0 else tallyAt (cell e (.axr (pos d))) 0 N2 := by
    unfold OA
    rw [show finFrom 16 0 = Finset.univ from finFrom_zero, ← Equiv.sum_comp posEquiv]
    exact Finset.sum_congr rfl fun e _ => by
      unfold T2
      rw [show posEquiv e = pos e from rfl, dev_pos]
  have h2 (d : Dev nD) : TX d = ∑ e : Dev nD, if pos e = pos d then 0 else tallyAt (cell d (.axr (pos e))) 0 N2 := by
    unfold TX
    rw [← Equiv.sum_comp posEquiv]; rfl
  rw [Finset.sum_congr rfl fun d _ => h1 d, Finset.sum_congr rfl fun d _ => h2 d, Finset.sum_comm]
  exact Finset.sum_congr rfl fun e _ => Finset.sum_congr rfl fun d _ => by
    by_cases h : pos e = pos d
    · rw [if_pos h, if_pos h.symm]
    · rw [if_neg h, if_neg fun h' => h h'.symm]
theorem TX_core (d : Dev nD) (g : GSem nD τ sig) (h : TX d g ≠ 0) : g.1 = (d.tc : Thread nD τ) := by
  unfold TX at h
  rw [Finset.sum_apply] at h
  obtain ⟨p, -, hp⟩ := Finset.exists_ne_zero_of_sum_ne_zero h
  split at hp
  · exact absurd rfl hp
  · by_contra hne
    exact hp (tallyAt_ne_cell (fun e => hne (congrArg Prod.fst e)) 0 N2)

theorem cred_exch (c : Dev nD) : (Pipeline.launchCred (fun d => OA d 0) c : sProp 𝕄) ⊢ bigSep Finset.univ fun p => exCr (F := F) c p := by
  rw [Pipeline.launchCred_of_sum _ TX sum_TX TX_core]
  unfold TX
  rw [Pipeline.cred_finsetSum]
  refine bigSep_mono fun p _ => ?_
  unfold exCr
  split
  · show (cred 0 : sProp 𝕄) ⊢ iprop(emp)
    iintro -; iempintro
  · exact BI.Entails.refl _

theorem creds (c : Dev nD) : (Pipeline.launchCred O₀ c : sProp 𝕄) ⊢ crs c := by
  unfold O₀ OW crs
  rw [Pipeline.launchCred_add, Pipeline.launchCred_add, Pipeline.launchCred_add]
  iintro ⟨⟨⟨HA, HB⟩, H1⟩, H2⟩
  ihave H1' := (show (Pipeline.launchCred (fun d => tallyAt (cell (nx true d) .bar) 0 1) c : sProp 𝕄) ⊢ cred (tallyAt (cell c .bar) 0 1) from
    Pipeline.launchCred_tallyAt (csem .bar) (nx true) (nx false) (nx_not true) (nx_not' true) 0 1 c) $$ H1
  ihave H2' := (show (Pipeline.launchCred (fun d => tallyAt (cell (nx false d) .bar) 0 1) c : sProp 𝕄) ⊢ cred (tallyAt (cell c .bar) 0 1) from
    Pipeline.launchCred_tallyAt (csem .bar) (nx false) (nx true) (nx_not false) (nx_not' false) 0 1 c) $$ H2
  ihave HA' := (cred_exch c) $$ HA
  ihave HB' := (cred_hops c) $$ HB
  isplitl [H1' H2']
  · iapply (show iprop(cred (tallyAt (cell c .bar) 0 1) ∗ cred (tallyAt (cell c .bar) 0 1)) ⊢ (cred (tallyAt (cell c .bar) 0 2) : sProp 𝕄) from by
      rw [show (tallyAt (cell c .bar) 0 2 : CellTallies nD τ sig ℕ) = tallyAt (cell c .bar) 0 1 + tallyAt (cell c .bar) 0 1 from by
        unfold tallyAt; rw [← tallyOn_add, ← Finsupp.single_add]]
      exact (cred_add _ _).2)
    iframe H1' H2'
  iframe HB' HA'

end Cert.Slice
-- ==== Proof.ProgEq.lean ====
module

public import proofs.«01_k».proof.Proof.Prog
public import Idealize.ShloMosaic.Lib.Pipeline.Regions
public import Idealize.ShloMosaic.Lib.Tactic

@[expose] public section

noncomputable section

namespace Cert.Slice

open Idealize.ShloMosaic Idealize.ShloMosaic.TcCoe Idealize.SL.Sem
open Cert.KernelIdeal Cert.KernelIdeal.Gen

variable {F : FTy → Type} [FloatOps F]

/-- The word the printed waits test: position `n` is not the device's own. -/
def neW (v n : BitVec 32) : BitVec 1 := Scalar.cmpi .ne (Scalar.extui (Scalar.cmpi .ne v n) : BitVec 32) 0#32
/-- One step back round the ring, as a word. -/
def prevW (v c : BitVec 32) : BitVec 32 :=
  let m : BitVec 32 := Scalar.select (Scalar.cmpi .eq 16#32 0#32) 1#32 16#32
  let r : BitVec 32 := Scalar.remsi (Scalar.subi v c) m
  Scalar.select (Scalar.andi (Scalar.xori (Scalar.cmpi .slt r 0#32) (Scalar.cmpi .slt m 0#32)) (Scalar.cmpi .ne r 0#32)) (Scalar.addi r m) r

theorem part177 (a0 : Memref sig .tc .vmem S4096x256 .f32) (h0 : a0.IsWhole) (a1 : Memref sig .tc .vmem S256x2048 .f32) (h1 : a1.IsWhole) (d : Dev nD) (v : BitVec 32) (x₁ x₂ x₃ x₄ : F .f32) (c : BitVec 32) :
    k0_part177 (F := F) a0 h0 a1 h1 (Memref.whole main_v1_0) (Memref.isWhole_whole _) (Memref.whole main_v1_1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 d v x₁ x₂ x₃ x₄ c =
      (ownMaxP d (ownMaxV x₁ x₂ x₃ x₄) <| axSendP (F := F) 0 d <| axSendP (F := F) 1 d <| axSendP (F := F) 2 d <| axSendP (F := F) 3 d <| axSendP (F := F) 4 d <|
      .ret ⟨prevW v c, Scalar.cmpi .ne v 5#32⟩) := by
  rw [k0_part177_eq_skeleton]; unfold k0_part177_skel
  sl_kernel_rfl

theorem part178 (a0 : Memref sig .tc .vmem S4096x256 .f32) (h0 : a0.IsWhole) (a1 : Memref sig .tc .vmem S256x2048 .f32) (h1 : a1.IsWhole) (d : Dev nD) (v : BitVec 32) (c : BitVec 1) :
    k0_part178 (F := F) a0 h0 a1 h1 (Memref.whole main_v1_0) (Memref.isWhole_whole _) (Memref.whole main_v1_1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 d v c =
      (axSendP (F := F) 5 d <| axSendP (F := F) 6 d <| axSendP (F := F) 7 d <| axSendP (F := F) 8 d <| axSendP (F := F) 9 d <| axSendP (F := F) 10 d <| axSendP (F := F) 11 d <| axSendP (F := F) 12 d <| axSendP (F := F) 13 d <| axSendP (F := F) 14 d <|
      .ret (Scalar.cmpi .ne v 15#32)) := by
  rw [k0_part178_eq_skeleton]; unfold k0_part178_skel
  sl_kernel_rfl

theorem part179 (a0 : Memref sig .tc .vmem S4096x256 .f32) (h0 : a0.IsWhole) (a1 : Memref sig .tc .vmem S256x2048 .f32) (h1 : a1.IsWhole) (d : Dev nD) (v : BitVec 32) (c : BitVec 1) :
    k0_part179 (F := F) a0 h0 a1 h1 (Memref.whole main_v1_0) (Memref.isWhole_whole _) (Memref.whole main_v1_1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 d v c =
      (axSendP (F := F) 15 d <|
      axWaitP (F := F) 0 (neW v 0#32) <|
      axWaitP (F := F) 1 (neW v 1#32) <|
      axWaitP (F := F) 2 (neW v 2#32) <|
      axWaitP (F := F) 3 (neW v 3#32) <|
      axWaitP (F := F) 4 (neW v 4#32) <|
      axWaitP (F := F) 5 (neW v 5#32) <|
      axWaitP (F := F) 6 (neW v 6#32) <|
      axWaitP (F := F) 7 (neW v 7#32) <|
      axWaitP (F := F) 8 (neW v 8#32) <|
      .ret (Scalar.cmpi .ne v 9#32)) := by
  rw [k0_part179_eq_skeleton]; unfold k0_part179_skel
  sl_kernel_rfl

theorem part180 (a0 : Memref sig .tc .vmem S4096x256 .f32) (h0 : a0.IsWhole) (a1 : Memref sig .tc .vmem S256x2048 .f32) (h1 : a1.IsWhole) (d : Dev nD) (v e : BitVec 32) (c : BitVec 1) :
    k0_part180 (F := F) a0 h0 a1 h1 (Memref.whole main_v1_0) (Memref.isWhole_whole _) (Memref.whole main_v1_1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 d v e c =
      (axWaitP (F := F) 9 (Scalar.cmpi .ne (Scalar.extui c : BitVec 32) 0#32) <|
      axWaitP (F := F) 10 (neW v 10#32) <|
      axWaitP (F := F) 11 (neW v 11#32) <|
      axWaitP (F := F) 12 (neW v 12#32) <|
      axWaitP (F := F) 13 (neW v 13#32) <|
      axWaitP (F := F) 14 (neW v 14#32) <|
      axWaitP (F := F) 15 (neW v 15#32) <|
      .op (.load axM (Rect.unit (s := S16x8x128) ![0, 0, 0] S16x8x128.size inb_S16x8x128_S16x8x128_0_0_0).toLoadRect (View.loadsAt_vmem h_S16x8x128)) fun w =>
      .op (.load yM (rO true d).toLoadRect (View.loadsAt_vmem h_S256x1024)) fun y => .ret ⟨k0_pay132 w, k0_pay133 w, k0_pay134 w y⟩) := by
  rw [k0_part180_eq_skeleton]; unfold k0_part180_skel
  sl_kernel_rfl

set_option maxHeartbeats 0 in
set_option maxRecDepth 100000 in
/-- The printed body is the program the proofs speak of. -/
theorem body_eq (a0 : Memref sig .tc .vmem S4096x256 .f32) (h0 : a0.IsWhole) (a1 : Memref sig .tc .vmem S256x2048 .f32) (h1 : a1.IsWhole) :
    cc0_body (F := F) a0 h0 a1 h1 (Memref.whole main_v1_0) (Memref.isWhole_whole _) (Memref.whole main_v1_1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 = bodyP a0 a1 := by
  rw [cc0_body_eq_skeleton]
  unfold cc0_body_skel
  rw [k0_part184_eq_skeleton]
  unfold k0_part184_skel
  simp only [part177, part178, part179, part180]
  simp only [bind_assoc, pure_bind, ownMaxP_bind, axSendP_bind, axWaitP_bind]
  sl_kernel_rfl

end Cert.Slice
-- ==== Proof.Run.lean ====
module

public import proofs.«01_k».proof.Proof.Deal
public import Idealize.ShloMosaic.Lib.Pipeline.CollectiveSegs
public import proofs.«01_k».proof.Proof.ProgEq
public import proofs.«01_k».proof.Proof.Gen.KernelIdeal.Points

@[expose] public section

noncomputable section

namespace Cert.Slice

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The machine at the launch: the memory handed over, the counters at zero. -/
abbrev s₀ : MemSt nD τ sig (Elt F) := ⟨m, fun _ => 0, ρ⟩
/-- The blocks of the two operands a device is handed. -/
def xsM (c : Dev nD) : Vec F S4096x256 .f32 := (win0_0.blk (0 : Fin 1)).view.read (Elt F) (m ((c : Thread nD τ).loc main_arg0))
def wsM (c : Dev nD) : Vec F S256x2048 .f32 := (win0_1.blk (0 : Fin 1)).view.read (Elt F) (m ((c : Thread nD τ).loc main_arg1))

/-- What a device's body starts from, but its operands, its scratch and its debt, -/
def start (c : Dev nD) : sProp 𝕄 :=
  iprop((∃ K, Env (xsM m) (wsM m) K) ∗ ((∃ X, owns (c : Thread nD τ) (oM true) fullShare X) ∗ (∃ X, owns (c : Thread nD τ) (oM false) fullShare X))
    ∗ toks c ∗ crs c ∗ atAll c (fun _ => 0))
def Φ₀ (c : Dev nD) : sProp 𝕄 := iprop(start m c ∗ bufs c)
/-- its results, -/
def outs (c : Dev nD) : sProp 𝕄 :=
  iprop(owns (c : Thread nD τ) (oM true) fullShare (outV (xsM m) (wsM m) true c) ∗ owns (c : Thread nD τ) (oM false) fullShare (outV (xsM m) (wsM m) false c))
/-- and what it ends with. -/
def Φ₁ (c : Dev nD) : sProp 𝕄 := iprop(bufs c ∗ outs m c ∗ bigSep Finset.univ fun k => semVal (cell c k) 0)

/-- The proof data of the call: both windows are operands, the invariant and the debt at its two ends. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xsM m c
    | ⟨1, _⟩ => wsM m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem before_x (c : Dev nD) (d : S4096x256.Idx → Elt F .f32) : (dats m ρ 0 c).before (0 : Fin 2) t₀ d = xsM m c := by
  unfold Dat.before; rw [if_pos (fetch0_0 t₀)]; rfl
theorem before_w (c : Dev nD) (d : S256x2048.Idx → Elt F .f32) : (dats m ρ 0 c).before (1 : Fin 2) t₀ d = wsM m c := by
  unfold Dat.before; rw [if_pos (fetch0_1 t₀)]; rfl

/-- The body from the call's invariant to its end, its operands staged anywhere. -/
theorem body_runs (c : Dev nD) (aM : Memref sig .tc .vmem S4096x256 .f32) (bM : Memref sig .tc .vmem S256x2048 .f32) :
    iprop(Φ₀ m c ∗ (dats m ρ 0 c).owesAt 0 t₀.castSucc
      ∗ owns (c : Thread nD τ) aM fullShare (xsM m c) ∗ owns (c : Thread nD τ) bM fullShare (wsM m c))
    ⊢ runs c (bodyP aM bM) fun _ => iprop(Φ₁ m c ∗ (dats m ρ 0 c).owesAt 0 t₀.succ
      ∗ owns (c : Thread nD τ) aM fullShare ((dats m ρ 0 c).after 0 t₀) ∗ owns (c : Thread nD τ) bM fullShare ((dats m ρ 0 c).after 1 t₀)) := by
  rw [show (dats m ρ 0 c).after 0 t₀ = xsM m c from rfl, show (dats m ρ 0 c).after 1 t₀ = wsM m c from rfl]
  unfold Φ₀ start Dat.owesAt Pipeline.owesWithin
  rw [show (dats m ρ 0 c).owed t₀.castSucc = O₀ c from rfl, show (dats m ρ 0 c).owed t₀.succ = 0 from rfl]
  iintro ⟨⟨⟨⟨%K, #HE⟩, Hout, Htok, Hcr, Hat⟩, Hbuf⟩, ⟨%W, %hW, HO⟩, Hx, Hw⟩
  iapply (body_step (xsM m) (wsM m) K aM bM c) $$ [Hout Htok Hcr Hat Hbuf HO Hx Hw]
  · isplitr; · iexact HE
    unfold Start XW owesE
    isplitl [Hx Hw]; · iframe Hx Hw
    iframe Hbuf Hout Htok Hcr Hat
    iexists W; iexact HO
  unfold Stop XW owesE Φ₁ outs
  iintro ⟨⟨Hx, Hw⟩, Hbuf, Hout, Hs, ⟨%W', HO⟩⟩
  isplitl [Hbuf Hout Hs]; · iframe Hbuf Hout Hs
  isplitl [HO]
  · iexists W'
    isplitr
    · ipureintro; exact fun _ _ => Or.inl trivial
    iexact HO
  iframe Hx Hw

set_option maxRecDepth 40000 in
/-- The body meets what the pipeline asks of it. -/
theorem body_obligation (c : Dev nD) : BodyObligation (dats (F := F) m ρ 0 c) (defs₀ (F := F)) 𝒱₀ 0 Set.univ := fun t => by
  rw [fin_N t, bigSep_W0, bigSep_W0]
  rw [show defs₀ (F := F) Proc.tc cfg0.body (cfg0.bodyArgs t₀ (cfg0.slots t₀)) = bodyAt0 t₀ from rfl]
  unfold bodyAt0
  rw [body_eq]
  rw [show cfg0.idle (0 : Fin 2) (cfg0.grid.coords t₀) = false from rfl]
  dsimp only []
  rw [show (dats m ρ 0 c).Φ t₀.castSucc = Φ₀ m c from rfl, show (dats m ρ 0 c).Φ t₀.succ = Φ₁ m c from rfl]
  simp only [before_x, before_w]
  have h := body_runs m ρ c (stage0_0 0) (stage0_1 0)
  convert h using 4
  · refine sp_ext ?_ ?_
    · iintro ⟨%d, H⟩; iexact H
    · iintro H; iexists (xsM m c); iexact H
  · refine sp_ext ?_ ?_
    · iintro ⟨%d, H⟩; iexact H
    · iintro H; iexists (wsM m c); iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xsM m) (wsM m) c)
      ⊢ |={Set.univ}=> iprop(start m c ∗ emp) := by
  rw [Pipeline.unscopedRestP_none, unscopedRest0_eq]
  unfold start G' Recs Env
  rw [← owns_whole, ← owns_whole]
  iintro ⟨⟨Ht, Hf⟩, Hlev, Hcr, -, ⟨%K, ⟨HI, HR⟩, Hat, Htok⟩⟩
  ihave Hc := (creds (F := F) c) $$ Hcr
  imodintro
  isplitl
  · isplitl [HI HR Hlev]
    · iexists K; iframe HI HR Hlev
    isplitl [Ht Hf]
    · isplitl [Ht]
      · iexists _; iexact Ht
      · iexists _; iexact Hf
    iframe Htok Hc Hat
  · iempintro

theorem bufs_eq (c : Dev nD) : (Pipeline.scopedRest (Ix := ℕ) (Name := ℕ) (U := UU) (Lvl := ℕ) (Val := Elt F) spec0 c : sProp 𝕄) = bufs c := by
  rw [scopedRest0_eq]
  unfold bufs
  simp only [← owns_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = bufs c from bufs_eq c]
  unfold Φ₀
  iintro ⟨Hs, -, Hr⟩
  iframe Hs Hr

theorem phi1_exit (c : Dev nD) :
    (dats m ρ 0 c).Φ (Fin.last cfg0.N) ⊢ iprop((unscopedSems0 c ∗ outs m c) ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = bufs c from bufs_eq c]
  unfold Φ₁
  rw [sems_eq]
  iintro ⟨Hb, Ho, Hu, Hs⟩
  iframe Hb Ho Hu Hs

theorem waits (c : Dev nD) : (levAts L lv : sProp 𝕄) ⊢ Pipeline.cellsWaits cfgs (dats m ρ) 0 0 c :=
  Pipeline.cellsWaits_intro cfgs (dats m ρ) 0 0 c fun w s t =>
    mayWait (k := 0) c _ 0 (by omega) (le_of_eq (congrArg (lvK 0) (nm_stage w s))) (by
      rcases t with ⟨_ | _, ht⟩
      · exact above_O₀ c
      · exact Above.zero 0)

/-- What a device's memory shows after the run. -/
def QD (c : Dev nD) (s : MemSt nD τ sig (Elt F)) : Prop :=
  (∀ sm : SemLoc sig, sm.isScoped .tc = false → s.sem ((c.tc : Thread nD τ), sm) = 0)
    ∧ s.mem ((c : Thread nD τ).loc main_v1_0) = outV (xsM m) (wsM m) true c ∧ s.mem ((c : Thread nD τ).loc main_v1_1) = outV (xsM m) (wsM m) false c

theorem read_whole (c : Dev nD) (b : Ref sig .tc) (X : b.ty.Contents (Elt F)) (s : Phys nD τ sig (Elt F)) :
    iprop(SI s ∗ owns (c : Thread nD τ) (Memref.whole b) fullShare X) ⊢ (iprop(⌜s.mem.mem ((c : Thread nD τ).loc b) = X⌝) : sProp 𝕄) := by
  rw [owns_whole]
  refine SI_pointsTo_agree.trans ?_
  iintro %h
  ipureintro
  exact funext fun i => h i (Finset.mem_univ i)

set_option maxRecDepth 40000 in
/-- Every weakly fair execution ends, with both operands as they were, both results at the values computed, and
    every counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1_0) = outV (xsM m) (wsM m) true c ∧ r.2.mem ((c : Thread nD τ).loc main_v1_1) = outV (xsM m) (wsM m) false c)
    ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xsM m) (wsM m)) (G' := G' (xsM m) (wsM m)) (u₀ := u₀)
    (hu₀ := by
      unfold u₀
      iintro Hu
      ihave H := (ownU_pair _ _) $$ Hu
      icases H with ⟨HP, HX⟩
      imod (fund_all (xsM m) (wsM m)) $$ HX with HG
      imodintro
      isplitl [HP] <;> iassumption)
    (hglob := glob (xsM m) (wsM m))
    (hA := fun _ _ => rfl) (hpf := fun _ k => k.elim0)
    (X := start m) (Y := fun c => iprop(unscopedSems0 c ∗ outs m c)) (Z := fun _ => iprop(emp))
    (hX := start_intro m ρ) (hin := phi0_intro m ρ) (hout := phi1_exit m ρ)
    (QY := fun c s => QD m c s)
    (hY := fun c s' => by
      unfold outs QD
      iintro ⟨⟨Hu, Ht, Hf⟩, -, HSI⟩
      ihave %ht := (read_whole c main_v1_0 (outV (xsM m) (wsM m) true c) s') $$ [HSI Ht]
      · iframe HSI Ht
      ihave %hf := (read_whole c main_v1_1 (outV (xsM m) (wsM m) false c) s') $$ [HSI Hf]
      · iframe HSI Hf
      imod (Pipeline.unscopedSems0_read (X := unscopedSems0 c) (c := c) fupd_intro s') $$ [Hu HSI] with ⟨%hu, HSI⟩
      · iframe Hu HSI
      imodintro
      isplitr
      · ipureintro; exact ⟨hu, ht, hf⟩
      iexact HSI)
    (hQ := fun s h hs => ⟨fun c => ⟨((h c).1 (0 : Fin 2)).trans ((dats m ρ 0 c).arrAt_in (0 : Fin 2) rfl _), ((h c).1 (1 : Fin 2)).trans ((dats m ρ 0 c).arrAt_in (1 : Fin 2) rfl _),
      (h c).2.2.2.1, (h c).2.2.2.2⟩, sem_eq_zero hs fun c => (h c).2.2.1⟩)

end Cert.Slice
-- ==== Proof.Quantise.lean ====
module

public import Idealize.ShloMosaic.PureOps.Ideal.Laws

@[expose] public section

noncomputable section

namespace Cert.Quantise

open Idealize.ShloMosaic

/-! ## The quantiser, one entry at a time

`a` is the largest entry, `y` an entry between `0` and `a`. The kernel multiplies by `127 / a`, the reference divides by
`a / 127`; the kernel keeps the code as an 8-bit integer, the reference as a float. -/

theorem c127 : Ideal.ofBits .f32 0x42FE0000#32 = ((127 : ℝ) : EReal) := by
  simp [Ideal.ofBits, Ideal.ieee, -EReal.coe_mul]; norm_num
theorem cm127 : Ideal.ofBits .f32 0xC2FE0000#32 = ((-127 : ℝ) : EReal) := by
  simp [Ideal.ofBits, Ideal.ieee, -EReal.coe_mul, -EReal.coe_neg]; norm_num
theorem cbot : Ideal.ofBits .f32 0xFF800000#32 = ⊥ := by simp [Ideal.ofBits, Ideal.ieee]

theorem cmax (a b : ℝ) : ((max a b : ℝ) : EReal) = max (a : EReal) (b : EReal) := EReal.coe_strictMono.monotone.map_max
theorem cmin (a b : ℝ) : ((min a b : ℝ) : EReal) = min (a : EReal) (b : EReal) := EReal.coe_strictMono.monotone.map_min

/-- A rounded and clipped value. -/
def code (t : EReal) : EReal :=
  min ((127 : ℝ) : EReal) (max ((-127 : ℝ) : EReal) (Ideal.liftRound Ideal.roundHalfEven t))

/-- A code is an integer between `-127` and `127`. -/
theorem code_int (t : EReal) : ∃ n : ℤ, -127 ≤ n ∧ n ≤ 127 ∧ code t = ((n : ℝ) : EReal) := by
  induction t using EReal.rec with
  | bot => exact ⟨-127, le_refl _, by norm_num, by simp [code]; norm_cast⟩
  | top => exact ⟨127, by norm_num, le_refl _, by simp [code]⟩
  | coe r =>
    refine ⟨min 127 (max (-127) (Ideal.roundHalfEven r)), by omega, by omega, ?_⟩
    simp only [code, Ideal.liftRound_coe]
    rw [← cmax, ← cmin]
    push_cast
    rfl

/-- The 8-bit integer made of an integer between `-127` and `127`, read back. -/
theorem toInt_fptosi (n : ℤ) (h₁ : -127 ≤ n) (h₂ : n ≤ 127) : (Ideal.fptosi 8 ((n : ℝ) : EReal)).toInt = n := by
  have e : Ideal.toIntClamped (-(2 ^ (8 - 1) : Nat)) ((2 ^ (8 - 1) : Nat) - 1) ((n : ℝ) : EReal) = n := by
    rw [Ideal.toIntClamped_coe]
    simp only [Int.floor_intCast, Int.ceil_intCast, ite_self]
    norm_num
    omega
  rw [Ideal.fptosi, e, BitVec.toInt_ofInt]
  norm_num [Int.bmod]
  split <;> omega

/-- A code survives being kept as an 8-bit integer. -/
theorem code_back (t : EReal) : (((Ideal.fptosi 8 (code t)).toInt : ℝ) : EReal) = code t := by
  obtain ⟨n, h₁, h₂, e⟩ := code_int t
  rw [e, toInt_fptosi n h₁ h₂]

theorem round_zero : Ideal.roundHalfEven 0 = 0 := by simp [Ideal.roundHalfEven]
theorem code_zero : code 0 = 0 := by
  rw [code, ← EReal.coe_zero, Ideal.liftRound_coe, round_zero, Int.cast_zero, ← cmax, ← cmin]
  norm_num

/-- The kernel's dequantised entry is the reference's. -/
theorem dequant_eq (a y : EReal) (h₀ : 0 ≤ y) (h : y ≤ a) :
    code (y * Ideal.div ((127 : ℝ) : EReal) a) * Ideal.div a ((127 : ℝ) : EReal)
      = code (Ideal.div y (Ideal.div a ((127 : ℝ) : EReal))) * Ideal.div a ((127 : ℝ) : EReal) := by
  have n127 : ((127 : ℝ) : EReal) ≠ 0 := by norm_num
  induction a using EReal.rec with
  | bot => exact absurd (h₀.trans h) (by simp)
  | top =>
    have e₁ : Ideal.div ((127 : ℝ) : EReal) ⊤ = 0 := by simp [Ideal.div]
    have e₂ : Ideal.div ⊤ ((127 : ℝ) : EReal) = ⊤ := by
      rw [Ideal.div, if_neg n127, ← EReal.coe_inv, EReal.top_mul_coe_of_pos (by norm_num)]
    have e₃ : Ideal.div y ⊤ = 0 := by simp [Ideal.div]
    rw [e₁, e₂, e₃, mul_zero]
  | coe r =>
    by_cases hr : r = 0
    · subst hr
      have e : Ideal.div ((0 : ℝ) : EReal) ((127 : ℝ) : EReal) = 0 := by simp [Ideal.div]
      rw [e, mul_zero, mul_zero]
    · have y0 : y ≠ ⊤ := fun e => by rw [e] at h; exact absurd h (by simp)
      have y1 : y ≠ ⊥ := fun e => by rw [e] at h₀; exact absurd h₀ (by simp)
      lift y to ℝ using ⟨y0, y1⟩
      have hr' : (r : EReal) ≠ 0 := by exact_mod_cast hr
      have e : Ideal.div (r : EReal) ((127 : ℝ) : EReal) = ((r * 127⁻¹ : ℝ) : EReal) := by
        rw [Ideal.div, if_neg n127, ← EReal.coe_inv, ← EReal.coe_mul]
      have ne : ((r * 127⁻¹ : ℝ) : EReal) ≠ 0 := by
        have : r * 127⁻¹ ≠ 0 := mul_ne_zero hr (by norm_num)
        exact_mod_cast this
      have e₂ : (y : EReal) * Ideal.div ((127 : ℝ) : EReal) (r : EReal) = Ideal.div (y : EReal) ((r * 127⁻¹ : ℝ) : EReal) := by
        rw [Ideal.div, if_neg hr', Ideal.div, if_neg ne, ← EReal.coe_inv, ← EReal.coe_inv, ← EReal.coe_mul, ← EReal.coe_mul, ← EReal.coe_mul]
        congr 2
        field_simp
      rw [e, e₂]

/-! ## Largest entries -/

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

/-- A fold by maximum is below `b` when its start and all its entries are. -/
theorem fold_le {ι : Type} (s : Finset ι) (f : ι → EReal) (i b : EReal) :
    s.fold (FloatOps.maximumf (F := Ideal) (φ := .f32)) i f ≤ b ↔ i ≤ b ∧ ∀ x ∈ s, f x ≤ b :=
  Finset.fold_max_le b

/-- The kernel's reduction to one entry: the least upper bound of the entries. -/
theorem reduction_le {s t : Shape} {axes : List (Fin s.rank)} (h : s.Reduces axes t) (ht : ∀ b, t.size b = 1)
    (src : FVec Ideal s .f32) (hφ : FKind.Formats FTy.f32) (hacc : (0xFF800000#32 : BitVec 32) = FKind.maximumf.neutral FTy.f32 hφ)
    (j : t.Idx) (b : EReal) :
    (multiReduction .maximumf axes t src 0xFF800000#32 h hφ hacc j : EReal) ≤ b ↔ ∀ i, (src i : EReal) ≤ b := by
  rw [multiReduction_maximumf_eq_fold]
  refine (fold_le _ _ _ _).trans ?_
  have e : (FloatOps.ofBits (F := Ideal) FTy.f32 (0xFF800000#32 : BitVec 32) : EReal) = ⊥ := cbot
  rw [e]
  simp only [bot_le, true_and, Finset.mem_filter, Finset.mem_univ]
  exact ⟨fun H i => H i (funext fun k => Fin.ext (by have := (h.drop i k).isLt; have := (j k).isLt; have := ht k; omega)),
    fun H i _ => H i⟩

/-- The host's reduction to one entry: the least upper bound of the entries. -/
theorem hostReduce_le {s t u : Shape} {axes : List (Fin s.rank)} (h : s.ReducesTo axes t) (ht : ∀ b, t.size b = 1)
    (x : FVec Ideal s .f32) (init : FVec Ideal u .f32) (hu : 0 < u.numel) (hi : init (Shape.Idx.first hu) = (⊥ : EReal)) (j : t.Idx) (b : EReal) :
    (Host.reduce (FloatOps.maximumf (F := Ideal) (φ := .f32)) x init h hu j : EReal) ≤ b ↔ ∀ i, (x i : EReal) ≤ b := by
  rw [Host.reduce_eq_fold]
  refine (fold_le _ _ _ _).trans ?_
  rw [hi]
  simp only [bot_le, true_and, Finset.mem_filter, Finset.mem_univ]
  exact ⟨fun H i => H i (funext fun k => Fin.ext (by have := (h.drop i k).isLt; have := (j k).isLt; have := ht k; omega)),
    fun H i _ => H i⟩

end Cert.Quantise

end
-- ==== Proof.Sums.lean ====
module

public import proofs.«01_k».proof.Proof.Sched
public import proofs.«01_k».proof.Proof.Quantise
public import Idealize.ShloMosaic.Lib.Pipeline.Value
public import Idealize.ShloMosaic.Lib.ValueIdx

@[expose] public section

noncomputable section

namespace Cert.Slice

open Cert.KernelIdeal Cert.KernelIdeal.Gen
open Idealize.ShloMosaic Idealize.ShloMosaic.TcCoe

/-! ## The running sums over the extended reals

`X` and `W` are the two whole matrices, by row and column; device `e` holds the columns `256 e …` of `X` and the rows
`256 e …` of `W`. -/

variable (X W : ℕ → ℕ → EReal)

/-- What device `e` adds to entry `(r, c)` of the product. -/
def share (e : Dev nD) (r c : ℕ) : EReal := ∑ q : Fin 256, X r (256 * e.val + q.val) * W (256 * e.val + q.val) c
/-- Entry `(r, c)` of the product. -/
def full (r c : ℕ) : EReal := ∑ k : Fin 4096, X r k.val * W k.val c

/-- The product is the sum of the devices' shares. -/
theorem sum_share (r c : ℕ) : ∑ e : Dev nD, share X W e r c = full X W r c := by
  unfold share full
  rw [← Fintype.sum_prod_type' (f := fun (e : Fin 16) (q : Fin 256) => X r (256 * e.val + q.val) * W (256 * e.val + q.val) c),
    ← Equiv.sum_comp (finProdFinEquiv (m := 16) (n := 256))]
  refine Finset.sum_congr rfl fun p _ => ?_
  have : (finProdFinEquiv p).val = 256 * p.1.val + p.2.val := by rw [finProdFinEquiv_apply_val]; omega
  rw [this]

/-- The contraction of one block's product. -/
abbrev D1 := dot_S256x256_S256x1024_S256x1024_1_0_0_1_n_n

theorem lhs_row (i : S256x1024.Idx) (q : D1.contr.Idx) : (D1.lhsIdx i q 0).val = (i 0).val := by
  unfold DotDims.lhsIdx
  rw [dif_neg (show ¬(0 : Fin S256x256.rank) ∈ D1.lhsBatch by decide), dif_pos (show (0 : Fin S256x256.rank) ∈ D1.lhsNonContracting by decide)]
  rfl
theorem rhs_col (i : S256x1024.Idx) (q : D1.contr.Idx) : (D1.rhsIdx i q 1).val = (i 1).val := by
  unfold DotDims.rhsIdx
  rw [dif_neg (show ¬(1 : Fin S256x1024.rank) ∈ D1.rhsBatch by decide), dif_pos (show (1 : Fin S256x1024.rank) ∈ D1.rhsNonContracting by decide)]
  rfl

/-- One block's product, entry by entry, for factors given by row and column. -/
theorem prodV_apply (x : Vec Ideal S256x256 .f32) (w : Vec Ideal S256x1024 .f32) (A B : ℕ → ℕ → EReal)
    (hx : ∀ i, x i = A (i 0).val (i 1).val) (hw : ∀ i, w i = B (i 0).val (i 1).val) (i : S256x1024.Idx) :
    prodV x w i = ∑ q : Fin 256, A (i 0).val q.val * B q.val (i 1).val := by
  unfold prodV
  rw [shapeCast_self, shapeCast_self, shapeCast_self]
  refine (Ideal.matmul_constant_zero_apply D1 none x w i).trans ?_
  rw [← Equiv.sum_comp (ValueIdx.contrEquiv1 D1 256 rfl rfl).symm]
  refine Finset.sum_congr rfl fun k _ => ?_
  have hk := ValueIdx.contrEquiv1_symm_val D1 256 rfl rfl k
  rw [hx, hw, lhs_row, rhs_col, D1.lhsIdx_val_of_single rfl, D1.rhsIdx_val_of_single rfl]
  simp only [hk]

variable (xs : Dev nD → Vec Ideal S4096x256 .f32) (ws : Dev nD → Vec Ideal S256x2048 .f32)
variable (hx : ∀ e i, xs e i = X (i 0).val (256 * e.val + (i 1).val)) (hw : ∀ e i, ws e i = W (256 * e.val + (i 0).val) (i 1).val)

include hx hw

/-- A device's product of a chunk is its share of that chunk. -/
theorem prodA_apply (b : Bool) (d : Dev nD) (t : Fin 16) (i : S256x1024.Idx) :
    prodA xs ws b d t i = share X W d (256 * (ch b (pos d) t).val + (i 0).val) (col b + (i 1).val) := by
  unfold prodA
  refine prodV_apply _ _ (fun r q => X (256 * (ch b (pos d) t).val + r) (256 * d.val + q)) (fun q c => W (256 * d.val + q) (col b + c)) ?_ ?_ i
  · intro i
    rw [hx, Rect.emb_apply, Rect.emb_apply]
    congr 1
    · simp [Rect.unit, oX_eq]
    · simp [Rect.unit, oX_eq]
  · intro i
    rw [hw, Rect.emb_apply, Rect.emb_apply]
    congr 1
    · cases b <;> simp [Rect.unit, oW]
    · cases b <;> simp [Rect.unit, oW, col]

/-- Half of it. -/
theorem half_prodA (b : Bool) (d : Dev nD) (t : Fin 16) (j : Fin 2) (i : S128x1024.Idx) :
    half (prodA xs ws b d t) j i = share X W d (256 * (ch b (pos d) t).val + 128 * j.val + (i 0).val) (col b + (i 1).val) := by
  unfold half
  rw [prodA_apply X W xs ws hx hw, Rect.emb_apply, Rect.emb_apply]
  congr 1
  · simp [rH, Rect.unit]; omega
  · simp [rH, Rect.unit]

/-- The running sum at step `t`: the shares of the `t + 1` devices up to this one. -/
theorem acc_apply (b : Bool) (t : ℕ) (ht : t < 16) (d : Dev nD) (j : Fin 2) (i : S128x1024.Idx) :
    (acc xs ws b t d j i : EReal) = ∑ s ∈ Finset.range (t + 1),
      share X W ((nx (!b))^[s] d) (256 * (ch b (pos d) (Fin.ofNat 16 t)).val + 128 * j.val + (i 0).val) (col b + (i 1).val) := by
  induction t generalizing d with
  | zero =>
    rw [Finset.sum_range_one]
    exact half_prodA X W xs ws hx hw b d 0 j i
  | succ t ih =>
    have hc : ch b (pos (nx (!b) d)) (Fin.ofNat 16 t) = ch b (pos d) (Fin.ofNat 16 (t + 1)) := by
      rw [pos_nx]
      have key : ∀ (b : Bool) (p : Fin 16) (t : Fin 15), ch b (nxt (!b) p) t.castSucc = ch b p t.succ := by decide +kernel
      have e₁ : Fin.ofNat 16 t = (⟨t, by omega⟩ : Fin 15).castSucc := Fin.ext (by simp; omega)
      have e₂ : Fin.ofNat 16 (t + 1) = (⟨t, by omega⟩ : Fin 15).succ := Fin.ext (by simp; omega)
      rw [e₁, e₂]; exact key b (pos d) _
    have e : (acc xs ws b (t + 1) d j i : EReal)
        = (half (prodA xs ws b d (Fin.ofNat 16 (t + 1))) j i : EReal) + (acc xs ws b t (nx (!b) d) j i : EReal) := rfl
    rw [e, ih (by omega) (nx (!b) d), half_prodA X W xs ws hx hw, hc, Finset.sum_range_succ' _ (t + 1), add_comm]
    rfl

omit hx hw in
/-- Sixteen steps round the ring meet every device once. -/
theorem round_bij (b : Bool) (d : Dev nD) : Function.Bijective (fun s : Fin 16 => (nx b)^[s.val] d) := by
  have h : ∀ s : ℕ, pos ((nx b)^[s] d) = (nxt b)^[s] (pos d) := fun s => by
    induction s with
    | zero => rfl
    | succ s ih => rw [Function.iterate_succ_apply', Function.iterate_succ_apply', pos_nx, ih]
  refine (Finite.injective_iff_bijective (α := Fin 16)).mp fun s s' e => ?_
  have e' := congrArg pos e
  simp only [h] at e'
  have key : ∀ (b : Bool) (p s s' : Fin 16), (nxt b)^[s.val] p = (nxt b)^[s'.val] p → s = s' := by decide +kernel
  exact key b (pos d) s s' e'

/-- The last running sum is the product's. -/
theorem acc_last (b : Bool) (d : Dev nD) (j : Fin 2) (i : S128x1024.Idx) :
    (acc xs ws b 15 d j i : EReal) = full X W (256 * (ch b (pos d) 15).val + 128 * j.val + (i 0).val) (col b + (i 1).val) := by
  rw [acc_apply X W xs ws hx hw b 15 (by decide), ← sum_share, Finset.sum_range]
  exact (round_bij (!b) d).sum_comp (fun e => share X W e (256 * (ch b (pos d) 15).val + 128 * j.val + (i 0).val) (col b + (i 1).val))

end Cert.Slice

end
-- ==== Proof.Ends.lean ====
module

public import proofs.«01_k».proof.Proof.Sums

@[expose] public section

noncomputable section

namespace Cert.Slice

open Cert.KernelIdeal Cert.KernelIdeal.Gen Cert.Quantise
open Idealize.ShloMosaic Idealize.ShloMosaic.TcCoe

/-! ## What a device hands out, over the extended reals -/

/-- A property of all entries does not see a change of shape. -/
theorem forall_cast {s t : Shape} {α : Type} (v : s.Idx → α) (h : s.ShapeCasts t) (p : α → Prop) :
    (∀ i, p (shapeCast t v h i)) ↔ ∀ i, p (v i) :=
  ⟨fun H i => by have := H ((Shape.reshapeEquiv h).symm i); simpa [shapeCast] using this, fun H i => H _⟩

/-- An entry taken out after a change of shape is one of the entries there were. -/
theorem extract_cast {s t : Shape} {α : Type} (pos : Fin t.rank → Nat) (v : s.Idx → α) (h : s.ShapeCasts t) (h') :
    ∃ j, extractAt pos (shapeCast t v h) h' = v j := ⟨_, rfl⟩

/-- The largest entry of a half-chunk is the least bound of its entries. -/
theorem maxV_le (a : FVec Ideal S128x1024 .f32) (B : EReal) : (maxV a : EReal) ≤ B ↔ ∀ i, (a i : EReal) ≤ B := by
  unfold maxV
  obtain ⟨j, e⟩ := extract_cast ![0, 0, 0] (multiReduction .maximumf [1, 2] S1 (shapeCast S1x128x1024 a shapeCasts_S128x1024_S1x128x1024)
    0xFF800000#32 reduces_S1x128x1024_S1 (.inl rfl) rfl) shapeCasts_S1_S1x1x1 inpos_S1x1x1_p0_0_0
  rw [e]
  exact (reduction_le reduces_S1x128x1024_S1 (by decide) _ (.inl rfl) rfl j B).trans (forall_cast a _ (fun e : EReal => e ≤ B))

/-- The largest entry of all slots is the least bound of theirs. -/
theorem allMaxV_le (v : Vec Ideal S16x8x128 .f32) (B : EReal) : (allMaxV v : EReal) ≤ B ↔ ∀ i, (v i : EReal) ≤ B := by
  unfold allMaxV
  obtain ⟨j, e⟩ := extract_cast ![0, 0, 0, 0] (multiReduction (F := Ideal) (φ := .f32) .maximumf [1, 2, 3] S1 (shapeCast S1x16x8x128 v shapeCasts_S16x8x128_S1x16x8x128)
    0xFF800000#32 reduces_S1x16x8x128_S1 (.inl rfl) rfl) shapeCasts_S1_S1x1x1x1 inpos_S1x1x1x1_p0_0_0_0
  rw [e]
  exact (reduction_le reduces_S1x16x8x128_S1 (by decide) _ (.inl rfl) rfl j B).trans (forall_cast v _ (fun e : EReal => e ≤ B))

/-- Four entries' largest, as it fills a slot. -/
theorem ownMaxV_apply (a b c e : EReal) (i : S1x8x128.Idx) : (ownMaxV (F := Ideal) a b c e i : EReal) = max (max (max a b) c) e := rfl

theorem div_apply (x y : EReal) : (Scalar.divf (F := Ideal) (φ := .f32) x y : EReal) = Ideal.div x y := rfl
theorem bits_apply (w : BitVec 32) : (Scalar.ofBits (F := Ideal) .f32 w : EReal) = Ideal.ofBits .f32 w := rfl
theorem read_apply {s : Shape} (q : IVec s 8) (k : EReal) (i : s.Idx) :
    (mulf (F := Ideal) (φ := .f32) (sitofp .f32 q) (broadcast s k) i : EReal) = (((q i).toInt : ℝ) : EReal) * k := rfl
theorem clip_apply {s : Shape} (y : FVec Ideal s .f32) (h l a : EReal) (i : s.Idx) :
    fptosi (F := Ideal) (φ := .f32) 8 (minimumf (broadcast s h) (maximumf (broadcast s l) (roundeven (mulf y (broadcast s a))))) i
      = Ideal.fptosi 8 (min h (max l (Ideal.liftRound Ideal.roundHalfEven ((y i : EReal) * a)))) := rfl

/-- An entry quantised and read back: the code times the scale. -/
theorem dequant_quant_apply (y : Vec Ideal S256x1024 .f32) (a s : EReal) (i : S256x1024.Idx) :
    (dequantV (F := Ideal) s (quantV (F := Ideal) a y) i : EReal) = code ((y i : EReal) * a) * s := by
  have h₁ : ∀ q : Vec Ideal S256x1024 .i8, (dequantV (F := Ideal) s q i : EReal) = (((q i : BitVec 8).toInt : ℝ) : EReal) * s := fun q => by
    unfold dequantV
    rw [shapeCast_self]
    exact read_apply q s i
  have h₂ : (quantV (F := Ideal) a y i : BitVec 8) = Ideal.fptosi 8 (code ((y i : EReal) * a)) := by
    unfold quantV code
    rw [shapeCast_self, clip_apply, bits_apply, bits_apply, c127, cm127]
  rw [h₁, h₂]
  exact congrArg (· * s) (code_back ((y i : EReal) * a))

variable (X W : ℕ → ℕ → EReal)

/-- Entry `(r, c)` after the relu. -/
def act (r c : ℕ) : EReal := max (full X W r c) 0

variable (xs : Dev nD → Vec Ideal S4096x256 .f32) (ws : Dev nD → Vec Ideal S256x2048 .f32)

/-- A slot's entries are the four largest entries' largest. -/
theorem amU_le (d : Dev nD) (i : S1x8x128.Idx) (B : EReal) :
    (amU xs ws d i : EReal) ≤ B ↔ ∀ b j, (maxV (fin xs ws b d j) : EReal) ≤ B := by
  unfold amU
  rw [ownMaxV_apply, max_le_iff, max_le_iff, max_le_iff, Bool.forall_bool, Fin.forall_fin_two, Fin.forall_fin_two]
  exact ⟨fun ⟨⟨⟨h₁, h₂⟩, h₃⟩, h₄⟩ => ⟨⟨h₂, h₄⟩, ⟨h₁, h₃⟩⟩, fun ⟨⟨h₂, h₄⟩, ⟨h₁, h₃⟩⟩ => ⟨⟨⟨h₁, h₂⟩, h₃⟩, h₄⟩⟩

variable (hx : ∀ e i, xs e i = X (i 0).val (256 * e.val + (i 1).val)) (hw : ∀ e i, ws e i = W (256 * e.val + (i 0).val) (i 1).val)
include hx hw

/-- The finished half-chunks hold the product after the relu. -/
theorem fin_apply (b : Bool) (d : Dev nD) (j : Fin 2) (i : S128x1024.Idx) :
    (fin xs ws b d j i : EReal) = act X W (256 * (ch b (pos d) 15).val + 128 * j.val + (i 0).val) (col b + (i 1).val) := by
  have e : (fin xs ws b d j i : EReal) = max (acc xs ws b 15 d j i : EReal) (Ideal.ofBits .f32 0x00000000#32) := rfl
  rw [e, acc_last X W xs ws hx hw, Ideal.ofBits_zero_f32]
  rfl

/-- A chunk glued from its halves. -/
theorem glue_apply (b : Bool) (d : Dev nD) (i : S256x1024.Idx) :
    (glue (fin xs ws b d) i : EReal) = act X W (256 * (ch b (pos d) 15).val + (i 0).val) (col b + (i 1).val) := by
  unfold glue
  rw [fin_apply X W xs ws hx hw]
  congr 1
  simp only []
  omega

/-- The exchanged largest entry is the least bound of the whole product after the relu. -/
theorem allMax_le (B : EReal) : (allMaxV (axAll xs ws) : EReal) ≤ B ↔ ∀ r < 4096, ∀ c < 2048, act X W r c ≤ B := by
  rw [allMaxV_le]
  constructor
  · intro H r hr c hc
    have key : ∀ (b : Bool) (k : Fin 16), ∃ p : Fin 16, ch b p 15 = k := by decide +kernel
    let b : Bool := decide (c < 1024)
    obtain ⟨p, hp⟩ := key b ⟨r / 256, by omega⟩
    let i : S16x8x128.Idx := fun k => match k with | ⟨0, _⟩ => p | ⟨1, _⟩ => (0 : Fin 8) | ⟨2, _⟩ => (0 : Fin 128)
    have h := (amU_le xs ws (ringDev p) _ B).mp (H i) b ⟨r % 256 / 128, by omega⟩
    let q : S128x1024.Idx := fun k => match k with
      | ⟨0, _⟩ => ⟨r % 128, Nat.mod_lt _ (by decide)⟩
      | ⟨1, _⟩ => ⟨c % 1024, Nat.mod_lt _ (by decide)⟩
    have h' := (maxV_le _ B).mp h q
    rw [fin_apply X W xs ws hx hw, pos_dev, hp] at h'
    have e₁ : 256 * (r / 256) + 128 * (r % 256 / 128) + r % 128 = r := by omega
    have e₂ : col b + c % 1024 = c := by
      by_cases h : c < 1024
      · have : b = true := decide_eq_true h
        rw [this]; simp only [col]; omega
      · have : b = false := decide_eq_false h
        rw [this]; simp only [col]; omega
    have e : act X W (256 * (r / 256) + 128 * (r % 256 / 128) + r % 128) (col b + c % 1024) ≤ B := h'
    rwa [e₁, e₂] at e
  · intro H i
    refine (amU_le xs ws _ _ B).mpr fun b j => (maxV_le _ B).mpr fun q => ?_
    rw [fin_apply X W xs ws hx hw]
    have h0 : (q 0).val < 128 := (q 0).isLt
    have h1 : (q 1).val < 1024 := (q 1).isLt
    have h2 := (ch b (pos (ringDev (i 0))) 15).isLt
    have h3 := j.isLt
    exact H _ (by omega) _ (by cases b <;> simp only [col] <;> omega)

/-- What a device hands out, entry by entry. -/
theorem outV_apply (b : Bool) (d : Dev nD) (i : S256x1024.Idx) :
    (outV xs ws b d i : EReal) = code (act X W (256 * (ch b (pos d) 15).val + (i 0).val) (col b + (i 1).val)
      * Ideal.div ((127 : ℝ) : EReal) (allMaxV (axAll xs ws))) * Ideal.div (allMaxV (axAll xs ws)) ((127 : ℝ) : EReal) := by
  unfold outV
  rw [dequant_quant_apply, glue_apply X W xs ws hx hw]
  unfold invV scaleV
  rw [div_apply, div_apply, bits_apply, c127]

end Cert.Slice

end
-- ==== Proof.Ref.lean ====
module

public import proofs.«01_k».proof.Proof.Ends
public import proofs.«01_k».proof.Proof.Gen.ReferenceIdeal.Read

@[expose] public section

noncomputable section

namespace Cert.Slice

open Cert.ReferenceIdeal Cert.ReferenceIdeal.Gen Cert.ReferenceIdeal.Read Cert.Quantise
open Idealize.ShloMosaic Idealize.ShloMosaic.TcCoe

/-! ## What the reference hands out, over the extended reals -/

/-- A matrix read at natural coordinates, zero outside. -/
def nat2 {m n : ℕ} (v : (⟨2, ![m, n]⟩ : Shape).Idx → EReal) (r c : ℕ) : EReal :=
  if h : r < m ∧ c < n then v (Shape.pair ⟨r, h.1⟩ ⟨c, h.2⟩) else 0

theorem nat2_apply {m n : ℕ} (v : (⟨2, ![m, n]⟩ : Shape).Idx → EReal) (i : (⟨2, ![m, n]⟩ : Shape).Idx) :
    nat2 v (i 0).val (i 1).val = v i := by
  have h0 : (i 0).val < m := (i 0).isLt
  have h1 : (i 1).val < n := (i 1).isLt
  unfold nat2
  rw [dif_pos ⟨h0, h1⟩]
  exact congrArg v (Shape.pair_eta i)

variable (x0 : (⟨S4096x4096, .f32⟩ : BufTy).Contents (Elt Ideal)) (x1 : (⟨S4096x2048, .f32⟩ : BufTy).Contents (Elt Ideal))

/-- The product's entry after the cut at zero. -/
theorem act_ref (i : S4096x2048.Idx) :
    (val_main_v2 (F := Ideal) x0 x1 i : EReal) = act (nat2 x0) (nat2 x1) (i 0).val (i 1).val := by
  have e : (val_main_v2 (F := Ideal) x0 x1 i : EReal) = max (val_main_v0 (F := Ideal) x0 x1 i : EReal) (Ideal.ofBits .f32 0x00000000#32) := rfl
  rw [e, Ideal.ofBits_zero_f32, val_main_v0_apply]
  unfold act full
  congr 1
  exact Finset.sum_congr rfl fun k _ => congrArg₂ (· * ·) (nat2_apply x0 (lidx_main_v0 i k)).symm (nat2_apply x1 (ridx_main_v0 i k)).symm

theorem act_nonneg (X W : ℕ → ℕ → EReal) (r c : ℕ) : 0 ≤ act X W r c := le_max_right _ _

/-- The size of an entry is the entry. -/
theorem abs_ref (i : S4096x2048.Idx) :
    (val_main_v3 (F := Ideal) x0 x1 i : EReal) = act (nat2 x0) (nat2 x1) (i 0).val (i 1).val := by
  have e : (val_main_v3 (F := Ideal) x0 x1 i : EReal) = max (val_main_v2 (F := Ideal) x0 x1 i : EReal) (-(val_main_v2 (F := Ideal) x0 x1 i : EReal)) := rfl
  rw [e, act_ref]
  have h := act_nonneg (nat2 x0) (nat2 x1) (i 0).val (i 1).val
  exact max_eq_left ((EReal.neg_le_neg_iff.mpr h).trans (by simpa using h))

/-- The largest size is the least bound of the entries. -/
theorem max_ref (j : S_.Idx) (B : EReal) :
    (val_main_v4 (F := Ideal) x0 x1 j : EReal) ≤ B ↔ ∀ r < 4096, ∀ c < 2048, act (nat2 x0) (nat2 x1) r c ≤ B := by
  unfold val_main_v4
  refine (hostReduce_le reducesTo_S4096x2048_S_d0_1 (fun b => b.elim0) _ _ h_S_ cbot j B).trans ⟨fun H r hr c hc => ?_, fun H i => ?_⟩
  · have := H (Shape.pair ⟨r, hr⟩ ⟨c, hc⟩)
    rwa [abs_ref] at this
  · rw [abs_ref]
    exact H _ (i 0).isLt _ (i 1).isLt

/-- A dequantised entry. -/
theorem deq_ref (i : S4096x2048.Idx) :
    (val_main_v11 (F := Ideal) x0 x1 i : EReal) = code (Ideal.div (act (nat2 x0) (nat2 x1) (i 0).val (i 1).val)
      (Ideal.div (val_main_v4 (F := Ideal) x0 x1 (fun a => a.elim0)) ((127 : ℝ) : EReal)))
      * Ideal.div (val_main_v4 (F := Ideal) x0 x1 (fun a => a.elim0)) ((127 : ℝ) : EReal) := by
  have s : ∀ j : S_.Idx, (val_main_v5 (F := Ideal) x0 x1 j : EReal) = Ideal.div (val_main_v4 (F := Ideal) x0 x1 j) (Ideal.ofBits .f32 0x42FE0000#32) := fun _ => rfl
  have e : (val_main_v11 (F := Ideal) x0 x1 i : EReal)
      = min (Ideal.ofBits .f32 0x42FE0000#32) (max (Ideal.ofBits .f32 0xC2FE0000#32) (Ideal.liftRound Ideal.roundHalfEven
          (Ideal.div (val_main_v2 (F := Ideal) x0 x1 i) (val_main_v6 (F := Ideal) x0 x1 i)))) * (val_main_v10 (F := Ideal) x0 x1 i) := rfl
  rw [e, val_main_v6_apply, val_main_v10_apply, s, act_ref, c127, cm127]
  rfl

/-- The first row of the chunk a device ends with, -/
def row : Bool → Dev 16 → ℕ
  | true => ![256, 512, 2304, 2560, 0, 768, 2048, 2816, 3840, 1024, 1792, 3072, 3584, 1280, 1536, 3328]
  | false => ![3840, 0, 1792, 2048, 3584, 256, 1536, 2304, 3328, 512, 1280, 2560, 3072, 768, 1024, 2816]
theorem row_eq : ∀ b c, row b c = 256 * (ch b (pos c) 15).val := by decide
theorem row_slices : ∀ b c, S4096x2048.Slices ![row b c, col b] S256x1024 := by decide
/-- and that chunk of a matrix. -/
def cut {α : Type} (v : S4096x2048.Idx → α) (b : Bool) (c : Dev 16) : S256x1024.Idx → α :=
  extractStridedSlice S256x1024 ![row b c, col b] v (row_slices b c)

theorem cut_apply {α : Type} (v : S4096x2048.Idx → α) (b : Bool) (c : Dev 16) (i : S256x1024.Idx) :
    ∃ k : S4096x2048.Idx, cut v b c i = v k ∧ (k 0).val = 256 * (ch b (pos c) 15).val + (i 0).val ∧ (k 1).val = col b + (i 1).val :=
  ⟨_, rfl, by rw [← row_eq]; rfl, rfl⟩

/-- The reference's results are the chunks one below the other. -/
theorem rows_ref (c : Dev 16) (hk : Layout.Tiles S256x1024 S4096x1024 0 16) :
    Layout.block S256x1024 S4096x1024 0 16 c (val_main_v44 (F := Ideal) x0 x1) hk = cut (val_main_v11 (F := Ideal) x0 x1) true c
    ∧ Layout.block S256x1024 S4096x1024 0 16 c (val_main_v45 (F := Ideal) x0 x1) hk = cut (val_main_v11 (F := Ideal) x0 x1) false c := by
  constructor
  · exact Layout.block_concatenate_ofFn (t := S4096x1024) 0 (cut (val_main_v11 (F := Ideal) x0 x1) true) concatenates_S256x1024_S256x1024_S256x1024_S256x1024_S256x1024_S256x1024_S256x1024_S256x1024_S256x1024_S256x1024_S256x1024_S256x1024_S256x1024_S256x1024_S256x1024_S256x1024_S4096x1024_d0 hk c
  · exact Layout.block_concatenate_ofFn (t := S4096x1024) 0 (cut (val_main_v11 (F := Ideal) x0 x1) false) concatenates_S256x1024_S256x1024_S256x1024_S256x1024_S256x1024_S256x1024_S256x1024_S256x1024_S256x1024_S256x1024_S256x1024_S256x1024_S256x1024_S256x1024_S256x1024_S256x1024_S4096x1024_d0 hk c

/-- A device's result is its block of the reference's. -/
theorem out_eq (xs : Dev 16 → Vec Ideal Cert.KernelIdeal.S4096x256 .f32) (ws : Dev 16 → Vec Ideal Cert.KernelIdeal.S256x2048 .f32)
    (hx : ∀ e i, (xs e i : EReal) = nat2 x0 (i 0).val (256 * e.val + (i 1).val))
    (hw : ∀ e i, (ws e i : EReal) = nat2 x1 (256 * e.val + (i 0).val) (i 1).val) (b : Bool) (d : Dev 16) :
    outV xs ws b d = cut (val_main_v11 (F := Ideal) x0 x1) b d := by
  funext i
  obtain ⟨k, e, e0, e1⟩ := cut_apply (val_main_v11 (F := Ideal) x0 x1) b d i
  have ha : (val_main_v4 (F := Ideal) x0 x1 (fun a => a.elim0) : EReal) = allMaxV (axAll xs ws) :=
    eq_of_forall_ge_iff fun B => (max_ref x0 x1 _ B).trans (allMax_le (nat2 x0) (nat2 x1) xs ws hx hw B).symm
  have hB := (allMax_le (nat2 x0) (nat2 x1) xs ws hx hw (allMaxV (axAll xs ws))).mp le_rfl
  have h0 : (k 0).val < 4096 := (k 0).isLt
  have h1 : (k 1).val < 2048 := (k 1).isLt
  refine (outV_apply (nat2 x0) (nat2 x1) xs ws hx hw b d i).trans (Eq.trans ?_ e.symm)
  rw [deq_ref, ha, ← e0, ← e1]
  exact dequant_eq _ _ (act_nonneg _ _ _ _) (hB _ h0 _ h1)

end Cert.Slice

end
-- ==== Proof.Value.lean ====
module

public import proofs.«01_k».proof.Proof.Ref
public import proofs.«01_k».proof.Proof.Run

@[expose] public section

noncomputable section

namespace Cert.Slice

open Cert.KernelIdeal Cert.KernelIdeal.Gen
open Idealize.ShloMosaic Idealize.ShloMosaic.TcCoe

/-! ## The operands a device reads, as its blocks of the whole arrays -/

variable {F : FTy → Type} [FloatOps F] (m : (ℓ : Loc nD τ sig) → Buf (Elt F) ℓ)

/-- The one block of an operand is all of it. -/
theorem xsM_eq (c : Dev nD) : xsM m c = m ((c : Thread nD τ).loc main_arg0) := by
  funext i
  exact congrArg (m ((c : Thread nD τ).loc main_arg0)) (funext fun a => Fin.ext (win0_0.rect_emb_val_of_index_zero (0 : Fin 1) a (by fin_cases a <;> rfl) i))
theorem wsM_eq (c : Dev nD) : wsM m c = m ((c : Thread nD τ).loc main_arg1) := by
  funext i
  exact congrArg (m ((c : Thread nD τ).loc main_arg1)) (funext fun a => Fin.ext (win0_1.rect_emb_val_of_index_zero (0 : Fin 1) a (by fin_cases a <;> rfl) i))

/-- A block of columns, -/
theorem cols_apply (v : (⟨2, ![4096, 4096]⟩ : Shape).Idx → EReal) (h : Layout.Tiles (⟨2, ![4096, 256]⟩ : Shape) ⟨2, ![4096, 4096]⟩ 1 16)
    (e : Fin 16) (i : (⟨2, ![4096, 256]⟩ : Shape).Idx) :
    Layout.block ⟨2, ![4096, 256]⟩ ⟨2, ![4096, 4096]⟩ 1 16 e v h i = nat2 v (i 0).val (256 * e.val + (i 1).val) := by
  rw [Layout.block_apply]
  exact (nat2_apply v _).symm.trans (congrArg₂ (nat2 v) rfl (by show e.val * 256 + (i 1).val = _; omega))
/-- and one of rows. -/
theorem rows_apply (v : (⟨2, ![4096, 2048]⟩ : Shape).Idx → EReal) (h : Layout.Tiles (⟨2, ![256, 2048]⟩ : Shape) ⟨2, ![4096, 2048]⟩ 0 16)
    (e : Fin 16) (i : (⟨2, ![256, 2048]⟩ : Shape).Idx) :
    Layout.block ⟨2, ![256, 2048]⟩ ⟨2, ![4096, 2048]⟩ 0 16 e v h i = nat2 v (256 * e.val + (i 0).val) (i 1).val := by
  rw [Layout.block_apply]
  exact (nat2_apply v _).symm.trans (congrArg₂ (nat2 v) (by show e.val * 256 + (i 0).val = _; omega) rfl)

end Cert.Slice

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run, read at the operands and the counters alone. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.Slice.run_main m ρ)

/-- The printed program and its idealization have one and the same body, -/
theorem body_table {F : FTy → Type} [FloatOps F] : Cert.Kernel.defs₀ (F := F) = Cert.KernelIdeal.defs₀ (F := F) := by
  funext p l a
  cases p
  · obtain ⟨l, hl⟩ := l
    obtain rfl : l = 0 := by have : l < 1 := hl; omega
    rfl
  all_goals rfl
/-- and so one and the same table of functions. -/
theorem table {F : FTy → Type} [FloatOps F] : Cert.Kernel.defs (F := F) = Cert.KernelIdeal.defs (F := F) := congrArg (Pipeline.defs _) body_table

/-- The kernel's run on bit patterns: it ends, its operands as they were, every counter at zero. -/
theorem frame_kernel : Cert.quiescent_Kernel := fun m ρ _ => by
  rw [table]
  exact run_frame (F := Bits) m ρ

/-- The same of its reading over the extended reals. -/
theorem frame_ideal : Cert.quiescent_KernelIdeal := fun m ρ _ => run_frame (F := Ideal) m ρ

/-- The reference's run. -/
theorem frame_reference : Cert.quiescent_ReferenceIdeal := fun m ρ _ =>
  (θ_run Cert.ReferenceIdeal.defs _ _).mono (fun r h => ⟨fun c => ⟨(h c).2.2.1, (h c).2.2.2⟩, sem_eq_zero_of_no_sems rfl r.2⟩)
    (Cert.ReferenceIdeal.Value.run (F := Ideal) m ρ)

/-- Over the extended reals each device ends with its block of the reference's two results. -/
theorem algebraic : Cert.algebraic_KernelIdeal_ReferenceIdeal := fun m g m' g' _ hm => by
  have hx : ∀ e i, (Cert.Slice.xsM m e i : EReal) = Cert.Slice.nat2 (m' (((0 : Dev 1).tc : Thread Cert.ReferenceIdeal.nD Cert.ReferenceIdeal.τ).loc Cert.ReferenceIdeal.main_arg0)) (i 0).val (256 * e.val + (i 1).val) :=
    fun e i => (congrFun ((Cert.Slice.xsM_eq m e).trans (hm e).1) i).trans (Cert.Slice.cols_apply _ _ e i)
  have hw : ∀ e i, (Cert.Slice.wsM m e i : EReal) = Cert.Slice.nat2 (m' (((0 : Dev 1).tc : Thread Cert.ReferenceIdeal.nD Cert.ReferenceIdeal.τ).loc Cert.ReferenceIdeal.main_arg1)) (256 * e.val + (i 0).val) (i 1).val :=
    fun e i => (congrFun ((Cert.Slice.wsM_eq m e).trans (hm e).2) i).trans (Cert.Slice.rows_apply _ _ e i)
  refine ⟨Cert.ReferenceIdeal.Value.res_main_v44 m' 0, Cert.ReferenceIdeal.Value.res_main_v45 m' 0, ?_, ?_⟩
  · refine (θ_run Cert.KernelIdeal.defs _ _).mono (fun r h c => ?_) (Cert.Slice.run_main m g)
    obtain ⟨h0, h1, hr, hl⟩ := h.1 c
    refine ⟨hr.trans ?_, hl.trans ?_, h0, h1⟩
    · rw [Cert.ReferenceIdeal.Read.val_main_v44_eq]
      exact (Cert.Slice.out_eq _ _ _ _ hx hw true c).trans (Cert.Slice.rows_ref _ _ c _).1.symm
    · rw [Cert.ReferenceIdeal.Read.val_main_v45_eq]
      exact (Cert.Slice.out_eq _ _ _ _ hx hw false c).trans (Cert.Slice.rows_ref _ _ c _).2.symm
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, frame_kernel, frame_ideal, frame_reference, trivial, algebraic⟩

end Cert.Proof

end
